-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_divisor_not_zero [hPre_divisor_not_zero : Cert.Pre_divisor_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_divisor_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_divisor_not_zero [hPre_divisor_not_zero : Cert.Pre_divisor_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_divisor_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_divisor_not_zero [hKernelIdeal : Cert.KernelIdeal.Facts] [hPre_divisor_not_zero : Cert.Pre_divisor_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_divisor_not_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_divisor_not_zero [hReferenceIdeal : Cert.ReferenceIdeal.Facts] [hPre_divisor_not_zero : Cert.Pre_divisor_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_divisor_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_divisor_not_zero [hKernelIdeal : Cert.KernelIdeal.Facts] [hReferenceIdeal : Cert.ReferenceIdeal.Facts] [hPre_divisor_not_zero : Cert.Pre_divisor_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_divisor_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_divisor_not_zero : Cert.Pre_divisor_not_zero.Facts),
    quiescent_Kernel (hKernel := hKernel)
    ∧ quiescent_KernelIdeal (hKernelIdeal := hKernelIdeal)
    ∧ quiescent_KernelIdeal_pre_divisor_not_zero (hKernelIdeal := hKernelIdeal) (hPre_divisor_not_zero := hPre_divisor_not_zero)
    ∧ quiescent_ReferenceIdeal (hReferenceIdeal := hReferenceIdeal)
    ∧ quiescent_ReferenceIdeal_pre_divisor_not_zero (hReferenceIdeal := hReferenceIdeal) (hPre_divisor_not_zero := hPre_divisor_not_zero)
    ∧ preserves_Kernel_KernelIdeal
    ∧ algebraic_KernelIdeal_ReferenceIdeal_pre_divisor_not_zero (hKernelIdeal := hKernelIdeal) (hReferenceIdeal := hReferenceIdeal) (hPre_divisor_not_zero := hPre_divisor_not_zero)
-- ==== Pre_divisor_not_zero.lean ====
abbrev S256x12x64 : Shape := ⟨3, ![256, 12, 64]⟩
abbrev S256x4096x12 : Shape := ⟨3, ![256, 4096, 12]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩
abbrev S256x12 : Shape := ⟨2, ![256, 12]⟩
abbrev S256x12x1 : Shape := ⟨3, ![256, 12, 1]⟩
abbrev S256x12x16 : Shape := ⟨3, ![256, 12, 16]⟩
abbrev S1x1x16 : Shape := ⟨3, ![1, 1, 16]⟩
abbrev S1x1x1 : Shape := ⟨3, ![1, 1, 1]⟩
abbrev S256x1x12 : Shape := ⟨3, ![256, 1, 12]⟩
abbrev S256x4096 : Shape := ⟨2, ![256, 4096]⟩
abbrev S256x4096x1 : Shape := ⟨3, ![256, 4096, 1]⟩

class Facts : Prop where
  reducesTo_S256x4096x12_S256x12_d1 : S256x4096x12.ReducesTo [1] S256x12
  h_S_ : 0 < S_.numel
  bcast_S_S256x12 : S_.BroadcastsInDim S256x12 (![] : Fin 0 → Fin S256x12.rank)
  bcast_S256x12_S256x12x1_0_1 : S256x12.BroadcastsInDim S256x12x1 (![0, 1] : Fin 2 → Fin S256x12x1.rank)
  bcast_S16_S1x1x16_2 : S16.BroadcastsInDim S1x1x16 (![2] : Fin 1 → Fin S1x1x16.rank)
  bcast_S1x1x16_S256x12x16_0_1_2 : S1x1x16.BroadcastsInDim S256x12x16 (![0, 1, 2] : Fin 3 → Fin S256x12x16.rank)
  bcast_S_S256x12x16 : S_.BroadcastsInDim S256x12x16 (![] : Fin 0 → Fin S256x12x16.rank)
  bcast_S1_S1x1x1_2 : S1.BroadcastsInDim S1x1x1 (![2] : Fin 1 → Fin S1x1x1.rank)
  bcast_S1x1x1_S256x12x1_0_1_2 : S1x1x1.BroadcastsInDim S256x12x1 (![0, 1, 2] : Fin 3 → Fin S256x12x1.rank)
  bcast_S_S256x12x1 : S_.BroadcastsInDim S256x12x1 (![] : Fin 0 → Fin S256x12x1.rank)
  shapeCasts_S256x12x1_S256x12 : S256x12x1.ShapeCasts S256x12
  bcast_S256x12_S256x1x12_0_2 : S256x12.BroadcastsInDim S256x1x12 (![0, 2] : Fin 2 → Fin S256x1x12.rank)
  bcast_S256x1x12_S256x4096x12_0_1_2 : S256x1x12.BroadcastsInDim S256x4096x12 (![0, 1, 2] : Fin 3 → Fin S256x4096x12.rank)
  reducesTo_S256x4096x12_S256x4096_d2 : S256x4096x12.ReducesTo [2] S256x4096
  bcast_S256x4096_S256x4096x1_0_1 : S256x4096.BroadcastsInDim S256x4096x1 (![0, 1] : Fin 2 → Fin S256x4096x1.rank)
  bcast_S_S256x4096x1 : S_.BroadcastsInDim S256x4096x1 (![] : Fin 0 → Fin S256x4096x1.rank)
  dot_S256x12x1_S1x16_S256x12x16_2_0_01_1_n_n_wf : DotDims.WF S256x12x1 S1x16 S256x12x16 [2] [0] [0, 1] [1] [] []
  dot_S256x12x16_S16x1_S256x12x1_2_0_01_1_n_n_wf : DotDims.WF S256x12x16 S16x1 S256x12x1 [2] [0] [0, 1] [1] [] []

variable [Facts]

def dot_S256x12x1_S1x16_S256x12x16_2_0_01_1_n_n : DotDims S256x12x1 S1x16 S256x12x16 where
  lhsContracting := [2]
  rhsContracting := [0]
  lhsNonContracting := [0, 1]
  rhsNonContracting := [1]
  lhsBatch := []
  rhsBatch := []
  wf := dot_S256x12x1_S1x16_S256x12x16_2_0_01_1_n_n_wf
def dot_S256x12x16_S16x1_S256x12x1_2_0_01_1_n_n : DotDims S256x12x16 S16x1 S256x12x1 where
  lhsContracting := [2]
  rhsContracting := [0]
  lhsNonContracting := [0, 1]
  rhsNonContracting := [1]
  lhsBatch := []
  rhsBatch := []
  wf := dot_S256x12x16_S16x1_S256x12x1_2_0_01_1_n_n_wf
def fn_part1 {F : FTy → Type} [FloatOps F] (main_arg1 : FVec F S256x4096x12 .f32) (main_v17 : FVec F S256x12x1 .f32) (main_v18 : FVec F S256x12x1 .f32) : IVec S256x4096x1 1 :=
  let main_v19 : FVec F S256x12x1 .f32 := Host.divf main_v18 main_v17
  let main_v20 : FVec F S256x12 .f32 := shapeCast S256x12 main_v19 shapeCasts_S256x12x1_S256x12
  let main_v21 : FVec F S256x1x12 .f32 := broadcastInDim S256x1x12 ![0, 2] bcast_S256x12_S256x1x12_0_2 main_v20
  let main_v22 : FVec F S256x4096x12 .f32 := broadcastInDim S256x4096x12 ![0, 1, 2] bcast_S256x1x12_S256x4096x12_0_1_2 main_v21
  let main_v23 : FVec F S256x4096x12 .f32 := mulf main_arg1 main_v22
  let main_cst_4 : FVec F S_ .f32 := constant S_ .f32 0x00000000#32
  let main_v24 : FVec F S256x4096 .f32 := (fun x v => Host.reduceAdd x v reducesTo_S256x4096x12_S256x4096_d2 h_S_) main_v23 main_cst_4
  let main_v25 : FVec F S256x4096x1 .f32 := broadcastInDim S256x4096x1 ![0, 1] bcast_S256x4096_S256x4096x1_0_1 main_v24
  let main_cst_5 : FVec F S_ .f32 := constant S_ .f32 0x322BCC77#32
  let main_v26 : FVec F S256x4096x1 .f32 := broadcastInDim S256x4096x1 ![] bcast_S_S256x4096x1 main_cst_5
  let main_v27 : FVec F S256x4096x1 .f32 := addf main_v25 main_v26
  let main_cst_6 : FVec F S_ .f32 := constant S_ .f32 0x00000000#32
  let main_v28 : FVec F S256x4096x1 .f32 := broadcastInDim S256x4096x1 ![] bcast_S_S256x4096x1 main_cst_6
  let main_v29 : IVec S256x4096x1 1 := cmpf .une main_v27 main_v28
  main_v29

def fn {F : FTy → Type} [FloatOps F] (main_arg0 : FVec F S256x12x64 .f32) (main_arg1 : FVec F S256x4096x12 .f32) (main_arg2 : FVec F S1x16 .f32) (main_arg3 : FVec F S16 .f32) (main_arg4 : FVec F S16x1 .f32) (main_arg5 : FVec F S1 .f32) : IVec S256x4096x1 1 :=
  let main_cst : FVec F S_ .f32 := constant S_ .f32 0x00000000#32
  let main_v0 : FVec F S256x12 .f32 := (fun x v => Host.reduceAdd x v reducesTo_S256x4096x12_S256x12_d1 h_S_) main_arg1 main_cst
  let main_cst_0 : FVec F S_ .f32 := constant S_ .f32 0x45800000#32
  let main_v1 : FVec F S256x12 .f32 := broadcastInDim S256x12 ![] bcast_S_S256x12 main_cst_0
  let main_v2 : FVec F S256x12 .f32 := Host.divf main_v0 main_v1
  let main_v3 : FVec F S256x12x1 .f32 := broadcastInDim S256x12x1 ![0, 1] bcast_S256x12_S256x12x1_0_1 main_v2
  let main_v4 : FVec F S256x12x16 .f32 := (fun l r => Host.dotGeneral dot_S256x12x1_S1x16_S256x12x16_2_0_01_1_n_n none l r) main_v3 main_arg2
  let main_v5 : FVec F S1x1x16 .f32 := broadcastInDim S1x1x16 ![2] bcast_S16_S1x1x16_2 main_arg3
  let main_v6 : FVec F S256x12x16 .f32 := broadcastInDim S256x12x16 ![0, 1, 2] bcast_S1x1x16_S256x12x16_0_1_2 main_v5
  let main_v7 : FVec F S256x12x16 .f32 := addf main_v4 main_v6
  let main_cst_1 : FVec F S_ .f32 := constant S_ .f32 0x00000000#32
  let main_v8 : FVec F S256x12x16 .f32 := broadcastInDim S256x12x16 ![] bcast_S_S256x12x16 main_cst_1
  let main_v9 : FVec F S256x12x16 .f32 := maximumf main_v7 main_v8
  let main_v10 : FVec F S256x12x1 .f32 := (fun l r => Host.dotGeneral dot_S256x12x16_S16x1_S256x12x1_2_0_01_1_n_n none l r) main_v9 main_arg4
  let main_v11 : FVec F S1x1x1 .f32 := broadcastInDim S1x1x1 ![2] bcast_S1_S1x1x1_2 main_arg5
  let main_v12 : FVec F S256x12x1 .f32 := broadcastInDim S256x12x1 ![0, 1, 2] bcast_S1x1x1_S256x12x1_0_1_2 main_v11
  let main_v13 : FVec F S256x12x1 .f32 := addf main_v10 main_v12
  let main_v14 : FVec F S256x12x1 .f32 := Host.negf main_v13
  let main_v15 : FVec F S256x12x1 .f32 := Host.exp main_v14
  let main_cst_2 : FVec F S_ .f32 := constant S_ .f32 0x3F800000#32
  let main_v16 : FVec F S256x12x1 .f32 := broadcastInDim S256x12x1 ![] bcast_S_S256x12x1 main_cst_2
  let main_v17 : FVec F S256x12x1 .f32 := addf main_v16 main_v15
  let main_cst_3 : FVec F S_ .f32 := constant S_ .f32 0x3F800000#32
  let main_v18 : FVec F S256x12x1 .f32 := broadcastInDim S256x12x1 ![] bcast_S_S256x12x1 main_cst_3
  fn_part1 (F := F) main_arg1 main_v17 main_v18
-- ==== Kernel.lean ====
abbrev S256x12x64 : Shape := ⟨3, ![256, 12, 64]⟩
abbrev S256x4096x12 : Shape := ⟨3, ![256, 4096, 12]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩
abbrev S15 : Shape := ⟨1, ![15]⟩
abbrev S64 : Shape := ⟨1, ![64]⟩
abbrev S1x64 : Shape := ⟨2, ![1, 64]⟩
abbrev S12x256x4096 : Shape := ⟨3, ![12, 256, 4096]⟩
abbrev S256x16 : Shape := ⟨2, ![256, 16]⟩
abbrev S24x4096 : Shape := ⟨2, ![24, 4096]⟩
abbrev S16x16 : Shape := ⟨2, ![16, 16]⟩
abbrev S8x16 : Shape := ⟨2, ![8, 16]⟩
abbrev S1x4096 : Shape := ⟨2, ![1, 4096]⟩
abbrev S4096 : Shape := ⟨1, ![4096]⟩
abbrev S1x1x4096 : Shape := ⟨3, ![1, 1, 4096]⟩
abbrev S256x12 : Shape := ⟨2, ![256, 12]⟩
abbrev S256x12x1 : Shape := ⟨3, ![256, 12, 1]⟩

abbrev nBuf : Table → Nat
  | .hbm => 17
  | .local .tc .vmem => 3
  | .local .scVector .vmem => 4
  | _ => 0

abbrev bufTy : (tb : Table) → Fin (nBuf tb) → BufTy
  | .hbm, ⟨0, _⟩ => ⟨S256x12x64, .f32⟩
  | .hbm, ⟨1, _⟩ => ⟨S256x4096x12, .f32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S15, .f32⟩
  | .hbm, ⟨10, _⟩ => ⟨S64, .f32⟩
  | .hbm, ⟨11, _⟩ => ⟨S1x64, .f32⟩
  | .hbm, ⟨12, _⟩ => ⟨S12x256x4096, .f32⟩
  | .hbm, ⟨13, _⟩ => ⟨S12x256x4096, .f32⟩
  | .hbm, ⟨14, _⟩ => ⟨S256x16, .f32⟩
  | .hbm, ⟨15, _⟩ => ⟨S256x12x64, .f32⟩
  | .hbm, ⟨16, _⟩ => ⟨S256x4096x12, .f32⟩
  | .local .tc .vmem, ⟨0, _⟩ => ⟨S256x12x64, .f32⟩
  | .local .tc .vmem, ⟨1, _⟩ => ⟨S256x16, .f32⟩
  | .local .tc .vmem, ⟨2, _⟩ => ⟨S256x12x64, .f32⟩
  | .local .scVector .vmem, ⟨0, _⟩ => ⟨S24x4096, .f32⟩
  | .local .scVector .vmem, ⟨1, _⟩ => ⟨S16x16, .f32⟩
  | .local .scVector .vmem, ⟨2, _⟩ => ⟨S8x16, .f32⟩
  | .local .scVector .vmem, ⟨3, _⟩ => ⟨S1x64, .f32⟩
  | _, _ => ⟨S256x12x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v5_scv : Ref sig .scVector := ⟨.hbm, 12, rfl⟩
abbrev main_v4_scv : Ref sig .scVector := ⟨.hbm, 11, rfl⟩
abbrev main_v6_0_scv : Ref sig .scVector := ⟨.hbm, 13, rfl⟩
abbrev main_v6_1_scv : Ref sig .scVector := ⟨.hbm, 14, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_8 : BitVec 32) : Fin 3 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_12 : BitVec 32 := 0#32
  ![0, v122.toNat, 0]
def k0_off2 (i : grid0.Coords) (c0_i32_8 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_17 : BitVec 32 := 0#32
  ![1, v122.toNat, 0]
def k0_off3 (i : grid0.Coords) (c0_i32_8 : BitVec 32) : Fin 3 → Nat :=
  let c2_i32_20 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_23 : BitVec 32 := 0#32
  ![2, v122.toNat, 0]
def k0_off4 (i : grid0.Coords) (c0_i32_8 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_28 : BitVec 32 := 0#32
  ![3, v122.toNat, 0]
def k0_off5 (i : grid0.Coords) (c0_i32_8 : BitVec 32) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_33 : BitVec 32 := 0#32
  ![4, v122.toNat, 0]
def k0_off6 (i : grid0.Coords) (c0_i32_8 : BitVec 32) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_38 : BitVec 32 := 0#32
  ![5, v122.toNat, 0]
def k0_off7 (i : grid0.Coords) (c0_i32_8 : BitVec 32) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_43 : BitVec 32 := 0#32
  ![6, v122.toNat, 0]
def k0_off8 (i : grid0.Coords) (c0_i32_8 : BitVec 32) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_48 : BitVec 32 := 0#32
  ![7, v122.toNat, 0]
def k0_off9 (i : grid0.Coords) (c0_i32_8 : BitVec 32) : Fin 3 → Nat :=
  let c8_i32_51 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_54 : BitVec 32 := 0#32
  ![8, v122.toNat, 0]
def k0_off10 (i : grid0.Coords) (c0_i32_8 : BitVec 32) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_59 : BitVec 32 := 0#32
  ![9, v122.toNat, 0]
def k0_off11 (i : grid0.Coords) (c0_i32_8 : BitVec 32) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_64 : BitVec 32 := 0#32
  ![10, v122.toNat, 0]
def k0_off12 (i : grid0.Coords) (c0_i32_8 : BitVec 32) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v121 : BitVec 32 := Scalar.muli v1 c8_i32
  let v122 : BitVec 32 := Scalar.addi v121 c0_i32_8
  let c0_i32_69 : BitVec 32 := 0#32
  ![11, v122.toNat, 0]
@[reducible] def k0_t1_loop : Scf.Loop 32 :=
  let c0_i32_212 : BitVec 32 := 0#32
  let c32_i32 : BitVec 32 := 32#32
  let v415 : BitVec 32 := Scalar.addi c0_i32_212 c32_i32
  let c1_i32_213 : BitVec 32 := 1#32
  ⟨c0_i32_212, v415, c1_i32_213⟩
def k0_off13 (k0_t1 : Fin k0_t1_loop.trips) (c0_i32_2910 : BitVec 32) : Fin 2 → Nat :=
  let c0_i32_2911 : BitVec 32 := 0#32
  let v5276 : Index := Scalar.indexCast c0_i32_2911
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off14 (k0_t1 : Fin k0_t1_loop.trips) (c0_i32_2910 : BitVec 32) : Fin 2 → Nat :=
  let c1_i32_2912 : BitVec 32 := 1#32
  let v5280 : Index := Scalar.indexCast c1_i32_2912
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5281 : Index := Scalar.indexCast v5275
  ![1, v5281.toNat]
def k0_off15 (k0_t1 : Fin k0_t1_loop.trips) (c0_i32_2910 : BitVec 32) : Fin 2 → Nat :=
  let c2_i32_2913 : BitVec 32 := 2#32
  let v5284 : Index := Scalar.indexCast c2_i32_2913
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5285 : Index := Scalar.indexCast v5275
  ![2, v5285.toNat]
def k0_off16 (k0_t1 : Fin k0_t1_loop.trips) (c0_i32_2910 : BitVec 32) : Fin 2 → Nat :=
  let c3_i32_2914 : BitVec 32 := 3#32
  let v5288 : Index := Scalar.indexCast c3_i32_2914
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5289 : Index := Scalar.indexCast v5275
  ![3, v5289.toNat]
def k0_off17 (k0_t1 : Fin k0_t1_loop.trips) (c0_i32_2910 : BitVec 32) : Fin 2 → Nat :=
  let c4_i32_2915 : BitVec 32 := 4#32
  let v5292 : Index := Scalar.indexCast c4_i32_2915
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5293 : Index := Scalar.indexCast v5275
  ![4, v5293.toNat]
def k0_off18 (k0_t1 : Fin k0_t1_loop.trips) (c0_i32_2910 : BitVec 32) : Fin 2 → Nat :=
  let c5_i32_2916 : BitVec 32 := 5#32
  let v5296 : Index := Scalar.indexCast c5_i32_2916
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5297 : Index := Scalar.indexCast v5275
  ![5, v5297.toNat]
def k0_off19 (k0_t1 : Fin k0_t1_loop.trips) (c0_i32_2910 : BitVec 32) : Fin 2 → Nat :=
  let c6_i32_2917 : BitVec 32 := 6#32
  let v5300 : Index := Scalar.indexCast c6_i32_2917
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5301 : Index := Scalar.indexCast v5275
  ![6, v5301.toNat]
def k0_off20 (k0_t1 : Fin k0_t1_loop.trips) (c0_i32_2910 : BitVec 32) : Fin 2 → Nat :=
  let c7_i32_2918 : BitVec 32 := 7#32
  let v5304 : Index := Scalar.indexCast c7_i32_2918
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5305 : Index := Scalar.indexCast v5275
  ![7, v5305.toNat]
def k0_off21 (k0_t1 : Fin k0_t1_loop.trips) (c0_i32_2910 : BitVec 32) : Fin 2 → Nat :=
  let c8_i32_2919 : BitVec 32 := 8#32
  let v5308 : Index := Scalar.indexCast c8_i32_2919
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5309 : Index := Scalar.indexCast v5275
  ![8, v5309.toNat]
def k0_off22 (k0_t1 : Fin k0_t1_loop.trips) (c0_i32_2910 : BitVec 32) : Fin 2 → Nat :=
  let c9_i32_2920 : BitVec 32 := 9#32
  let v5312 : Index := Scalar.indexCast c9_i32_2920
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5313 : Index := Scalar.indexCast v5275
  ![9, v5313.toNat]
def k0_off23 (k0_t1 : Fin k0_t1_loop.trips) (c0_i32_2910 : BitVec 32) : Fin 2 → Nat :=
  let c10_i32_2921 : BitVec 32 := 10#32
  let v5316 : Index := Scalar.indexCast c10_i32_2921
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5317 : Index := Scalar.indexCast v5275
  ![10, v5317.toNat]
def k0_off24 (k0_t1 : Fin k0_t1_loop.trips) (c0_i32_2910 : BitVec 32) : Fin 2 → Nat :=
  let c11_i32_2922 : BitVec 32 := 11#32
  let v5320 : Index := Scalar.indexCast c11_i32_2922
  let c0_i32_212 : BitVec 32 := 0#32
  let c1_i32_213 : BitVec 32 := 1#32
  let arg14 : BitVec 32 := Scf.iv c0_i32_212 c1_i32_213 k0_t1
  let c128_i32 : BitVec 32 := 128#32
  let v5274 : BitVec 32 := Scalar.muli arg14 c128_i32
  let v5275 : BitVec 32 := Scalar.addi v5274 c0_i32_2910
  let v5321 : Index := Scalar.indexCast v5275
  ![11, v5321.toNat]

def k0_chk1 (v2 : IVec S16 32) (v441 : IVec S16 32) : Prop :=
  (∀ a x, ((![v2, v441] : Fin 2 → IVec S16 32) a x).toNat < S16x16.size a)
theorem k0_idx1_inb : ∀ (v2 : IVec S16 32) (v441 : IVec S16 32) (k0_hw1 : k0_chk1 v2 v441), ∀ a x, ((![v2, v441] : Fin 2 → IVec S16 32) a x).toNat < S16x16.size a := fun v2 v441 k0_hw1 => k0_hw1

def k0_chk2 (v2 : IVec S16 32) (v444 : IVec S16 32) : Prop :=
  (∀ a x, ((![v2, v444] : Fin 2 → IVec S16 32) a x).toNat < S16x16.size a)
theorem k0_idx2_inb : ∀ (v2 : IVec S16 32) (v444 : IVec S16 32) (k0_hw2 : k0_chk2 v2 v444), ∀ a x, ((![v2, v444] : Fin 2 → IVec S16 32) a x).toNat < S16x16.size a := fun v2 v444 k0_hw2 => k0_hw2

def k0_chk3 (v2 : IVec S16 32) (v447 : IVec S16 32) : Prop :=
  (∀ a x, ((![v2, v447] : Fin 2 → IVec S16 32) a x).toNat < S16x16.size a)
theorem k0_idx3_inb : ∀ (v2 : IVec S16 32) (v447 : IVec S16 32) (k0_hw3 : k0_chk3 v2 v447), ∀ a x, ((![v2, v447] : Fin 2 → IVec S16 32) a x).toNat < S16x16.size a := fun v2 v447 k0_hw3 => k0_hw3

def k0_chk4 (v2 : IVec S16 32) (v450 : IVec S16 32) : Prop :=
  (∀ a x, ((![v2, v450] : Fin 2 → IVec S16 32) a x).toNat < S16x16.size a)
theorem k0_idx4_inb : ∀ (v2 : IVec S16 32) (v450 : IVec S16 32) (k0_hw4 : k0_chk4 v2 v450), ∀ a x, ((![v2, v450] : Fin 2 → IVec S16 32) a x).toNat < S16x16.size a := fun v2 v450 k0_hw4 => k0_hw4

def k0_chk5 (v2 : IVec S16 32) (v453 : IVec S16 32) : Prop :=
  (∀ a x, ((![v2, v453] : Fin 2 → IVec S16 32) a x).toNat < S16x16.size a)
theorem k0_idx5_inb : ∀ (v2 : IVec S16 32) (v453 : IVec S16 32) (k0_hw5 : k0_chk5 v2 v453), ∀ a x, ((![v2, v453] : Fin 2 → IVec S16 32) a x).toNat < S16x16.size a := fun v2 v453 k0_hw5 => k0_hw5

def k0_chk6 (v2 : IVec S16 32) (v456 : IVec S16 32) : Prop :=
  (∀ a x, ((![v2, v456] : Fin 2 → IVec S16 32) a x).toNat < S16x16.size a)
theorem k0_idx6_inb : ∀ (v2 : IVec S16 32) (v456 : IVec S16 32) (k0_hw6 : k0_chk6 v2 v456), ∀ a x, ((![v2, v456] : Fin 2 → IVec S16 32) a x).toNat < S16x16.size a := fun v2 v456 k0_hw6 => k0_hw6

def k0_chk7 (v2 : IVec S16 32) (v459 : IVec S16 32) : Prop :=
  (∀ a x, ((![v2, v459] : Fin 2 → IVec S16 32) a x).toNat < S16x16.size a)
theorem k0_idx7_inb : ∀ (v2 : IVec S16 32) (v459 : IVec S16 32) (k0_hw7 : k0_chk7 v2 v459), ∀ a x, ((![v2, v459] : Fin 2 → IVec S16 32) a x).toNat < S16x16.size a := fun v2 v459 k0_hw7 => k0_hw7

def k0_chk8 (v2 : IVec S16 32) (v462 : IVec S16 32) : Prop :=
  (∀ a x, ((![v2, v462] : Fin 2 → IVec S16 32) a x).toNat < S16x16.size a)
theorem k0_idx8_inb : ∀ (v2 : IVec S16 32) (v462 : IVec S16 32) (k0_hw8 : k0_chk8 v2 v462), ∀ a x, ((![v2, v462] : Fin 2 → IVec S16 32) a x).toNat < S16x16.size a := fun v2 v462 k0_hw8 => k0_hw8

def k0_chk9 (v2 : IVec S16 32) (v465 : IVec S16 32) : Prop :=
  (∀ a x, ((![v2, v465] : Fin 2 → IVec S16 32) a x).toNat < S16x16.size a)
theorem k0_idx9_inb : ∀ (v2 : IVec S16 32) (v465 : IVec S16 32) (k0_hw9 : k0_chk9 v2 v465), ∀ a x, ((![v2, v465] : Fin 2 → IVec S16 32) a x).toNat < S16x16.size a := fun v2 v465 k0_hw9 => k0_hw9

def k0_chk10 (v2 : IVec S16 32) (v468 : IVec S16 32) : Prop :=
  (∀ a x, ((![v2, v468] : Fin 2 → IVec S16 32) a x).toNat < S16x16.size a)
theorem k0_idx10_inb : ∀ (v2 : IVec S16 32) (v468 : IVec S16 32) (k0_hw10 : k0_chk10 v2 v468), ∀ a x, ((![v2, v468] : Fin 2 → IVec S16 32) a x).toNat < S16x16.size a := fun v2 v468 k0_hw10 => k0_hw10

def k0_chk11 (v2 : IVec S16 32) (v471 : IVec S16 32) : Prop :=
  (∀ a x, ((![v2, v471] : Fin 2 → IVec S16 32) a x).toNat < S16x16.size a)
theorem k0_idx11_inb : ∀ (v2 : IVec S16 32) (v471 : IVec S16 32) (k0_hw11 : k0_chk11 v2 v471), ∀ a x, ((![v2, v471] : Fin 2 → IVec S16 32) a x).toNat < S16x16.size a := fun v2 v471 k0_hw11 => k0_hw11

def k0_chk12 (v2 : IVec S16 32) (v474 : IVec S16 32) : Prop :=
  (∀ a x, ((![v2, v474] : Fin 2 → IVec S16 32) a x).toNat < S16x16.size a)
theorem k0_idx12_inb : ∀ (v2 : IVec S16 32) (v474 : IVec S16 32) (k0_hw12 : k0_chk12 v2 v474), ∀ a x, ((![v2, v474] : Fin 2 → IVec S16 32) a x).toNat < S16x16.size a := fun v2 v474 k0_hw12 => k0_hw12

def k0_chk13 (v2 : IVec S16 32) (v477 : IVec S16 32) : Prop :=
  (∀ a x, ((![v2, v477] : Fin 2 → IVec S16 32) a x).toNat < S16x16.size a)
theorem k0_idx13_inb : ∀ (v2 : IVec S16 32) (v477 : IVec S16 32) (k0_hw13 : k0_chk13 v2 v477), ∀ a x, ((![v2, v477] : Fin 2 → IVec S16 32) a x).toNat < S16x16.size a := fun v2 v477 k0_hw13 => k0_hw13

def k0_chk14 (v2 : IVec S16 32) (v480 : IVec S16 32) : Prop :=
  (∀ a x, ((![v2, v480] : Fin 2 → IVec S16 32) a x).toNat < S16x16.size a)
theorem k0_idx14_inb : ∀ (v2 : IVec S16 32) (v480 : IVec S16 32) (k0_hw14 : k0_chk14 v2 v480), ∀ a x, ((![v2, v480] : Fin 2 → IVec S16 32) a x).toNat < S16x16.size a := fun v2 v480 k0_hw14 => k0_hw14

def k0_chk15 (v2 : IVec S16 32) (v483 : IVec S16 32) : Prop :=
  (∀ a x, ((![v2, v483] : Fin 2 → IVec S16 32) a x).toNat < S16x16.size a)
theorem k0_idx15_inb : ∀ (v2 : IVec S16 32) (v483 : IVec S16 32) (k0_hw15 : k0_chk15 v2 v483), ∀ a x, ((![v2, v483] : Fin 2 → IVec S16 32) a x).toNat < S16x16.size a := fun v2 v483 k0_hw15 => k0_hw15

def k0_chk16 (v2 : IVec S16 32) (v486 : IVec S16 32) : Prop :=
  (∀ a x, ((![v2, v486] : Fin 2 → IVec S16 32) a x).toNat < S16x16.size a)
theorem k0_idx16_inb : ∀ (v2 : IVec S16 32) (v486 : IVec S16 32) (k0_hw16 : k0_chk16 v2 v486), ∀ a x, ((![v2, v486] : Fin 2 → IVec S16 32) a x).toNat < S16x16.size a := fun v2 v486 k0_hw16 => k0_hw16
@[reducible] def k0_t2_loop : Scf.Loop 32 :=
  let c0_i32_278 : BitVec 32 := 0#32
  let c32_i32_279 : BitVec 32 := 32#32
  let v668 : BitVec 32 := Scalar.addi c0_i32_278 c32_i32_279
  let c1_i32_280 : BitVec 32 := 1#32
  ⟨c0_i32_278, v668, c1_i32_280⟩
def k0_off25 (k0_t2 : Fin k0_t2_loop.trips) (c0_i32_2910 : BitVec 32) : Fin 2 → Nat :=
  let c0_i32_2911 : BitVec 32 := 0#32
  let v5276 : Index := Scalar.indexCast c0_i32_2911
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off26 (k0_t2 : Fin k0_t2_loop.trips) (c0_i32_2910 : BitVec 32) : Fin 2 → Nat :=
  let c1_i32_2912 : BitVec 32 := 1#32
  let v5281 : Index := Scalar.indexCast c1_i32_2912
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5282 : Index := Scalar.indexCast v5275
  ![1, v5282.toNat]
def k0_off27 (k0_t2 : Fin k0_t2_loop.trips) (c0_i32_2910 : BitVec 32) : Fin 2 → Nat :=
  let c2_i32_2913 : BitVec 32 := 2#32
  let v5286 : Index := Scalar.indexCast c2_i32_2913
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5287 : Index := Scalar.indexCast v5275
  ![2, v5287.toNat]
def k0_off28 (k0_t2 : Fin k0_t2_loop.trips) (c0_i32_2910 : BitVec 32) : Fin 2 → Nat :=
  let c3_i32_2914 : BitVec 32 := 3#32
  let v5291 : Index := Scalar.indexCast c3_i32_2914
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5292 : Index := Scalar.indexCast v5275
  ![3, v5292.toNat]
def k0_off29 (k0_t2 : Fin k0_t2_loop.trips) (c0_i32_2910 : BitVec 32) : Fin 2 → Nat :=
  let c4_i32_2915 : BitVec 32 := 4#32
  let v5296 : Index := Scalar.indexCast c4_i32_2915
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5297 : Index := Scalar.indexCast v5275
  ![4, v5297.toNat]
def k0_off30 (k0_t2 : Fin k0_t2_loop.trips) (c0_i32_2910 : BitVec 32) : Fin 2 → Nat :=
  let c5_i32_2916 : BitVec 32 := 5#32
  let v5301 : Index := Scalar.indexCast c5_i32_2916
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5302 : Index := Scalar.indexCast v5275
  ![5, v5302.toNat]
def k0_off31 (k0_t2 : Fin k0_t2_loop.trips) (c0_i32_2910 : BitVec 32) : Fin 2 → Nat :=
  let c6_i32_2917 : BitVec 32 := 6#32
  let v5306 : Index := Scalar.indexCast c6_i32_2917
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5307 : Index := Scalar.indexCast v5275
  ![6, v5307.toNat]
def k0_off32 (k0_t2 : Fin k0_t2_loop.trips) (c0_i32_2910 : BitVec 32) : Fin 2 → Nat :=
  let c7_i32_2918 : BitVec 32 := 7#32
  let v5311 : Index := Scalar.indexCast c7_i32_2918
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5312 : Index := Scalar.indexCast v5275
  ![7, v5312.toNat]
def k0_off33 (k0_t2 : Fin k0_t2_loop.trips) (c0_i32_2910 : BitVec 32) : Fin 2 → Nat :=
  let c8_i32_2919 : BitVec 32 := 8#32
  let v5316 : Index := Scalar.indexCast c8_i32_2919
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5317 : Index := Scalar.indexCast v5275
  ![8, v5317.toNat]
def k0_off34 (k0_t2 : Fin k0_t2_loop.trips) (c0_i32_2910 : BitVec 32) : Fin 2 → Nat :=
  let c9_i32_2920 : BitVec 32 := 9#32
  let v5321 : Index := Scalar.indexCast c9_i32_2920
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5322 : Index := Scalar.indexCast v5275
  ![9, v5322.toNat]
def k0_off35 (k0_t2 : Fin k0_t2_loop.trips) (c0_i32_2910 : BitVec 32) : Fin 2 → Nat :=
  let c10_i32_2921 : BitVec 32 := 10#32
  let v5326 : Index := Scalar.indexCast c10_i32_2921
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5327 : Index := Scalar.indexCast v5275
  ![10, v5327.toNat]
def k0_off36 (k0_t2 : Fin k0_t2_loop.trips) (c0_i32_2910 : BitVec 32) : Fin 2 → Nat :=
  let c11_i32_2922 : BitVec 32 := 11#32
  let v5331 : Index := Scalar.indexCast c11_i32_2922
  let c0_i32_278 : BitVec 32 := 0#32
  let c1_i32_280 : BitVec 32 := 1#32
  let arg14 : BitVec 32 := Scf.iv c0_i32_278 c1_i32_280 k0_t2
  let c128_i32 : BitVec 32 := 128#32
  let v5274 : BitVec 32 := Scalar.muli arg14 c128_i32
  let v5275 : BitVec 32 := Scalar.addi v5274 c0_i32_2910
  let v5332 : Index := Scalar.indexCast v5275
  ![11, v5332.toNat]
def k0_off37 (i : grid0.Coords) (c0_i32_283 : BitVec 32) : Fin 3 → Nat :=
  let c0_i32_285 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_287 : BitVec 32 := 0#32
  ![0, v670.toNat, 0]
def k0_off38 (i : grid0.Coords) (c0_i32_283 : BitVec 32) : Fin 3 → Nat :=
  let c1_i32_291 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_293 : BitVec 32 := 0#32
  ![1, v670.toNat, 0]
def k0_off39 (i : grid0.Coords) (c0_i32_283 : BitVec 32) : Fin 3 → Nat :=
  let c2_i32_297 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_299 : BitVec 32 := 0#32
  ![2, v670.toNat, 0]
def k0_off40 (i : grid0.Coords) (c0_i32_283 : BitVec 32) : Fin 3 → Nat :=
  let c3_i32_303 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_305 : BitVec 32 := 0#32
  ![3, v670.toNat, 0]
def k0_off41 (i : grid0.Coords) (c0_i32_283 : BitVec 32) : Fin 3 → Nat :=
  let c4_i32_309 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_311 : BitVec 32 := 0#32
  ![4, v670.toNat, 0]
def k0_off42 (i : grid0.Coords) (c0_i32_283 : BitVec 32) : Fin 3 → Nat :=
  let c5_i32_315 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_317 : BitVec 32 := 0#32
  ![5, v670.toNat, 0]
def k0_off43 (i : grid0.Coords) (c0_i32_283 : BitVec 32) : Fin 3 → Nat :=
  let c6_i32_321 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_323 : BitVec 32 := 0#32
  ![6, v670.toNat, 0]
def k0_off44 (i : grid0.Coords) (c0_i32_283 : BitVec 32) : Fin 3 → Nat :=
  let c7_i32_327 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_329 : BitVec 32 := 0#32
  ![7, v670.toNat, 0]
def k0_off45 (i : grid0.Coords) (c0_i32_283 : BitVec 32) : Fin 3 → Nat :=
  let c8_i32_333 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_335 : BitVec 32 := 0#32
  ![8, v670.toNat, 0]
def k0_off46 (i : grid0.Coords) (c0_i32_283 : BitVec 32) : Fin 3 → Nat :=
  let c9_i32_339 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_341 : BitVec 32 := 0#32
  ![9, v670.toNat, 0]
def k0_off47 (i : grid0.Coords) (c0_i32_283 : BitVec 32) : Fin 3 → Nat :=
  let c10_i32_345 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_347 : BitVec 32 := 0#32
  ![10, v670.toNat, 0]
def k0_off48 (i : grid0.Coords) (c0_i32_283 : BitVec 32) : Fin 3 → Nat :=
  let c11_i32_351 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_282 : BitVec 32 := 8#32
  let v669 : BitVec 32 := Scalar.muli v1 c8_i32_282
  let v670 : BitVec 32 := Scalar.addi v669 c0_i32_283
  let c0_i32_353 : BitVec 32 := 0#32
  ![11, v670.toNat, 0]
@[reducible] def k0_t3_loop : Scf.Loop 32 :=
  let c0_i32_576 : BitVec 32 := 0#32
  let c32_i32_577 : BitVec 32 := 32#32
  let v1059 : BitVec 32 := Scalar.addi c0_i32_576 c32_i32_577
  let c1_i32_578 : BitVec 32 := 1#32
  ⟨c0_i32_576, v1059, c1_i32_578⟩
def k0_off49 (k0_t3 : Fin k0_t3_loop.trips) (c0_i32_2910 : BitVec 32) : Fin 2 → Nat :=
  let c12_i32_2911 : BitVec 32 := 12#32
  let v5276 : Index := Scalar.indexCast c12_i32_2911
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off50 (k0_t3 : Fin k0_t3_loop.trips) (c0_i32_2910 : BitVec 32) : Fin 2 → Nat :=
  let c13_i32_2912 : BitVec 32 := 13#32
  let v5280 : Index := Scalar.indexCast c13_i32_2912
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5281 : Index := Scalar.indexCast v5275
  ![13, v5281.toNat]
def k0_off51 (k0_t3 : Fin k0_t3_loop.trips) (c0_i32_2910 : BitVec 32) : Fin 2 → Nat :=
  let c14_i32_2913 : BitVec 32 := 14#32
  let v5284 : Index := Scalar.indexCast c14_i32_2913
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5285 : Index := Scalar.indexCast v5275
  ![14, v5285.toNat]
def k0_off52 (k0_t3 : Fin k0_t3_loop.trips) (c0_i32_2910 : BitVec 32) : Fin 2 → Nat :=
  let c15_i32_2914 : BitVec 32 := 15#32
  let v5288 : Index := Scalar.indexCast c15_i32_2914
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5289 : Index := Scalar.indexCast v5275
  ![15, v5289.toNat]
def k0_off53 (k0_t3 : Fin k0_t3_loop.trips) (c0_i32_2910 : BitVec 32) : Fin 2 → Nat :=
  let c16_i32_2915 : BitVec 32 := 16#32
  let v5292 : Index := Scalar.indexCast c16_i32_2915
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5293 : Index := Scalar.indexCast v5275
  ![16, v5293.toNat]
def k0_off54 (k0_t3 : Fin k0_t3_loop.trips) (c0_i32_2910 : BitVec 32) : Fin 2 → Nat :=
  let c17_i32_2916 : BitVec 32 := 17#32
  let v5296 : Index := Scalar.indexCast c17_i32_2916
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5297 : Index := Scalar.indexCast v5275
  ![17, v5297.toNat]
def k0_off55 (k0_t3 : Fin k0_t3_loop.trips) (c0_i32_2910 : BitVec 32) : Fin 2 → Nat :=
  let c18_i32_2917 : BitVec 32 := 18#32
  let v5300 : Index := Scalar.indexCast c18_i32_2917
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5301 : Index := Scalar.indexCast v5275
  ![18, v5301.toNat]
def k0_off56 (k0_t3 : Fin k0_t3_loop.trips) (c0_i32_2910 : BitVec 32) : Fin 2 → Nat :=
  let c19_i32_2918 : BitVec 32 := 19#32
  let v5304 : Index := Scalar.indexCast c19_i32_2918
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5305 : Index := Scalar.indexCast v5275
  ![19, v5305.toNat]
def k0_off57 (k0_t3 : Fin k0_t3_loop.trips) (c0_i32_2910 : BitVec 32) : Fin 2 → Nat :=
  let c20_i32_2919 : BitVec 32 := 20#32
  let v5308 : Index := Scalar.indexCast c20_i32_2919
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5309 : Index := Scalar.indexCast v5275
  ![20, v5309.toNat]
def k0_off58 (k0_t3 : Fin k0_t3_loop.trips) (c0_i32_2910 : BitVec 32) : Fin 2 → Nat :=
  let c21_i32_2920 : BitVec 32 := 21#32
  let v5312 : Index := Scalar.indexCast c21_i32_2920
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5313 : Index := Scalar.indexCast v5275
  ![21, v5313.toNat]
def k0_off59 (k0_t3 : Fin k0_t3_loop.trips) (c0_i32_2910 : BitVec 32) : Fin 2 → Nat :=
  let c22_i32_2921 : BitVec 32 := 22#32
  let v5316 : Index := Scalar.indexCast c22_i32_2921
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5317 : Index := Scalar.indexCast v5275
  ![22, v5317.toNat]
def k0_off60 (k0_t3 : Fin k0_t3_loop.trips) (c0_i32_2910 : BitVec 32) : Fin 2 → Nat :=
  let c23_i32_2922 : BitVec 32 := 23#32
  let v5320 : Index := Scalar.indexCast c23_i32_2922
  let c0_i32_576 : BitVec 32 := 0#32
  let c1_i32_578 : BitVec 32 := 1#32
  let arg14 : BitVec 32 := Scf.iv c0_i32_576 c1_i32_578 k0_t3
  let c128_i32 : BitVec 32 := 128#32
  let v5274 : BitVec 32 := Scalar.muli arg14 c128_i32
  let v5275 : BitVec 32 := Scalar.addi v5274 c0_i32_2910
  let v5321 : Index := Scalar.indexCast v5275
  ![23, v5321.toNat]

def k0_chk17 (v2 : IVec S16 32) (v1085 : IVec S16 32) : Prop :=
  (∀ a x, ((![v2, v1085] : Fin 2 → IVec S16 32) a x).toNat < S16x16.size a)
theorem k0_idx17_inb : ∀ (v2 : IVec S16 32) (v1085 : IVec S16 32) (k0_hw17 : k0_chk17 v2 v1085), ∀ a x, ((![v2, v1085] : Fin 2 → IVec S16 32) a x).toNat < S16x16.size a := fun v2 v1085 k0_hw17 => k0_hw17

def k0_chk18 (v2 : IVec S16 32) (v1088 : IVec S16 32) : Prop :=
  (∀ a x, ((![v2, v1088] : Fin 2 → IVec S16 32) a x).toNat < S16x16.size a)
theorem k0_idx18_inb : ∀ (v2 : IVec S16 32) (v1088 : IVec S16 32) (k0_hw18 : k0_chk18 v2 v1088), ∀ a x, ((![v2, v1088] : Fin 2 → IVec S16 32) a x).toNat < S16x16.size a := fun v2 v1088 k0_hw18 => k0_hw18

def k0_chk19 (v2 : IVec S16 32) (v1091 : IVec S16 32) : Prop :=
  (∀ a x, ((![v2, v1091] : Fin 2 → IVec S16 32) a x).toNat < S16x16.size a)
theorem k0_idx19_inb : ∀ (v2 : IVec S16 32) (v1091 : IVec S16 32) (k0_hw19 : k0_chk19 v2 v1091), ∀ a x, ((![v2, v1091] : Fin 2 → IVec S16 32) a x).toNat < S16x16.size a := fun v2 v1091 k0_hw19 => k0_hw19

def k0_chk20 (v2 : IVec S16 32) (v1094 : IVec S16 32) : Prop :=
  (∀ a x, ((![v2, v1094] : Fin 2 → IVec S16 32) a x).toNat < S16x16.size a)
theorem k0_idx20_inb : ∀ (v2 : IVec S16 32) (v1094 : IVec S16 32) (k0_hw20 : k0_chk20 v2 v1094), ∀ a x, ((![v2, v1094] : Fin 2 → IVec S16 32) a x).toNat < S16x16.size a := fun v2 v1094 k0_hw20 => k0_hw20

def k0_chk21 (v2 : IVec S16 32) (v1097 : IVec S16 32) : Prop :=
  (∀ a x, ((![v2, v1097] : Fin 2 → IVec S16 32) a x).toNat < S16x16.size a)
theorem k0_idx21_inb : ∀ (v2 : IVec S16 32) (v1097 : IVec S16 32) (k0_hw21 : k0_chk21 v2 v1097), ∀ a x, ((![v2, v1097] : Fin 2 → IVec S16 32) a x).toNat < S16x16.size a := fun v2 v1097 k0_hw21 => k0_hw21

def k0_chk22 (v2 : IVec S16 32) (v1100 : IVec S16 32) : Prop :=
  (∀ a x, ((![v2, v1100] : Fin 2 → IVec S16 32) a x).toNat < S16x16.size a)
theorem k0_idx22_inb : ∀ (v2 : IVec S16 32) (v1100 : IVec S16 32) (k0_hw22 : k0_chk22 v2 v1100), ∀ a x, ((![v2, v1100] : Fin 2 → IVec S16 32) a x).toNat < S16x16.size a := fun v2 v1100 k0_hw22 => k0_hw22

def k0_chk23 (v2 : IVec S16 32) (v1103 : IVec S16 32) : Prop :=
  (∀ a x, ((![v2, v1103] : Fin 2 → IVec S16 32) a x).toNat < S16x16.size a)
theorem k0_idx23_inb : ∀ (v2 : IVec S16 32) (v1103 : IVec S16 32) (k0_hw23 : k0_chk23 v2 v1103), ∀ a x, ((![v2, v1103] : Fin 2 → IVec S16 32) a x).toNat < S16x16.size a := fun v2 v1103 k0_hw23 => k0_hw23

def k0_chk24 (v2 : IVec S16 32) (v1106 : IVec S16 32) : Prop :=
  (∀ a x, ((![v2, v1106] : Fin 2 → IVec S16 32) a x).toNat < S16x16.size a)
theorem k0_idx24_inb : ∀ (v2 : IVec S16 32) (v1106 : IVec S16 32) (k0_hw24 : k0_chk24 v2 v1106), ∀ a x, ((![v2, v1106] : Fin 2 → IVec S16 32) a x).toNat < S16x16.size a := fun v2 v1106 k0_hw24 => k0_hw24

def k0_chk25 (v2 : IVec S16 32) (v1109 : IVec S16 32) : Prop :=
  (∀ a x, ((![v2, v1109] : Fin 2 → IVec S16 32) a x).toNat < S16x16.size a)
theorem k0_idx25_inb : ∀ (v2 : IVec S16 32) (v1109 : IVec S16 32) (k0_hw25 : k0_chk25 v2 v1109), ∀ a x, ((![v2, v1109] : Fin 2 → IVec S16 32) a x).toNat < S16x16.size a := fun v2 v1109 k0_hw25 => k0_hw25

def k0_chk26 (v2 : IVec S16 32) (v1112 : IVec S16 32) : Prop :=
  (∀ a x, ((![v2, v1112] : Fin 2 → IVec S16 32) a x).toNat < S16x16.size a)
theorem k0_idx26_inb : ∀ (v2 : IVec S16 32) (v1112 : IVec S16 32) (k0_hw26 : k0_chk26 v2 v1112), ∀ a x, ((![v2, v1112] : Fin 2 → IVec S16 32) a x).toNat < S16x16.size a := fun v2 v1112 k0_hw26 => k0_hw26

def k0_chk27 (v2 : IVec S16 32) (v1115 : IVec S16 32) : Prop :=
  (∀ a x, ((![v2, v1115] : Fin 2 → IVec S16 32) a x).toNat < S16x16.size a)
theorem k0_idx27_inb : ∀ (v2 : IVec S16 32) (v1115 : IVec S16 32) (k0_hw27 : k0_chk27 v2 v1115), ∀ a x, ((![v2, v1115] : Fin 2 → IVec S16 32) a x).toNat < S16x16.size a := fun v2 v1115 k0_hw27 => k0_hw27

def k0_chk28 (v2 : IVec S16 32) (v1118 : IVec S16 32) : Prop :=
  (∀ a x, ((![v2, v1118] : Fin 2 → IVec S16 32) a x).toNat < S16x16.size a)
theorem k0_idx28_inb : ∀ (v2 : IVec S16 32) (v1118 : IVec S16 32) (k0_hw28 : k0_chk28 v2 v1118), ∀ a x, ((![v2, v1118] : Fin 2 → IVec S16 32) a x).toNat < S16x16.size a := fun v2 v1118 k0_hw28 => k0_hw28

def k0_chk29 (v2 : IVec S16 32) (v1121 : IVec S16 32) : Prop :=
  (∀ a x, ((![v2, v1121] : Fin 2 → IVec S16 32) a x).toNat < S16x16.size a)
theorem k0_idx29_inb : ∀ (v2 : IVec S16 32) (v1121 : IVec S16 32) (k0_hw29 : k0_chk29 v2 v1121), ∀ a x, ((![v2, v1121] : Fin 2 → IVec S16 32) a x).toNat < S16x16.size a := fun v2 v1121 k0_hw29 => k0_hw29

def k0_chk30 (v2 : IVec S16 32) (v1124 : IVec S16 32) : Prop :=
  (∀ a x, ((![v2, v1124] : Fin 2 → IVec S16 32) a x).toNat < S16x16.size a)
theorem k0_idx30_inb : ∀ (v2 : IVec S16 32) (v1124 : IVec S16 32) (k0_hw30 : k0_chk30 v2 v1124), ∀ a x, ((![v2, v1124] : Fin 2 → IVec S16 32) a x).toNat < S16x16.size a := fun v2 v1124 k0_hw30 => k0_hw30

def k0_chk31 (v2 : IVec S16 32) (v1127 : IVec S16 32) : Prop :=
  (∀ a x, ((![v2, v1127] : Fin 2 → IVec S16 32) a x).toNat < S16x16.size a)
theorem k0_idx31_inb : ∀ (v2 : IVec S16 32) (v1127 : IVec S16 32) (k0_hw31 : k0_chk31 v2 v1127), ∀ a x, ((![v2, v1127] : Fin 2 → IVec S16 32) a x).toNat < S16x16.size a := fun v2 v1127 k0_hw31 => k0_hw31

def k0_chk32 (v2 : IVec S16 32) (v1130 : IVec S16 32) : Prop :=
  (∀ a x, ((![v2, v1130] : Fin 2 → IVec S16 32) a x).toNat < S16x16.size a)
theorem k0_idx32_inb : ∀ (v2 : IVec S16 32) (v1130 : IVec S16 32) (k0_hw32 : k0_chk32 v2 v1130), ∀ a x, ((![v2, v1130] : Fin 2 → IVec S16 32) a x).toNat < S16x16.size a := fun v2 v1130 k0_hw32 => k0_hw32
@[reducible] def k0_t4_loop : Scf.Loop 32 :=
  let c0_i32_643 : BitVec 32 := 0#32
  let c32_i32_644 : BitVec 32 := 32#32
  let v1312 : BitVec 32 := Scalar.addi c0_i32_643 c32_i32_644
  let c1_i32_645 : BitVec 32 := 1#32
  ⟨c0_i32_643, v1312, c1_i32_645⟩
def k0_off61 (k0_t4 : Fin k0_t4_loop.trips) (c0_i32_2910 : BitVec 32) : Fin 2 → Nat :=
  let c12_i32_2911 : BitVec 32 := 12#32
  let v5276 : Index := Scalar.indexCast c12_i32_2911
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off62 (k0_t4 : Fin k0_t4_loop.trips) (c0_i32_2910 : BitVec 32) : Fin 2 → Nat :=
  let c13_i32_2912 : BitVec 32 := 13#32
  let v5281 : Index := Scalar.indexCast c13_i32_2912
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5282 : Index := Scalar.indexCast v5275
  ![13, v5282.toNat]
def k0_off63 (k0_t4 : Fin k0_t4_loop.trips) (c0_i32_2910 : BitVec 32) : Fin 2 → Nat :=
  let c14_i32_2913 : BitVec 32 := 14#32
  let v5286 : Index := Scalar.indexCast c14_i32_2913
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5287 : Index := Scalar.indexCast v5275
  ![14, v5287.toNat]
def k0_off64 (k0_t4 : Fin k0_t4_loop.trips) (c0_i32_2910 : BitVec 32) : Fin 2 → Nat :=
  let c15_i32_2914 : BitVec 32 := 15#32
  let v5291 : Index := Scalar.indexCast c15_i32_2914
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5292 : Index := Scalar.indexCast v5275
  ![15, v5292.toNat]
def k0_off65 (k0_t4 : Fin k0_t4_loop.trips) (c0_i32_2910 : BitVec 32) : Fin 2 → Nat :=
  let c16_i32_2915 : BitVec 32 := 16#32
  let v5296 : Index := Scalar.indexCast c16_i32_2915
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5297 : Index := Scalar.indexCast v5275
  ![16, v5297.toNat]
def k0_off66 (k0_t4 : Fin k0_t4_loop.trips) (c0_i32_2910 : BitVec 32) : Fin 2 → Nat :=
  let c17_i32_2916 : BitVec 32 := 17#32
  let v5301 : Index := Scalar.indexCast c17_i32_2916
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5302 : Index := Scalar.indexCast v5275
  ![17, v5302.toNat]
def k0_off67 (k0_t4 : Fin k0_t4_loop.trips) (c0_i32_2910 : BitVec 32) : Fin 2 → Nat :=
  let c18_i32_2917 : BitVec 32 := 18#32
  let v5306 : Index := Scalar.indexCast c18_i32_2917
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5307 : Index := Scalar.indexCast v5275
  ![18, v5307.toNat]
def k0_off68 (k0_t4 : Fin k0_t4_loop.trips) (c0_i32_2910 : BitVec 32) : Fin 2 → Nat :=
  let c19_i32_2918 : BitVec 32 := 19#32
  let v5311 : Index := Scalar.indexCast c19_i32_2918
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5312 : Index := Scalar.indexCast v5275
  ![19, v5312.toNat]
def k0_off69 (k0_t4 : Fin k0_t4_loop.trips) (c0_i32_2910 : BitVec 32) : Fin 2 → Nat :=
  let c20_i32_2919 : BitVec 32 := 20#32
  let v5316 : Index := Scalar.indexCast c20_i32_2919
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5317 : Index := Scalar.indexCast v5275
  ![20, v5317.toNat]
def k0_off70 (k0_t4 : Fin k0_t4_loop.trips) (c0_i32_2910 : BitVec 32) : Fin 2 → Nat :=
  let c21_i32_2920 : BitVec 32 := 21#32
  let v5321 : Index := Scalar.indexCast c21_i32_2920
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5322 : Index := Scalar.indexCast v5275
  ![21, v5322.toNat]
def k0_off71 (k0_t4 : Fin k0_t4_loop.trips) (c0_i32_2910 : BitVec 32) : Fin 2 → Nat :=
  let c22_i32_2921 : BitVec 32 := 22#32
  let v5326 : Index := Scalar.indexCast c22_i32_2921
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5327 : Index := Scalar.indexCast v5275
  ![22, v5327.toNat]
def k0_off72 (k0_t4 : Fin k0_t4_loop.trips) (c0_i32_2910 : BitVec 32) : Fin 2 → Nat :=
  let c23_i32_2922 : BitVec 32 := 23#32
  let v5331 : Index := Scalar.indexCast c23_i32_2922
  let c0_i32_643 : BitVec 32 := 0#32
  let c1_i32_645 : BitVec 32 := 1#32
  let arg14 : BitVec 32 := Scf.iv c0_i32_643 c1_i32_645 k0_t4
  let c128_i32 : BitVec 32 := 128#32
  let v5274 : BitVec 32 := Scalar.muli arg14 c128_i32
  let v5275 : BitVec 32 := Scalar.addi v5274 c0_i32_2910
  let v5332 : Index := Scalar.indexCast v5275
  ![23, v5332.toNat]
def k0_off73 (i : grid0.Coords) (c1_i32_648 : BitVec 32) : Fin 3 → Nat :=
  let c0_i32_650 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_652 : BitVec 32 := 0#32
  ![0, v1314.toNat, 0]
def k0_off74 (i : grid0.Coords) (c1_i32_648 : BitVec 32) : Fin 3 → Nat :=
  let c1_i32_656 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_658 : BitVec 32 := 0#32
  ![1, v1314.toNat, 0]
def k0_off75 (i : grid0.Coords) (c1_i32_648 : BitVec 32) : Fin 3 → Nat :=
  let c2_i32_662 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_664 : BitVec 32 := 0#32
  ![2, v1314.toNat, 0]
def k0_off76 (i : grid0.Coords) (c1_i32_648 : BitVec 32) : Fin 3 → Nat :=
  let c3_i32_668 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_670 : BitVec 32 := 0#32
  ![3, v1314.toNat, 0]
def k0_off77 (i : grid0.Coords) (c1_i32_648 : BitVec 32) : Fin 3 → Nat :=
  let c4_i32_674 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_676 : BitVec 32 := 0#32
  ![4, v1314.toNat, 0]
def k0_off78 (i : grid0.Coords) (c1_i32_648 : BitVec 32) : Fin 3 → Nat :=
  let c5_i32_680 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_682 : BitVec 32 := 0#32
  ![5, v1314.toNat, 0]
def k0_off79 (i : grid0.Coords) (c1_i32_648 : BitVec 32) : Fin 3 → Nat :=
  let c6_i32_686 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_688 : BitVec 32 := 0#32
  ![6, v1314.toNat, 0]
def k0_off80 (i : grid0.Coords) (c1_i32_648 : BitVec 32) : Fin 3 → Nat :=
  let c7_i32_692 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_694 : BitVec 32 := 0#32
  ![7, v1314.toNat, 0]
def k0_off81 (i : grid0.Coords) (c1_i32_648 : BitVec 32) : Fin 3 → Nat :=
  let c8_i32_698 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_700 : BitVec 32 := 0#32
  ![8, v1314.toNat, 0]
def k0_off82 (i : grid0.Coords) (c1_i32_648 : BitVec 32) : Fin 3 → Nat :=
  let c9_i32_704 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_706 : BitVec 32 := 0#32
  ![9, v1314.toNat, 0]
def k0_off83 (i : grid0.Coords) (c1_i32_648 : BitVec 32) : Fin 3 → Nat :=
  let c10_i32_710 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_712 : BitVec 32 := 0#32
  ![10, v1314.toNat, 0]
def k0_off84 (i : grid0.Coords) (c1_i32_648 : BitVec 32) : Fin 3 → Nat :=
  let c11_i32_716 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_647 : BitVec 32 := 8#32
  let v1313 : BitVec 32 := Scalar.muli v1 c8_i32_647
  let v1314 : BitVec 32 := Scalar.addi v1313 c1_i32_648
  let c0_i32_718 : BitVec 32 := 0#32
  ![11, v1314.toNat, 0]
@[reducible] def k0_t5_loop : Scf.Loop 32 :=
  let c0_i32_941 : BitVec 32 := 0#32
  let c32_i32_942 : BitVec 32 := 32#32
  let v1703 : BitVec 32 := Scalar.addi c0_i32_941 c32_i32_942
  let c1_i32_943 : BitVec 32 := 1#32
  ⟨c0_i32_941, v1703, c1_i32_943⟩
def k0_off85 (k0_t5 : Fin k0_t5_loop.trips) (c0_i32_2910 : BitVec 32) : Fin 2 → Nat :=
  let c0_i32_2911 : BitVec 32 := 0#32
  let v5276 : Index := Scalar.indexCast c0_i32_2911
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off86 (k0_t5 : Fin k0_t5_loop.trips) (c0_i32_2910 : BitVec 32) : Fin 2 → Nat :=
  let c1_i32_2912 : BitVec 32 := 1#32
  let v5280 : Index := Scalar.indexCast c1_i32_2912
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5281 : Index := Scalar.indexCast v5275
  ![1, v5281.toNat]
def k0_off87 (k0_t5 : Fin k0_t5_loop.trips) (c0_i32_2910 : BitVec 32) : Fin 2 → Nat :=
  let c2_i32_2913 : BitVec 32 := 2#32
  let v5284 : Index := Scalar.indexCast c2_i32_2913
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5285 : Index := Scalar.indexCast v5275
  ![2, v5285.toNat]
def k0_off88 (k0_t5 : Fin k0_t5_loop.trips) (c0_i32_2910 : BitVec 32) : Fin 2 → Nat :=
  let c3_i32_2914 : BitVec 32 := 3#32
  let v5288 : Index := Scalar.indexCast c3_i32_2914
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5289 : Index := Scalar.indexCast v5275
  ![3, v5289.toNat]
def k0_off89 (k0_t5 : Fin k0_t5_loop.trips) (c0_i32_2910 : BitVec 32) : Fin 2 → Nat :=
  let c4_i32_2915 : BitVec 32 := 4#32
  let v5292 : Index := Scalar.indexCast c4_i32_2915
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5293 : Index := Scalar.indexCast v5275
  ![4, v5293.toNat]
def k0_off90 (k0_t5 : Fin k0_t5_loop.trips) (c0_i32_2910 : BitVec 32) : Fin 2 → Nat :=
  let c5_i32_2916 : BitVec 32 := 5#32
  let v5296 : Index := Scalar.indexCast c5_i32_2916
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5297 : Index := Scalar.indexCast v5275
  ![5, v5297.toNat]
def k0_off91 (k0_t5 : Fin k0_t5_loop.trips) (c0_i32_2910 : BitVec 32) : Fin 2 → Nat :=
  let c6_i32_2917 : BitVec 32 := 6#32
  let v5300 : Index := Scalar.indexCast c6_i32_2917
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5301 : Index := Scalar.indexCast v5275
  ![6, v5301.toNat]
def k0_off92 (k0_t5 : Fin k0_t5_loop.trips) (c0_i32_2910 : BitVec 32) : Fin 2 → Nat :=
  let c7_i32_2918 : BitVec 32 := 7#32
  let v5304 : Index := Scalar.indexCast c7_i32_2918
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5305 : Index := Scalar.indexCast v5275
  ![7, v5305.toNat]
def k0_off93 (k0_t5 : Fin k0_t5_loop.trips) (c0_i32_2910 : BitVec 32) : Fin 2 → Nat :=
  let c8_i32_2919 : BitVec 32 := 8#32
  let v5308 : Index := Scalar.indexCast c8_i32_2919
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5309 : Index := Scalar.indexCast v5275
  ![8, v5309.toNat]
def k0_off94 (k0_t5 : Fin k0_t5_loop.trips) (c0_i32_2910 : BitVec 32) : Fin 2 → Nat :=
  let c9_i32_2920 : BitVec 32 := 9#32
  let v5312 : Index := Scalar.indexCast c9_i32_2920
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5313 : Index := Scalar.indexCast v5275
  ![9, v5313.toNat]
def k0_off95 (k0_t5 : Fin k0_t5_loop.trips) (c0_i32_2910 : BitVec 32) : Fin 2 → Nat :=
  let c10_i32_2921 : BitVec 32 := 10#32
  let v5316 : Index := Scalar.indexCast c10_i32_2921
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5317 : Index := Scalar.indexCast v5275
  ![10, v5317.toNat]
def k0_off96 (k0_t5 : Fin k0_t5_loop.trips) (c0_i32_2910 : BitVec 32) : Fin 2 → Nat :=
  let c11_i32_2922 : BitVec 32 := 11#32
  let v5320 : Index := Scalar.indexCast c11_i32_2922
  let c0_i32_941 : BitVec 32 := 0#32
  let c1_i32_943 : BitVec 32 := 1#32
  let arg14 : BitVec 32 := Scf.iv c0_i32_941 c1_i32_943 k0_t5
  let c128_i32 : BitVec 32 := 128#32
  let v5274 : BitVec 32 := Scalar.muli arg14 c128_i32
  let v5275 : BitVec 32 := Scalar.addi v5274 c0_i32_2910
  let v5321 : Index := Scalar.indexCast v5275
  ![11, v5321.toNat]

def k0_chk33 (v2 : IVec S16 32) (v1729 : IVec S16 32) : Prop :=
  (∀ a x, ((![v2, v1729] : Fin 2 → IVec S16 32) a x).toNat < S16x16.size a)
theorem k0_idx33_inb : ∀ (v2 : IVec S16 32) (v1729 : IVec S16 32) (k0_hw33 : k0_chk33 v2 v1729), ∀ a x, ((![v2, v1729] : Fin 2 → IVec S16 32) a x).toNat < S16x16.size a := fun v2 v1729 k0_hw33 => k0_hw33

def k0_chk34 (v2 : IVec S16 32) (v1732 : IVec S16 32) : Prop :=
  (∀ a x, ((![v2, v1732] : Fin 2 → IVec S16 32) a x).toNat < S16x16.size a)
theorem k0_idx34_inb : ∀ (v2 : IVec S16 32) (v1732 : IVec S16 32) (k0_hw34 : k0_chk34 v2 v1732), ∀ a x, ((![v2, v1732] : Fin 2 → IVec S16 32) a x).toNat < S16x16.size a := fun v2 v1732 k0_hw34 => k0_hw34

def k0_chk35 (v2 : IVec S16 32) (v1735 : IVec S16 32) : Prop :=
  (∀ a x, ((![v2, v1735] : Fin 2 → IVec S16 32) a x).toNat < S16x16.size a)
theorem k0_idx35_inb : ∀ (v2 : IVec S16 32) (v1735 : IVec S16 32) (k0_hw35 : k0_chk35 v2 v1735), ∀ a x, ((![v2, v1735] : Fin 2 → IVec S16 32) a x).toNat < S16x16.size a := fun v2 v1735 k0_hw35 => k0_hw35

def k0_chk36 (v2 : IVec S16 32) (v1738 : IVec S16 32) : Prop :=
  (∀ a x, ((![v2, v1738] : Fin 2 → IVec S16 32) a x).toNat < S16x16.size a)
theorem k0_idx36_inb : ∀ (v2 : IVec S16 32) (v1738 : IVec S16 32) (k0_hw36 : k0_chk36 v2 v1738), ∀ a x, ((![v2, v1738] : Fin 2 → IVec S16 32) a x).toNat < S16x16.size a := fun v2 v1738 k0_hw36 => k0_hw36

def k0_chk37 (v2 : IVec S16 32) (v1741 : IVec S16 32) : Prop :=
  (∀ a x, ((![v2, v1741] : Fin 2 → IVec S16 32) a x).toNat < S16x16.size a)
theorem k0_idx37_inb : ∀ (v2 : IVec S16 32) (v1741 : IVec S16 32) (k0_hw37 : k0_chk37 v2 v1741), ∀ a x, ((![v2, v1741] : Fin 2 → IVec S16 32) a x).toNat < S16x16.size a := fun v2 v1741 k0_hw37 => k0_hw37

def k0_chk38 (v2 : IVec S16 32) (v1744 : IVec S16 32) : Prop :=
  (∀ a x, ((![v2, v1744] : Fin 2 → IVec S16 32) a x).toNat < S16x16.size a)
theorem k0_idx38_inb : ∀ (v2 : IVec S16 32) (v1744 : IVec S16 32) (k0_hw38 : k0_chk38 v2 v1744), ∀ a x, ((![v2, v1744] : Fin 2 → IVec S16 32) a x).toNat < S16x16.size a := fun v2 v1744 k0_hw38 => k0_hw38

def k0_chk39 (v2 : IVec S16 32) (v1747 : IVec S16 32) : Prop :=
  (∀ a x, ((![v2, v1747] : Fin 2 → IVec S16 32) a x).toNat < S16x16.size a)
theorem k0_idx39_inb : ∀ (v2 : IVec S16 32) (v1747 : IVec S16 32) (k0_hw39 : k0_chk39 v2 v1747), ∀ a x, ((![v2, v1747] : Fin 2 → IVec S16 32) a x).toNat < S16x16.size a := fun v2 v1747 k0_hw39 => k0_hw39

def k0_chk40 (v2 : IVec S16 32) (v1750 : IVec S16 32) : Prop :=
  (∀ a x, ((![v2, v1750] : Fin 2 → IVec S16 32) a x).toNat < S16x16.size a)
theorem k0_idx40_inb : ∀ (v2 : IVec S16 32) (v1750 : IVec S16 32) (k0_hw40 : k0_chk40 v2 v1750), ∀ a x, ((![v2, v1750] : Fin 2 → IVec S16 32) a x).toNat < S16x16.size a := fun v2 v1750 k0_hw40 => k0_hw40

def k0_chk41 (v2 : IVec S16 32) (v1753 : IVec S16 32) : Prop :=
  (∀ a x, ((![v2, v1753] : Fin 2 → IVec S16 32) a x).toNat < S16x16.size a)
theorem k0_idx41_inb : ∀ (v2 : IVec S16 32) (v1753 : IVec S16 32) (k0_hw41 : k0_chk41 v2 v1753), ∀ a x, ((![v2, v1753] : Fin 2 → IVec S16 32) a x).toNat < S16x16.size a := fun v2 v1753 k0_hw41 => k0_hw41

def k0_chk42 (v2 : IVec S16 32) (v1756 : IVec S16 32) : Prop :=
  (∀ a x, ((![v2, v1756] : Fin 2 → IVec S16 32) a x).toNat < S16x16.size a)
theorem k0_idx42_inb : ∀ (v2 : IVec S16 32) (v1756 : IVec S16 32) (k0_hw42 : k0_chk42 v2 v1756), ∀ a x, ((![v2, v1756] : Fin 2 → IVec S16 32) a x).toNat < S16x16.size a := fun v2 v1756 k0_hw42 => k0_hw42

def k0_chk43 (v2 : IVec S16 32) (v1759 : IVec S16 32) : Prop :=
  (∀ a x, ((![v2, v1759] : Fin 2 → IVec S16 32) a x).toNat < S16x16.size a)
theorem k0_idx43_inb : ∀ (v2 : IVec S16 32) (v1759 : IVec S16 32) (k0_hw43 : k0_chk43 v2 v1759), ∀ a x, ((![v2, v1759] : Fin 2 → IVec S16 32) a x).toNat < S16x16.size a := fun v2 v1759 k0_hw43 => k0_hw43

def k0_chk44 (v2 : IVec S16 32) (v1762 : IVec S16 32) : Prop :=
  (∀ a x, ((![v2, v1762] : Fin 2 → IVec S16 32) a x).toNat < S16x16.size a)
theorem k0_idx44_inb : ∀ (v2 : IVec S16 32) (v1762 : IVec S16 32) (k0_hw44 : k0_chk44 v2 v1762), ∀ a x, ((![v2, v1762] : Fin 2 → IVec S16 32) a x).toNat < S16x16.size a := fun v2 v1762 k0_hw44 => k0_hw44

def k0_chk45 (v2 : IVec S16 32) (v1765 : IVec S16 32) : Prop :=
  (∀ a x, ((![v2, v1765] : Fin 2 → IVec S16 32) a x).toNat < S16x16.size a)
theorem k0_idx45_inb : ∀ (v2 : IVec S16 32) (v1765 : IVec S16 32) (k0_hw45 : k0_chk45 v2 v1765), ∀ a x, ((![v2, v1765] : Fin 2 → IVec S16 32) a x).toNat < S16x16.size a := fun v2 v1765 k0_hw45 => k0_hw45

def k0_chk46 (v2 : IVec S16 32) (v1768 : IVec S16 32) : Prop :=
  (∀ a x, ((![v2, v1768] : Fin 2 → IVec S16 32) a x).toNat < S16x16.size a)
theorem k0_idx46_inb : ∀ (v2 : IVec S16 32) (v1768 : IVec S16 32) (k0_hw46 : k0_chk46 v2 v1768), ∀ a x, ((![v2, v1768] : Fin 2 → IVec S16 32) a x).toNat < S16x16.size a := fun v2 v1768 k0_hw46 => k0_hw46

def k0_chk47 (v2 : IVec S16 32) (v1771 : IVec S16 32) : Prop :=
  (∀ a x, ((![v2, v1771] : Fin 2 → IVec S16 32) a x).toNat < S16x16.size a)
theorem k0_idx47_inb : ∀ (v2 : IVec S16 32) (v1771 : IVec S16 32) (k0_hw47 : k0_chk47 v2 v1771), ∀ a x, ((![v2, v1771] : Fin 2 → IVec S16 32) a x).toNat < S16x16.size a := fun v2 v1771 k0_hw47 => k0_hw47

def k0_chk48 (v2 : IVec S16 32) (v1774 : IVec S16 32) : Prop :=
  (∀ a x, ((![v2, v1774] : Fin 2 → IVec S16 32) a x).toNat < S16x16.size a)
theorem k0_idx48_inb : ∀ (v2 : IVec S16 32) (v1774 : IVec S16 32) (k0_hw48 : k0_chk48 v2 v1774), ∀ a x, ((![v2, v1774] : Fin 2 → IVec S16 32) a x).toNat < S16x16.size a := fun v2 v1774 k0_hw48 => k0_hw48
@[reducible] def k0_t6_loop : Scf.Loop 32 :=
  let c0_i32_1008 : BitVec 32 := 0#32
  let c32_i32_1009 : BitVec 32 := 32#32
  let v1956 : BitVec 32 := Scalar.addi c0_i32_1008 c32_i32_1009
  let c1_i32_1010 : BitVec 32 := 1#32
  ⟨c0_i32_1008, v1956, c1_i32_1010⟩
def k0_off97 (k0_t6 : Fin k0_t6_loop.trips) (c0_i32_2910 : BitVec 32) : Fin 2 → Nat :=
  let c0_i32_2911 : BitVec 32 := 0#32
  let v5276 : Index := Scalar.indexCast c0_i32_2911
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off98 (k0_t6 : Fin k0_t6_loop.trips) (c0_i32_2910 : BitVec 32) : Fin 2 → Nat :=
  let c1_i32_2912 : BitVec 32 := 1#32
  let v5281 : Index := Scalar.indexCast c1_i32_2912
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5282 : Index := Scalar.indexCast v5275
  ![1, v5282.toNat]
def k0_off99 (k0_t6 : Fin k0_t6_loop.trips) (c0_i32_2910 : BitVec 32) : Fin 2 → Nat :=
  let c2_i32_2913 : BitVec 32 := 2#32
  let v5286 : Index := Scalar.indexCast c2_i32_2913
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5287 : Index := Scalar.indexCast v5275
  ![2, v5287.toNat]
def k0_off100 (k0_t6 : Fin k0_t6_loop.trips) (c0_i32_2910 : BitVec 32) : Fin 2 → Nat :=
  let c3_i32_2914 : BitVec 32 := 3#32
  let v5291 : Index := Scalar.indexCast c3_i32_2914
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5292 : Index := Scalar.indexCast v5275
  ![3, v5292.toNat]
def k0_off101 (k0_t6 : Fin k0_t6_loop.trips) (c0_i32_2910 : BitVec 32) : Fin 2 → Nat :=
  let c4_i32_2915 : BitVec 32 := 4#32
  let v5296 : Index := Scalar.indexCast c4_i32_2915
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5297 : Index := Scalar.indexCast v5275
  ![4, v5297.toNat]
def k0_off102 (k0_t6 : Fin k0_t6_loop.trips) (c0_i32_2910 : BitVec 32) : Fin 2 → Nat :=
  let c5_i32_2916 : BitVec 32 := 5#32
  let v5301 : Index := Scalar.indexCast c5_i32_2916
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5302 : Index := Scalar.indexCast v5275
  ![5, v5302.toNat]
def k0_off103 (k0_t6 : Fin k0_t6_loop.trips) (c0_i32_2910 : BitVec 32) : Fin 2 → Nat :=
  let c6_i32_2917 : BitVec 32 := 6#32
  let v5306 : Index := Scalar.indexCast c6_i32_2917
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5307 : Index := Scalar.indexCast v5275
  ![6, v5307.toNat]
def k0_off104 (k0_t6 : Fin k0_t6_loop.trips) (c0_i32_2910 : BitVec 32) : Fin 2 → Nat :=
  let c7_i32_2918 : BitVec 32 := 7#32
  let v5311 : Index := Scalar.indexCast c7_i32_2918
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5312 : Index := Scalar.indexCast v5275
  ![7, v5312.toNat]
def k0_off105 (k0_t6 : Fin k0_t6_loop.trips) (c0_i32_2910 : BitVec 32) : Fin 2 → Nat :=
  let c8_i32_2919 : BitVec 32 := 8#32
  let v5316 : Index := Scalar.indexCast c8_i32_2919
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5317 : Index := Scalar.indexCast v5275
  ![8, v5317.toNat]
def k0_off106 (k0_t6 : Fin k0_t6_loop.trips) (c0_i32_2910 : BitVec 32) : Fin 2 → Nat :=
  let c9_i32_2920 : BitVec 32 := 9#32
  let v5321 : Index := Scalar.indexCast c9_i32_2920
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5322 : Index := Scalar.indexCast v5275
  ![9, v5322.toNat]
def k0_off107 (k0_t6 : Fin k0_t6_loop.trips) (c0_i32_2910 : BitVec 32) : Fin 2 → Nat :=
  let c10_i32_2921 : BitVec 32 := 10#32
  let v5326 : Index := Scalar.indexCast c10_i32_2921
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5327 : Index := Scalar.indexCast v5275
  ![10, v5327.toNat]
def k0_off108 (k0_t6 : Fin k0_t6_loop.trips) (c0_i32_2910 : BitVec 32) : Fin 2 → Nat :=
  let c11_i32_2922 : BitVec 32 := 11#32
  let v5331 : Index := Scalar.indexCast c11_i32_2922
  let c0_i32_1008 : BitVec 32 := 0#32
  let c1_i32_1010 : BitVec 32 := 1#32
  let arg14 : BitVec 32 := Scf.iv c0_i32_1008 c1_i32_1010 k0_t6
  let c128_i32 : BitVec 32 := 128#32
  let v5274 : BitVec 32 := Scalar.muli arg14 c128_i32
  let v5275 : BitVec 32 := Scalar.addi v5274 c0_i32_2910
  let v5332 : Index := Scalar.indexCast v5275
  ![11, v5332.toNat]
def k0_off109 (i : grid0.Coords) (c2_i32_1013 : BitVec 32) : Fin 3 → Nat :=
  let c0_i32_1015 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1017 : BitVec 32 := 0#32
  ![0, v1958.toNat, 0]
def k0_off110 (i : grid0.Coords) (c2_i32_1013 : BitVec 32) : Fin 3 → Nat :=
  let c1_i32_1021 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1023 : BitVec 32 := 0#32
  ![1, v1958.toNat, 0]
def k0_off111 (i : grid0.Coords) (c2_i32_1013 : BitVec 32) : Fin 3 → Nat :=
  let c2_i32_1027 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1029 : BitVec 32 := 0#32
  ![2, v1958.toNat, 0]
def k0_off112 (i : grid0.Coords) (c2_i32_1013 : BitVec 32) : Fin 3 → Nat :=
  let c3_i32_1033 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1035 : BitVec 32 := 0#32
  ![3, v1958.toNat, 0]
def k0_off113 (i : grid0.Coords) (c2_i32_1013 : BitVec 32) : Fin 3 → Nat :=
  let c4_i32_1039 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1041 : BitVec 32 := 0#32
  ![4, v1958.toNat, 0]
def k0_off114 (i : grid0.Coords) (c2_i32_1013 : BitVec 32) : Fin 3 → Nat :=
  let c5_i32_1045 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1047 : BitVec 32 := 0#32
  ![5, v1958.toNat, 0]
def k0_off115 (i : grid0.Coords) (c2_i32_1013 : BitVec 32) : Fin 3 → Nat :=
  let c6_i32_1051 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1053 : BitVec 32 := 0#32
  ![6, v1958.toNat, 0]
def k0_off116 (i : grid0.Coords) (c2_i32_1013 : BitVec 32) : Fin 3 → Nat :=
  let c7_i32_1057 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1059 : BitVec 32 := 0#32
  ![7, v1958.toNat, 0]
def k0_off117 (i : grid0.Coords) (c2_i32_1013 : BitVec 32) : Fin 3 → Nat :=
  let c8_i32_1063 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1065 : BitVec 32 := 0#32
  ![8, v1958.toNat, 0]
def k0_off118 (i : grid0.Coords) (c2_i32_1013 : BitVec 32) : Fin 3 → Nat :=
  let c9_i32_1069 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1071 : BitVec 32 := 0#32
  ![9, v1958.toNat, 0]
def k0_off119 (i : grid0.Coords) (c2_i32_1013 : BitVec 32) : Fin 3 → Nat :=
  let c10_i32_1075 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1077 : BitVec 32 := 0#32
  ![10, v1958.toNat, 0]
def k0_off120 (i : grid0.Coords) (c2_i32_1013 : BitVec 32) : Fin 3 → Nat :=
  let c11_i32_1081 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1012 : BitVec 32 := 8#32
  let v1957 : BitVec 32 := Scalar.muli v1 c8_i32_1012
  let v1958 : BitVec 32 := Scalar.addi v1957 c2_i32_1013
  let c0_i32_1083 : BitVec 32 := 0#32
  ![11, v1958.toNat, 0]
@[reducible] def k0_t7_loop : Scf.Loop 32 :=
  let c0_i32_1306 : BitVec 32 := 0#32
  let c32_i32_1307 : BitVec 32 := 32#32
  let v2347 : BitVec 32 := Scalar.addi c0_i32_1306 c32_i32_1307
  let c1_i32_1308 : BitVec 32 := 1#32
  ⟨c0_i32_1306, v2347, c1_i32_1308⟩
def k0_off121 (k0_t7 : Fin k0_t7_loop.trips) (c0_i32_2910 : BitVec 32) : Fin 2 → Nat :=
  let c12_i32_2911 : BitVec 32 := 12#32
  let v5276 : Index := Scalar.indexCast c12_i32_2911
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off122 (k0_t7 : Fin k0_t7_loop.trips) (c0_i32_2910 : BitVec 32) : Fin 2 → Nat :=
  let c13_i32_2912 : BitVec 32 := 13#32
  let v5280 : Index := Scalar.indexCast c13_i32_2912
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5281 : Index := Scalar.indexCast v5275
  ![13, v5281.toNat]
def k0_off123 (k0_t7 : Fin k0_t7_loop.trips) (c0_i32_2910 : BitVec 32) : Fin 2 → Nat :=
  let c14_i32_2913 : BitVec 32 := 14#32
  let v5284 : Index := Scalar.indexCast c14_i32_2913
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5285 : Index := Scalar.indexCast v5275
  ![14, v5285.toNat]
def k0_off124 (k0_t7 : Fin k0_t7_loop.trips) (c0_i32_2910 : BitVec 32) : Fin 2 → Nat :=
  let c15_i32_2914 : BitVec 32 := 15#32
  let v5288 : Index := Scalar.indexCast c15_i32_2914
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5289 : Index := Scalar.indexCast v5275
  ![15, v5289.toNat]
def k0_off125 (k0_t7 : Fin k0_t7_loop.trips) (c0_i32_2910 : BitVec 32) : Fin 2 → Nat :=
  let c16_i32_2915 : BitVec 32 := 16#32
  let v5292 : Index := Scalar.indexCast c16_i32_2915
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5293 : Index := Scalar.indexCast v5275
  ![16, v5293.toNat]
def k0_off126 (k0_t7 : Fin k0_t7_loop.trips) (c0_i32_2910 : BitVec 32) : Fin 2 → Nat :=
  let c17_i32_2916 : BitVec 32 := 17#32
  let v5296 : Index := Scalar.indexCast c17_i32_2916
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5297 : Index := Scalar.indexCast v5275
  ![17, v5297.toNat]
def k0_off127 (k0_t7 : Fin k0_t7_loop.trips) (c0_i32_2910 : BitVec 32) : Fin 2 → Nat :=
  let c18_i32_2917 : BitVec 32 := 18#32
  let v5300 : Index := Scalar.indexCast c18_i32_2917
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5301 : Index := Scalar.indexCast v5275
  ![18, v5301.toNat]
def k0_off128 (k0_t7 : Fin k0_t7_loop.trips) (c0_i32_2910 : BitVec 32) : Fin 2 → Nat :=
  let c19_i32_2918 : BitVec 32 := 19#32
  let v5304 : Index := Scalar.indexCast c19_i32_2918
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5305 : Index := Scalar.indexCast v5275
  ![19, v5305.toNat]
def k0_off129 (k0_t7 : Fin k0_t7_loop.trips) (c0_i32_2910 : BitVec 32) : Fin 2 → Nat :=
  let c20_i32_2919 : BitVec 32 := 20#32
  let v5308 : Index := Scalar.indexCast c20_i32_2919
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5309 : Index := Scalar.indexCast v5275
  ![20, v5309.toNat]
def k0_off130 (k0_t7 : Fin k0_t7_loop.trips) (c0_i32_2910 : BitVec 32) : Fin 2 → Nat :=
  let c21_i32_2920 : BitVec 32 := 21#32
  let v5312 : Index := Scalar.indexCast c21_i32_2920
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5313 : Index := Scalar.indexCast v5275
  ![21, v5313.toNat]
def k0_off131 (k0_t7 : Fin k0_t7_loop.trips) (c0_i32_2910 : BitVec 32) : Fin 2 → Nat :=
  let c22_i32_2921 : BitVec 32 := 22#32
  let v5316 : Index := Scalar.indexCast c22_i32_2921
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5317 : Index := Scalar.indexCast v5275
  ![22, v5317.toNat]
def k0_off132 (k0_t7 : Fin k0_t7_loop.trips) (c0_i32_2910 : BitVec 32) : Fin 2 → Nat :=
  let c23_i32_2922 : BitVec 32 := 23#32
  let v5320 : Index := Scalar.indexCast c23_i32_2922
  let c0_i32_1306 : BitVec 32 := 0#32
  let c1_i32_1308 : BitVec 32 := 1#32
  let arg14 : BitVec 32 := Scf.iv c0_i32_1306 c1_i32_1308 k0_t7
  let c128_i32 : BitVec 32 := 128#32
  let v5274 : BitVec 32 := Scalar.muli arg14 c128_i32
  let v5275 : BitVec 32 := Scalar.addi v5274 c0_i32_2910
  let v5321 : Index := Scalar.indexCast v5275
  ![23, v5321.toNat]

def k0_chk49 (v2 : IVec S16 32) (v2373 : IVec S16 32) : Prop :=
  (∀ a x, ((![v2, v2373] : Fin 2 → IVec S16 32) a x).toNat < S16x16.size a)
theorem k0_idx49_inb : ∀ (v2 : IVec S16 32) (v2373 : IVec S16 32) (k0_hw49 : k0_chk49 v2 v2373), ∀ a x, ((![v2, v2373] : Fin 2 → IVec S16 32) a x).toNat < S16x16.size a := fun v2 v2373 k0_hw49 => k0_hw49

def k0_chk50 (v2 : IVec S16 32) (v2376 : IVec S16 32) : Prop :=
  (∀ a x, ((![v2, v2376] : Fin 2 → IVec S16 32) a x).toNat < S16x16.size a)
theorem k0_idx50_inb : ∀ (v2 : IVec S16 32) (v2376 : IVec S16 32) (k0_hw50 : k0_chk50 v2 v2376), ∀ a x, ((![v2, v2376] : Fin 2 → IVec S16 32) a x).toNat < S16x16.size a := fun v2 v2376 k0_hw50 => k0_hw50

def k0_chk51 (v2 : IVec S16 32) (v2379 : IVec S16 32) : Prop :=
  (∀ a x, ((![v2, v2379] : Fin 2 → IVec S16 32) a x).toNat < S16x16.size a)
theorem k0_idx51_inb : ∀ (v2 : IVec S16 32) (v2379 : IVec S16 32) (k0_hw51 : k0_chk51 v2 v2379), ∀ a x, ((![v2, v2379] : Fin 2 → IVec S16 32) a x).toNat < S16x16.size a := fun v2 v2379 k0_hw51 => k0_hw51

def k0_chk52 (v2 : IVec S16 32) (v2382 : IVec S16 32) : Prop :=
  (∀ a x, ((![v2, v2382] : Fin 2 → IVec S16 32) a x).toNat < S16x16.size a)
theorem k0_idx52_inb : ∀ (v2 : IVec S16 32) (v2382 : IVec S16 32) (k0_hw52 : k0_chk52 v2 v2382), ∀ a x, ((![v2, v2382] : Fin 2 → IVec S16 32) a x).toNat < S16x16.size a := fun v2 v2382 k0_hw52 => k0_hw52

def k0_chk53 (v2 : IVec S16 32) (v2385 : IVec S16 32) : Prop :=
  (∀ a x, ((![v2, v2385] : Fin 2 → IVec S16 32) a x).toNat < S16x16.size a)
theorem k0_idx53_inb : ∀ (v2 : IVec S16 32) (v2385 : IVec S16 32) (k0_hw53 : k0_chk53 v2 v2385), ∀ a x, ((![v2, v2385] : Fin 2 → IVec S16 32) a x).toNat < S16x16.size a := fun v2 v2385 k0_hw53 => k0_hw53

def k0_chk54 (v2 : IVec S16 32) (v2388 : IVec S16 32) : Prop :=
  (∀ a x, ((![v2, v2388] : Fin 2 → IVec S16 32) a x).toNat < S16x16.size a)
theorem k0_idx54_inb : ∀ (v2 : IVec S16 32) (v2388 : IVec S16 32) (k0_hw54 : k0_chk54 v2 v2388), ∀ a x, ((![v2, v2388] : Fin 2 → IVec S16 32) a x).toNat < S16x16.size a := fun v2 v2388 k0_hw54 => k0_hw54

def k0_chk55 (v2 : IVec S16 32) (v2391 : IVec S16 32) : Prop :=
  (∀ a x, ((![v2, v2391] : Fin 2 → IVec S16 32) a x).toNat < S16x16.size a)
theorem k0_idx55_inb : ∀ (v2 : IVec S16 32) (v2391 : IVec S16 32) (k0_hw55 : k0_chk55 v2 v2391), ∀ a x, ((![v2, v2391] : Fin 2 → IVec S16 32) a x).toNat < S16x16.size a := fun v2 v2391 k0_hw55 => k0_hw55

def k0_chk56 (v2 : IVec S16 32) (v2394 : IVec S16 32) : Prop :=
  (∀ a x, ((![v2, v2394] : Fin 2 → IVec S16 32) a x).toNat < S16x16.size a)
theorem k0_idx56_inb : ∀ (v2 : IVec S16 32) (v2394 : IVec S16 32) (k0_hw56 : k0_chk56 v2 v2394), ∀ a x, ((![v2, v2394] : Fin 2 → IVec S16 32) a x).toNat < S16x16.size a := fun v2 v2394 k0_hw56 => k0_hw56

def k0_chk57 (v2 : IVec S16 32) (v2397 : IVec S16 32) : Prop :=
  (∀ a x, ((![v2, v2397] : Fin 2 → IVec S16 32) a x).toNat < S16x16.size a)
theorem k0_idx57_inb : ∀ (v2 : IVec S16 32) (v2397 : IVec S16 32) (k0_hw57 : k0_chk57 v2 v2397), ∀ a x, ((![v2, v2397] : Fin 2 → IVec S16 32) a x).toNat < S16x16.size a := fun v2 v2397 k0_hw57 => k0_hw57

def k0_chk58 (v2 : IVec S16 32) (v2400 : IVec S16 32) : Prop :=
  (∀ a x, ((![v2, v2400] : Fin 2 → IVec S16 32) a x).toNat < S16x16.size a)
theorem k0_idx58_inb : ∀ (v2 : IVec S16 32) (v2400 : IVec S16 32) (k0_hw58 : k0_chk58 v2 v2400), ∀ a x, ((![v2, v2400] : Fin 2 → IVec S16 32) a x).toNat < S16x16.size a := fun v2 v2400 k0_hw58 => k0_hw58

def k0_chk59 (v2 : IVec S16 32) (v2403 : IVec S16 32) : Prop :=
  (∀ a x, ((![v2, v2403] : Fin 2 → IVec S16 32) a x).toNat < S16x16.size a)
theorem k0_idx59_inb : ∀ (v2 : IVec S16 32) (v2403 : IVec S16 32) (k0_hw59 : k0_chk59 v2 v2403), ∀ a x, ((![v2, v2403] : Fin 2 → IVec S16 32) a x).toNat < S16x16.size a := fun v2 v2403 k0_hw59 => k0_hw59

def k0_chk60 (v2 : IVec S16 32) (v2406 : IVec S16 32) : Prop :=
  (∀ a x, ((![v2, v2406] : Fin 2 → IVec S16 32) a x).toNat < S16x16.size a)
theorem k0_idx60_inb : ∀ (v2 : IVec S16 32) (v2406 : IVec S16 32) (k0_hw60 : k0_chk60 v2 v2406), ∀ a x, ((![v2, v2406] : Fin 2 → IVec S16 32) a x).toNat < S16x16.size a := fun v2 v2406 k0_hw60 => k0_hw60

def k0_chk61 (v2 : IVec S16 32) (v2409 : IVec S16 32) : Prop :=
  (∀ a x, ((![v2, v2409] : Fin 2 → IVec S16 32) a x).toNat < S16x16.size a)
theorem k0_idx61_inb : ∀ (v2 : IVec S16 32) (v2409 : IVec S16 32) (k0_hw61 : k0_chk61 v2 v2409), ∀ a x, ((![v2, v2409] : Fin 2 → IVec S16 32) a x).toNat < S16x16.size a := fun v2 v2409 k0_hw61 => k0_hw61

def k0_chk62 (v2 : IVec S16 32) (v2412 : IVec S16 32) : Prop :=
  (∀ a x, ((![v2, v2412] : Fin 2 → IVec S16 32) a x).toNat < S16x16.size a)
theorem k0_idx62_inb : ∀ (v2 : IVec S16 32) (v2412 : IVec S16 32) (k0_hw62 : k0_chk62 v2 v2412), ∀ a x, ((![v2, v2412] : Fin 2 → IVec S16 32) a x).toNat < S16x16.size a := fun v2 v2412 k0_hw62 => k0_hw62

def k0_chk63 (v2 : IVec S16 32) (v2415 : IVec S16 32) : Prop :=
  (∀ a x, ((![v2, v2415] : Fin 2 → IVec S16 32) a x).toNat < S16x16.size a)
theorem k0_idx63_inb : ∀ (v2 : IVec S16 32) (v2415 : IVec S16 32) (k0_hw63 : k0_chk63 v2 v2415), ∀ a x, ((![v2, v2415] : Fin 2 → IVec S16 32) a x).toNat < S16x16.size a := fun v2 v2415 k0_hw63 => k0_hw63

def k0_chk64 (v2 : IVec S16 32) (v2418 : IVec S16 32) : Prop :=
  (∀ a x, ((![v2, v2418] : Fin 2 → IVec S16 32) a x).toNat < S16x16.size a)
theorem k0_idx64_inb : ∀ (v2 : IVec S16 32) (v2418 : IVec S16 32) (k0_hw64 : k0_chk64 v2 v2418), ∀ a x, ((![v2, v2418] : Fin 2 → IVec S16 32) a x).toNat < S16x16.size a := fun v2 v2418 k0_hw64 => k0_hw64
@[reducible] def k0_t8_loop : Scf.Loop 32 :=
  let c0_i32_1373 : BitVec 32 := 0#32
  let c32_i32_1374 : BitVec 32 := 32#32
  let v2600 : BitVec 32 := Scalar.addi c0_i32_1373 c32_i32_1374
  let c1_i32_1375 : BitVec 32 := 1#32
  ⟨c0_i32_1373, v2600, c1_i32_1375⟩
def k0_off133 (k0_t8 : Fin k0_t8_loop.trips) (c0_i32_2910 : BitVec 32) : Fin 2 → Nat :=
  let c12_i32_2911 : BitVec 32 := 12#32
  let v5276 : Index := Scalar.indexCast c12_i32_2911
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off134 (k0_t8 : Fin k0_t8_loop.trips) (c0_i32_2910 : BitVec 32) : Fin 2 → Nat :=
  let c13_i32_2912 : BitVec 32 := 13#32
  let v5281 : Index := Scalar.indexCast c13_i32_2912
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5282 : Index := Scalar.indexCast v5275
  ![13, v5282.toNat]
def k0_off135 (k0_t8 : Fin k0_t8_loop.trips) (c0_i32_2910 : BitVec 32) : Fin 2 → Nat :=
  let c14_i32_2913 : BitVec 32 := 14#32
  let v5286 : Index := Scalar.indexCast c14_i32_2913
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5287 : Index := Scalar.indexCast v5275
  ![14, v5287.toNat]
def k0_off136 (k0_t8 : Fin k0_t8_loop.trips) (c0_i32_2910 : BitVec 32) : Fin 2 → Nat :=
  let c15_i32_2914 : BitVec 32 := 15#32
  let v5291 : Index := Scalar.indexCast c15_i32_2914
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5292 : Index := Scalar.indexCast v5275
  ![15, v5292.toNat]
def k0_off137 (k0_t8 : Fin k0_t8_loop.trips) (c0_i32_2910 : BitVec 32) : Fin 2 → Nat :=
  let c16_i32_2915 : BitVec 32 := 16#32
  let v5296 : Index := Scalar.indexCast c16_i32_2915
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5297 : Index := Scalar.indexCast v5275
  ![16, v5297.toNat]
def k0_off138 (k0_t8 : Fin k0_t8_loop.trips) (c0_i32_2910 : BitVec 32) : Fin 2 → Nat :=
  let c17_i32_2916 : BitVec 32 := 17#32
  let v5301 : Index := Scalar.indexCast c17_i32_2916
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5302 : Index := Scalar.indexCast v5275
  ![17, v5302.toNat]
def k0_off139 (k0_t8 : Fin k0_t8_loop.trips) (c0_i32_2910 : BitVec 32) : Fin 2 → Nat :=
  let c18_i32_2917 : BitVec 32 := 18#32
  let v5306 : Index := Scalar.indexCast c18_i32_2917
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5307 : Index := Scalar.indexCast v5275
  ![18, v5307.toNat]
def k0_off140 (k0_t8 : Fin k0_t8_loop.trips) (c0_i32_2910 : BitVec 32) : Fin 2 → Nat :=
  let c19_i32_2918 : BitVec 32 := 19#32
  let v5311 : Index := Scalar.indexCast c19_i32_2918
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5312 : Index := Scalar.indexCast v5275
  ![19, v5312.toNat]
def k0_off141 (k0_t8 : Fin k0_t8_loop.trips) (c0_i32_2910 : BitVec 32) : Fin 2 → Nat :=
  let c20_i32_2919 : BitVec 32 := 20#32
  let v5316 : Index := Scalar.indexCast c20_i32_2919
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5317 : Index := Scalar.indexCast v5275
  ![20, v5317.toNat]
def k0_off142 (k0_t8 : Fin k0_t8_loop.trips) (c0_i32_2910 : BitVec 32) : Fin 2 → Nat :=
  let c21_i32_2920 : BitVec 32 := 21#32
  let v5321 : Index := Scalar.indexCast c21_i32_2920
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5322 : Index := Scalar.indexCast v5275
  ![21, v5322.toNat]
def k0_off143 (k0_t8 : Fin k0_t8_loop.trips) (c0_i32_2910 : BitVec 32) : Fin 2 → Nat :=
  let c22_i32_2921 : BitVec 32 := 22#32
  let v5326 : Index := Scalar.indexCast c22_i32_2921
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5327 : Index := Scalar.indexCast v5275
  ![22, v5327.toNat]
def k0_off144 (k0_t8 : Fin k0_t8_loop.trips) (c0_i32_2910 : BitVec 32) : Fin 2 → Nat :=
  let c23_i32_2922 : BitVec 32 := 23#32
  let v5331 : Index := Scalar.indexCast c23_i32_2922
  let c0_i32_1373 : BitVec 32 := 0#32
  let c1_i32_1375 : BitVec 32 := 1#32
  let arg14 : BitVec 32 := Scf.iv c0_i32_1373 c1_i32_1375 k0_t8
  let c128_i32 : BitVec 32 := 128#32
  let v5274 : BitVec 32 := Scalar.muli arg14 c128_i32
  let v5275 : BitVec 32 := Scalar.addi v5274 c0_i32_2910
  let v5332 : Index := Scalar.indexCast v5275
  ![23, v5332.toNat]
def k0_off145 (i : grid0.Coords) (c3_i32_1378 : BitVec 32) : Fin 3 → Nat :=
  let c0_i32_1380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1382 : BitVec 32 := 0#32
  ![0, v2602.toNat, 0]
def k0_off146 (i : grid0.Coords) (c3_i32_1378 : BitVec 32) : Fin 3 → Nat :=
  let c1_i32_1386 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1388 : BitVec 32 := 0#32
  ![1, v2602.toNat, 0]
def k0_off147 (i : grid0.Coords) (c3_i32_1378 : BitVec 32) : Fin 3 → Nat :=
  let c2_i32_1392 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1394 : BitVec 32 := 0#32
  ![2, v2602.toNat, 0]
def k0_off148 (i : grid0.Coords) (c3_i32_1378 : BitVec 32) : Fin 3 → Nat :=
  let c3_i32_1398 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1400 : BitVec 32 := 0#32
  ![3, v2602.toNat, 0]
def k0_off149 (i : grid0.Coords) (c3_i32_1378 : BitVec 32) : Fin 3 → Nat :=
  let c4_i32_1404 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1406 : BitVec 32 := 0#32
  ![4, v2602.toNat, 0]
def k0_off150 (i : grid0.Coords) (c3_i32_1378 : BitVec 32) : Fin 3 → Nat :=
  let c5_i32_1410 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1412 : BitVec 32 := 0#32
  ![5, v2602.toNat, 0]
def k0_off151 (i : grid0.Coords) (c3_i32_1378 : BitVec 32) : Fin 3 → Nat :=
  let c6_i32_1416 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1418 : BitVec 32 := 0#32
  ![6, v2602.toNat, 0]
def k0_off152 (i : grid0.Coords) (c3_i32_1378 : BitVec 32) : Fin 3 → Nat :=
  let c7_i32_1422 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1424 : BitVec 32 := 0#32
  ![7, v2602.toNat, 0]
def k0_off153 (i : grid0.Coords) (c3_i32_1378 : BitVec 32) : Fin 3 → Nat :=
  let c8_i32_1428 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1430 : BitVec 32 := 0#32
  ![8, v2602.toNat, 0]
def k0_off154 (i : grid0.Coords) (c3_i32_1378 : BitVec 32) : Fin 3 → Nat :=
  let c9_i32_1434 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1436 : BitVec 32 := 0#32
  ![9, v2602.toNat, 0]
def k0_off155 (i : grid0.Coords) (c3_i32_1378 : BitVec 32) : Fin 3 → Nat :=
  let c10_i32_1440 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1442 : BitVec 32 := 0#32
  ![10, v2602.toNat, 0]
def k0_off156 (i : grid0.Coords) (c3_i32_1378 : BitVec 32) : Fin 3 → Nat :=
  let c11_i32_1446 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1377 : BitVec 32 := 8#32
  let v2601 : BitVec 32 := Scalar.muli v1 c8_i32_1377
  let v2602 : BitVec 32 := Scalar.addi v2601 c3_i32_1378
  let c0_i32_1448 : BitVec 32 := 0#32
  ![11, v2602.toNat, 0]
@[reducible] def k0_t9_loop : Scf.Loop 32 :=
  let c0_i32_1671 : BitVec 32 := 0#32
  let c32_i32_1672 : BitVec 32 := 32#32
  let v2991 : BitVec 32 := Scalar.addi c0_i32_1671 c32_i32_1672
  let c1_i32_1673 : BitVec 32 := 1#32
  ⟨c0_i32_1671, v2991, c1_i32_1673⟩
def k0_off157 (k0_t9 : Fin k0_t9_loop.trips) (c0_i32_2910 : BitVec 32) : Fin 2 → Nat :=
  let c0_i32_2911 : BitVec 32 := 0#32
  let v5276 : Index := Scalar.indexCast c0_i32_2911
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off158 (k0_t9 : Fin k0_t9_loop.trips) (c0_i32_2910 : BitVec 32) : Fin 2 → Nat :=
  let c1_i32_2912 : BitVec 32 := 1#32
  let v5280 : Index := Scalar.indexCast c1_i32_2912
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5281 : Index := Scalar.indexCast v5275
  ![1, v5281.toNat]
def k0_off159 (k0_t9 : Fin k0_t9_loop.trips) (c0_i32_2910 : BitVec 32) : Fin 2 → Nat :=
  let c2_i32_2913 : BitVec 32 := 2#32
  let v5284 : Index := Scalar.indexCast c2_i32_2913
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5285 : Index := Scalar.indexCast v5275
  ![2, v5285.toNat]
def k0_off160 (k0_t9 : Fin k0_t9_loop.trips) (c0_i32_2910 : BitVec 32) : Fin 2 → Nat :=
  let c3_i32_2914 : BitVec 32 := 3#32
  let v5288 : Index := Scalar.indexCast c3_i32_2914
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5289 : Index := Scalar.indexCast v5275
  ![3, v5289.toNat]
def k0_off161 (k0_t9 : Fin k0_t9_loop.trips) (c0_i32_2910 : BitVec 32) : Fin 2 → Nat :=
  let c4_i32_2915 : BitVec 32 := 4#32
  let v5292 : Index := Scalar.indexCast c4_i32_2915
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5293 : Index := Scalar.indexCast v5275
  ![4, v5293.toNat]
def k0_off162 (k0_t9 : Fin k0_t9_loop.trips) (c0_i32_2910 : BitVec 32) : Fin 2 → Nat :=
  let c5_i32_2916 : BitVec 32 := 5#32
  let v5296 : Index := Scalar.indexCast c5_i32_2916
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5297 : Index := Scalar.indexCast v5275
  ![5, v5297.toNat]
def k0_off163 (k0_t9 : Fin k0_t9_loop.trips) (c0_i32_2910 : BitVec 32) : Fin 2 → Nat :=
  let c6_i32_2917 : BitVec 32 := 6#32
  let v5300 : Index := Scalar.indexCast c6_i32_2917
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5301 : Index := Scalar.indexCast v5275
  ![6, v5301.toNat]
def k0_off164 (k0_t9 : Fin k0_t9_loop.trips) (c0_i32_2910 : BitVec 32) : Fin 2 → Nat :=
  let c7_i32_2918 : BitVec 32 := 7#32
  let v5304 : Index := Scalar.indexCast c7_i32_2918
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5305 : Index := Scalar.indexCast v5275
  ![7, v5305.toNat]
def k0_off165 (k0_t9 : Fin k0_t9_loop.trips) (c0_i32_2910 : BitVec 32) : Fin 2 → Nat :=
  let c8_i32_2919 : BitVec 32 := 8#32
  let v5308 : Index := Scalar.indexCast c8_i32_2919
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5309 : Index := Scalar.indexCast v5275
  ![8, v5309.toNat]
def k0_off166 (k0_t9 : Fin k0_t9_loop.trips) (c0_i32_2910 : BitVec 32) : Fin 2 → Nat :=
  let c9_i32_2920 : BitVec 32 := 9#32
  let v5312 : Index := Scalar.indexCast c9_i32_2920
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5313 : Index := Scalar.indexCast v5275
  ![9, v5313.toNat]
def k0_off167 (k0_t9 : Fin k0_t9_loop.trips) (c0_i32_2910 : BitVec 32) : Fin 2 → Nat :=
  let c10_i32_2921 : BitVec 32 := 10#32
  let v5316 : Index := Scalar.indexCast c10_i32_2921
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5317 : Index := Scalar.indexCast v5275
  ![10, v5317.toNat]
def k0_off168 (k0_t9 : Fin k0_t9_loop.trips) (c0_i32_2910 : BitVec 32) : Fin 2 → Nat :=
  let c11_i32_2922 : BitVec 32 := 11#32
  let v5320 : Index := Scalar.indexCast c11_i32_2922
  let c0_i32_1671 : BitVec 32 := 0#32
  let c1_i32_1673 : BitVec 32 := 1#32
  let arg14 : BitVec 32 := Scf.iv c0_i32_1671 c1_i32_1673 k0_t9
  let c128_i32 : BitVec 32 := 128#32
  let v5274 : BitVec 32 := Scalar.muli arg14 c128_i32
  let v5275 : BitVec 32 := Scalar.addi v5274 c0_i32_2910
  let v5321 : Index := Scalar.indexCast v5275
  ![11, v5321.toNat]

def k0_chk65 (v2 : IVec S16 32) (v3017 : IVec S16 32) : Prop :=
  (∀ a x, ((![v2, v3017] : Fin 2 → IVec S16 32) a x).toNat < S16x16.size a)
theorem k0_idx65_inb : ∀ (v2 : IVec S16 32) (v3017 : IVec S16 32) (k0_hw65 : k0_chk65 v2 v3017), ∀ a x, ((![v2, v3017] : Fin 2 → IVec S16 32) a x).toNat < S16x16.size a := fun v2 v3017 k0_hw65 => k0_hw65

def k0_chk66 (v2 : IVec S16 32) (v3020 : IVec S16 32) : Prop :=
  (∀ a x, ((![v2, v3020] : Fin 2 → IVec S16 32) a x).toNat < S16x16.size a)
theorem k0_idx66_inb : ∀ (v2 : IVec S16 32) (v3020 : IVec S16 32) (k0_hw66 : k0_chk66 v2 v3020), ∀ a x, ((![v2, v3020] : Fin 2 → IVec S16 32) a x).toNat < S16x16.size a := fun v2 v3020 k0_hw66 => k0_hw66

def k0_chk67 (v2 : IVec S16 32) (v3023 : IVec S16 32) : Prop :=
  (∀ a x, ((![v2, v3023] : Fin 2 → IVec S16 32) a x).toNat < S16x16.size a)
theorem k0_idx67_inb : ∀ (v2 : IVec S16 32) (v3023 : IVec S16 32) (k0_hw67 : k0_chk67 v2 v3023), ∀ a x, ((![v2, v3023] : Fin 2 → IVec S16 32) a x).toNat < S16x16.size a := fun v2 v3023 k0_hw67 => k0_hw67

def k0_chk68 (v2 : IVec S16 32) (v3026 : IVec S16 32) : Prop :=
  (∀ a x, ((![v2, v3026] : Fin 2 → IVec S16 32) a x).toNat < S16x16.size a)
theorem k0_idx68_inb : ∀ (v2 : IVec S16 32) (v3026 : IVec S16 32) (k0_hw68 : k0_chk68 v2 v3026), ∀ a x, ((![v2, v3026] : Fin 2 → IVec S16 32) a x).toNat < S16x16.size a := fun v2 v3026 k0_hw68 => k0_hw68

def k0_chk69 (v2 : IVec S16 32) (v3029 : IVec S16 32) : Prop :=
  (∀ a x, ((![v2, v3029] : Fin 2 → IVec S16 32) a x).toNat < S16x16.size a)
theorem k0_idx69_inb : ∀ (v2 : IVec S16 32) (v3029 : IVec S16 32) (k0_hw69 : k0_chk69 v2 v3029), ∀ a x, ((![v2, v3029] : Fin 2 → IVec S16 32) a x).toNat < S16x16.size a := fun v2 v3029 k0_hw69 => k0_hw69

def k0_chk70 (v2 : IVec S16 32) (v3032 : IVec S16 32) : Prop :=
  (∀ a x, ((![v2, v3032] : Fin 2 → IVec S16 32) a x).toNat < S16x16.size a)
theorem k0_idx70_inb : ∀ (v2 : IVec S16 32) (v3032 : IVec S16 32) (k0_hw70 : k0_chk70 v2 v3032), ∀ a x, ((![v2, v3032] : Fin 2 → IVec S16 32) a x).toNat < S16x16.size a := fun v2 v3032 k0_hw70 => k0_hw70

def k0_chk71 (v2 : IVec S16 32) (v3035 : IVec S16 32) : Prop :=
  (∀ a x, ((![v2, v3035] : Fin 2 → IVec S16 32) a x).toNat < S16x16.size a)
theorem k0_idx71_inb : ∀ (v2 : IVec S16 32) (v3035 : IVec S16 32) (k0_hw71 : k0_chk71 v2 v3035), ∀ a x, ((![v2, v3035] : Fin 2 → IVec S16 32) a x).toNat < S16x16.size a := fun v2 v3035 k0_hw71 => k0_hw71

def k0_chk72 (v2 : IVec S16 32) (v3038 : IVec S16 32) : Prop :=
  (∀ a x, ((![v2, v3038] : Fin 2 → IVec S16 32) a x).toNat < S16x16.size a)
theorem k0_idx72_inb : ∀ (v2 : IVec S16 32) (v3038 : IVec S16 32) (k0_hw72 : k0_chk72 v2 v3038), ∀ a x, ((![v2, v3038] : Fin 2 → IVec S16 32) a x).toNat < S16x16.size a := fun v2 v3038 k0_hw72 => k0_hw72

def k0_chk73 (v2 : IVec S16 32) (v3041 : IVec S16 32) : Prop :=
  (∀ a x, ((![v2, v3041] : Fin 2 → IVec S16 32) a x).toNat < S16x16.size a)
theorem k0_idx73_inb : ∀ (v2 : IVec S16 32) (v3041 : IVec S16 32) (k0_hw73 : k0_chk73 v2 v3041), ∀ a x, ((![v2, v3041] : Fin 2 → IVec S16 32) a x).toNat < S16x16.size a := fun v2 v3041 k0_hw73 => k0_hw73

def k0_chk74 (v2 : IVec S16 32) (v3044 : IVec S16 32) : Prop :=
  (∀ a x, ((![v2, v3044] : Fin 2 → IVec S16 32) a x).toNat < S16x16.size a)
theorem k0_idx74_inb : ∀ (v2 : IVec S16 32) (v3044 : IVec S16 32) (k0_hw74 : k0_chk74 v2 v3044), ∀ a x, ((![v2, v3044] : Fin 2 → IVec S16 32) a x).toNat < S16x16.size a := fun v2 v3044 k0_hw74 => k0_hw74

def k0_chk75 (v2 : IVec S16 32) (v3047 : IVec S16 32) : Prop :=
  (∀ a x, ((![v2, v3047] : Fin 2 → IVec S16 32) a x).toNat < S16x16.size a)
theorem k0_idx75_inb : ∀ (v2 : IVec S16 32) (v3047 : IVec S16 32) (k0_hw75 : k0_chk75 v2 v3047), ∀ a x, ((![v2, v3047] : Fin 2 → IVec S16 32) a x).toNat < S16x16.size a := fun v2 v3047 k0_hw75 => k0_hw75

def k0_chk76 (v2 : IVec S16 32) (v3050 : IVec S16 32) : Prop :=
  (∀ a x, ((![v2, v3050] : Fin 2 → IVec S16 32) a x).toNat < S16x16.size a)
theorem k0_idx76_inb : ∀ (v2 : IVec S16 32) (v3050 : IVec S16 32) (k0_hw76 : k0_chk76 v2 v3050), ∀ a x, ((![v2, v3050] : Fin 2 → IVec S16 32) a x).toNat < S16x16.size a := fun v2 v3050 k0_hw76 => k0_hw76

def k0_chk77 (v2 : IVec S16 32) (v3053 : IVec S16 32) : Prop :=
  (∀ a x, ((![v2, v3053] : Fin 2 → IVec S16 32) a x).toNat < S16x16.size a)
theorem k0_idx77_inb : ∀ (v2 : IVec S16 32) (v3053 : IVec S16 32) (k0_hw77 : k0_chk77 v2 v3053), ∀ a x, ((![v2, v3053] : Fin 2 → IVec S16 32) a x).toNat < S16x16.size a := fun v2 v3053 k0_hw77 => k0_hw77

def k0_chk78 (v2 : IVec S16 32) (v3056 : IVec S16 32) : Prop :=
  (∀ a x, ((![v2, v3056] : Fin 2 → IVec S16 32) a x).toNat < S16x16.size a)
theorem k0_idx78_inb : ∀ (v2 : IVec S16 32) (v3056 : IVec S16 32) (k0_hw78 : k0_chk78 v2 v3056), ∀ a x, ((![v2, v3056] : Fin 2 → IVec S16 32) a x).toNat < S16x16.size a := fun v2 v3056 k0_hw78 => k0_hw78

def k0_chk79 (v2 : IVec S16 32) (v3059 : IVec S16 32) : Prop :=
  (∀ a x, ((![v2, v3059] : Fin 2 → IVec S16 32) a x).toNat < S16x16.size a)
theorem k0_idx79_inb : ∀ (v2 : IVec S16 32) (v3059 : IVec S16 32) (k0_hw79 : k0_chk79 v2 v3059), ∀ a x, ((![v2, v3059] : Fin 2 → IVec S16 32) a x).toNat < S16x16.size a := fun v2 v3059 k0_hw79 => k0_hw79

def k0_chk80 (v2 : IVec S16 32) (v3062 : IVec S16 32) : Prop :=
  (∀ a x, ((![v2, v3062] : Fin 2 → IVec S16 32) a x).toNat < S16x16.size a)
theorem k0_idx80_inb : ∀ (v2 : IVec S16 32) (v3062 : IVec S16 32) (k0_hw80 : k0_chk80 v2 v3062), ∀ a x, ((![v2, v3062] : Fin 2 → IVec S16 32) a x).toNat < S16x16.size a := fun v2 v3062 k0_hw80 => k0_hw80
@[reducible] def k0_t10_loop : Scf.Loop 32 :=
  let c0_i32_1738 : BitVec 32 := 0#32
  let c32_i32_1739 : BitVec 32 := 32#32
  let v3244 : BitVec 32 := Scalar.addi c0_i32_1738 c32_i32_1739
  let c1_i32_1740 : BitVec 32 := 1#32
  ⟨c0_i32_1738, v3244, c1_i32_1740⟩
def k0_off169 (k0_t10 : Fin k0_t10_loop.trips) (c0_i32_2910 : BitVec 32) : Fin 2 → Nat :=
  let c0_i32_2911 : BitVec 32 := 0#32
  let v5276 : Index := Scalar.indexCast c0_i32_2911
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off170 (k0_t10 : Fin k0_t10_loop.trips) (c0_i32_2910 : BitVec 32) : Fin 2 → Nat :=
  let c1_i32_2912 : BitVec 32 := 1#32
  let v5281 : Index := Scalar.indexCast c1_i32_2912
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5282 : Index := Scalar.indexCast v5275
  ![1, v5282.toNat]
def k0_off171 (k0_t10 : Fin k0_t10_loop.trips) (c0_i32_2910 : BitVec 32) : Fin 2 → Nat :=
  let c2_i32_2913 : BitVec 32 := 2#32
  let v5286 : Index := Scalar.indexCast c2_i32_2913
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5287 : Index := Scalar.indexCast v5275
  ![2, v5287.toNat]
def k0_off172 (k0_t10 : Fin k0_t10_loop.trips) (c0_i32_2910 : BitVec 32) : Fin 2 → Nat :=
  let c3_i32_2914 : BitVec 32 := 3#32
  let v5291 : Index := Scalar.indexCast c3_i32_2914
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5292 : Index := Scalar.indexCast v5275
  ![3, v5292.toNat]
def k0_off173 (k0_t10 : Fin k0_t10_loop.trips) (c0_i32_2910 : BitVec 32) : Fin 2 → Nat :=
  let c4_i32_2915 : BitVec 32 := 4#32
  let v5296 : Index := Scalar.indexCast c4_i32_2915
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5297 : Index := Scalar.indexCast v5275
  ![4, v5297.toNat]
def k0_off174 (k0_t10 : Fin k0_t10_loop.trips) (c0_i32_2910 : BitVec 32) : Fin 2 → Nat :=
  let c5_i32_2916 : BitVec 32 := 5#32
  let v5301 : Index := Scalar.indexCast c5_i32_2916
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5302 : Index := Scalar.indexCast v5275
  ![5, v5302.toNat]
def k0_off175 (k0_t10 : Fin k0_t10_loop.trips) (c0_i32_2910 : BitVec 32) : Fin 2 → Nat :=
  let c6_i32_2917 : BitVec 32 := 6#32
  let v5306 : Index := Scalar.indexCast c6_i32_2917
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5307 : Index := Scalar.indexCast v5275
  ![6, v5307.toNat]
def k0_off176 (k0_t10 : Fin k0_t10_loop.trips) (c0_i32_2910 : BitVec 32) : Fin 2 → Nat :=
  let c7_i32_2918 : BitVec 32 := 7#32
  let v5311 : Index := Scalar.indexCast c7_i32_2918
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5312 : Index := Scalar.indexCast v5275
  ![7, v5312.toNat]
def k0_off177 (k0_t10 : Fin k0_t10_loop.trips) (c0_i32_2910 : BitVec 32) : Fin 2 → Nat :=
  let c8_i32_2919 : BitVec 32 := 8#32
  let v5316 : Index := Scalar.indexCast c8_i32_2919
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5317 : Index := Scalar.indexCast v5275
  ![8, v5317.toNat]
def k0_off178 (k0_t10 : Fin k0_t10_loop.trips) (c0_i32_2910 : BitVec 32) : Fin 2 → Nat :=
  let c9_i32_2920 : BitVec 32 := 9#32
  let v5321 : Index := Scalar.indexCast c9_i32_2920
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5322 : Index := Scalar.indexCast v5275
  ![9, v5322.toNat]
def k0_off179 (k0_t10 : Fin k0_t10_loop.trips) (c0_i32_2910 : BitVec 32) : Fin 2 → Nat :=
  let c10_i32_2921 : BitVec 32 := 10#32
  let v5326 : Index := Scalar.indexCast c10_i32_2921
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5327 : Index := Scalar.indexCast v5275
  ![10, v5327.toNat]
def k0_off180 (k0_t10 : Fin k0_t10_loop.trips) (c0_i32_2910 : BitVec 32) : Fin 2 → Nat :=
  let c11_i32_2922 : BitVec 32 := 11#32
  let v5331 : Index := Scalar.indexCast c11_i32_2922
  let c0_i32_1738 : BitVec 32 := 0#32
  let c1_i32_1740 : BitVec 32 := 1#32
  let arg14 : BitVec 32 := Scf.iv c0_i32_1738 c1_i32_1740 k0_t10
  let c128_i32 : BitVec 32 := 128#32
  let v5274 : BitVec 32 := Scalar.muli arg14 c128_i32
  let v5275 : BitVec 32 := Scalar.addi v5274 c0_i32_2910
  let v5332 : Index := Scalar.indexCast v5275
  ![11, v5332.toNat]
def k0_off181 (i : grid0.Coords) (c4_i32_1743 : BitVec 32) : Fin 3 → Nat :=
  let c0_i32_1745 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1747 : BitVec 32 := 0#32
  ![0, v3246.toNat, 0]
def k0_off182 (i : grid0.Coords) (c4_i32_1743 : BitVec 32) : Fin 3 → Nat :=
  let c1_i32_1751 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1753 : BitVec 32 := 0#32
  ![1, v3246.toNat, 0]
def k0_off183 (i : grid0.Coords) (c4_i32_1743 : BitVec 32) : Fin 3 → Nat :=
  let c2_i32_1757 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1759 : BitVec 32 := 0#32
  ![2, v3246.toNat, 0]
def k0_off184 (i : grid0.Coords) (c4_i32_1743 : BitVec 32) : Fin 3 → Nat :=
  let c3_i32_1763 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1765 : BitVec 32 := 0#32
  ![3, v3246.toNat, 0]
def k0_off185 (i : grid0.Coords) (c4_i32_1743 : BitVec 32) : Fin 3 → Nat :=
  let c4_i32_1769 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1771 : BitVec 32 := 0#32
  ![4, v3246.toNat, 0]
def k0_off186 (i : grid0.Coords) (c4_i32_1743 : BitVec 32) : Fin 3 → Nat :=
  let c5_i32_1775 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1777 : BitVec 32 := 0#32
  ![5, v3246.toNat, 0]
def k0_off187 (i : grid0.Coords) (c4_i32_1743 : BitVec 32) : Fin 3 → Nat :=
  let c6_i32_1781 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1783 : BitVec 32 := 0#32
  ![6, v3246.toNat, 0]
def k0_off188 (i : grid0.Coords) (c4_i32_1743 : BitVec 32) : Fin 3 → Nat :=
  let c7_i32_1787 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1789 : BitVec 32 := 0#32
  ![7, v3246.toNat, 0]
def k0_off189 (i : grid0.Coords) (c4_i32_1743 : BitVec 32) : Fin 3 → Nat :=
  let c8_i32_1793 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1795 : BitVec 32 := 0#32
  ![8, v3246.toNat, 0]
def k0_off190 (i : grid0.Coords) (c4_i32_1743 : BitVec 32) : Fin 3 → Nat :=
  let c9_i32_1799 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1801 : BitVec 32 := 0#32
  ![9, v3246.toNat, 0]
def k0_off191 (i : grid0.Coords) (c4_i32_1743 : BitVec 32) : Fin 3 → Nat :=
  let c10_i32_1805 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1807 : BitVec 32 := 0#32
  ![10, v3246.toNat, 0]
def k0_off192 (i : grid0.Coords) (c4_i32_1743 : BitVec 32) : Fin 3 → Nat :=
  let c11_i32_1811 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1742 : BitVec 32 := 8#32
  let v3245 : BitVec 32 := Scalar.muli v1 c8_i32_1742
  let v3246 : BitVec 32 := Scalar.addi v3245 c4_i32_1743
  let c0_i32_1813 : BitVec 32 := 0#32
  ![11, v3246.toNat, 0]
@[reducible] def k0_t11_loop : Scf.Loop 32 :=
  let c0_i32_2036 : BitVec 32 := 0#32
  let c32_i32_2037 : BitVec 32 := 32#32
  let v3635 : BitVec 32 := Scalar.addi c0_i32_2036 c32_i32_2037
  let c1_i32_2038 : BitVec 32 := 1#32
  ⟨c0_i32_2036, v3635, c1_i32_2038⟩
def k0_off193 (k0_t11 : Fin k0_t11_loop.trips) (c0_i32_2910 : BitVec 32) : Fin 2 → Nat :=
  let c12_i32_2911 : BitVec 32 := 12#32
  let v5276 : Index := Scalar.indexCast c12_i32_2911
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off194 (k0_t11 : Fin k0_t11_loop.trips) (c0_i32_2910 : BitVec 32) : Fin 2 → Nat :=
  let c13_i32_2912 : BitVec 32 := 13#32
  let v5280 : Index := Scalar.indexCast c13_i32_2912
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5281 : Index := Scalar.indexCast v5275
  ![13, v5281.toNat]
def k0_off195 (k0_t11 : Fin k0_t11_loop.trips) (c0_i32_2910 : BitVec 32) : Fin 2 → Nat :=
  let c14_i32_2913 : BitVec 32 := 14#32
  let v5284 : Index := Scalar.indexCast c14_i32_2913
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5285 : Index := Scalar.indexCast v5275
  ![14, v5285.toNat]
def k0_off196 (k0_t11 : Fin k0_t11_loop.trips) (c0_i32_2910 : BitVec 32) : Fin 2 → Nat :=
  let c15_i32_2914 : BitVec 32 := 15#32
  let v5288 : Index := Scalar.indexCast c15_i32_2914
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5289 : Index := Scalar.indexCast v5275
  ![15, v5289.toNat]
def k0_off197 (k0_t11 : Fin k0_t11_loop.trips) (c0_i32_2910 : BitVec 32) : Fin 2 → Nat :=
  let c16_i32_2915 : BitVec 32 := 16#32
  let v5292 : Index := Scalar.indexCast c16_i32_2915
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5293 : Index := Scalar.indexCast v5275
  ![16, v5293.toNat]
def k0_off198 (k0_t11 : Fin k0_t11_loop.trips) (c0_i32_2910 : BitVec 32) : Fin 2 → Nat :=
  let c17_i32_2916 : BitVec 32 := 17#32
  let v5296 : Index := Scalar.indexCast c17_i32_2916
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5297 : Index := Scalar.indexCast v5275
  ![17, v5297.toNat]
def k0_off199 (k0_t11 : Fin k0_t11_loop.trips) (c0_i32_2910 : BitVec 32) : Fin 2 → Nat :=
  let c18_i32_2917 : BitVec 32 := 18#32
  let v5300 : Index := Scalar.indexCast c18_i32_2917
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5301 : Index := Scalar.indexCast v5275
  ![18, v5301.toNat]
def k0_off200 (k0_t11 : Fin k0_t11_loop.trips) (c0_i32_2910 : BitVec 32) : Fin 2 → Nat :=
  let c19_i32_2918 : BitVec 32 := 19#32
  let v5304 : Index := Scalar.indexCast c19_i32_2918
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5305 : Index := Scalar.indexCast v5275
  ![19, v5305.toNat]
def k0_off201 (k0_t11 : Fin k0_t11_loop.trips) (c0_i32_2910 : BitVec 32) : Fin 2 → Nat :=
  let c20_i32_2919 : BitVec 32 := 20#32
  let v5308 : Index := Scalar.indexCast c20_i32_2919
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5309 : Index := Scalar.indexCast v5275
  ![20, v5309.toNat]
def k0_off202 (k0_t11 : Fin k0_t11_loop.trips) (c0_i32_2910 : BitVec 32) : Fin 2 → Nat :=
  let c21_i32_2920 : BitVec 32 := 21#32
  let v5312 : Index := Scalar.indexCast c21_i32_2920
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5313 : Index := Scalar.indexCast v5275
  ![21, v5313.toNat]
def k0_off203 (k0_t11 : Fin k0_t11_loop.trips) (c0_i32_2910 : BitVec 32) : Fin 2 → Nat :=
  let c22_i32_2921 : BitVec 32 := 22#32
  let v5316 : Index := Scalar.indexCast c22_i32_2921
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5317 : Index := Scalar.indexCast v5275
  ![22, v5317.toNat]
def k0_off204 (k0_t11 : Fin k0_t11_loop.trips) (c0_i32_2910 : BitVec 32) : Fin 2 → Nat :=
  let c23_i32_2922 : BitVec 32 := 23#32
  let v5320 : Index := Scalar.indexCast c23_i32_2922
  let c0_i32_2036 : BitVec 32 := 0#32
  let c1_i32_2038 : BitVec 32 := 1#32
  let arg14 : BitVec 32 := Scf.iv c0_i32_2036 c1_i32_2038 k0_t11
  let c128_i32 : BitVec 32 := 128#32
  let v5274 : BitVec 32 := Scalar.muli arg14 c128_i32
  let v5275 : BitVec 32 := Scalar.addi v5274 c0_i32_2910
  let v5321 : Index := Scalar.indexCast v5275
  ![23, v5321.toNat]

def k0_chk81 (v2 : IVec S16 32) (v3661 : IVec S16 32) : Prop :=
  (∀ a x, ((![v2, v3661] : Fin 2 → IVec S16 32) a x).toNat < S16x16.size a)
theorem k0_idx81_inb : ∀ (v2 : IVec S16 32) (v3661 : IVec S16 32) (k0_hw81 : k0_chk81 v2 v3661), ∀ a x, ((![v2, v3661] : Fin 2 → IVec S16 32) a x).toNat < S16x16.size a := fun v2 v3661 k0_hw81 => k0_hw81

def k0_chk82 (v2 : IVec S16 32) (v3664 : IVec S16 32) : Prop :=
  (∀ a x, ((![v2, v3664] : Fin 2 → IVec S16 32) a x).toNat < S16x16.size a)
theorem k0_idx82_inb : ∀ (v2 : IVec S16 32) (v3664 : IVec S16 32) (k0_hw82 : k0_chk82 v2 v3664), ∀ a x, ((![v2, v3664] : Fin 2 → IVec S16 32) a x).toNat < S16x16.size a := fun v2 v3664 k0_hw82 => k0_hw82

def k0_chk83 (v2 : IVec S16 32) (v3667 : IVec S16 32) : Prop :=
  (∀ a x, ((![v2, v3667] : Fin 2 → IVec S16 32) a x).toNat < S16x16.size a)
theorem k0_idx83_inb : ∀ (v2 : IVec S16 32) (v3667 : IVec S16 32) (k0_hw83 : k0_chk83 v2 v3667), ∀ a x, ((![v2, v3667] : Fin 2 → IVec S16 32) a x).toNat < S16x16.size a := fun v2 v3667 k0_hw83 => k0_hw83

def k0_chk84 (v2 : IVec S16 32) (v3670 : IVec S16 32) : Prop :=
  (∀ a x, ((![v2, v3670] : Fin 2 → IVec S16 32) a x).toNat < S16x16.size a)
theorem k0_idx84_inb : ∀ (v2 : IVec S16 32) (v3670 : IVec S16 32) (k0_hw84 : k0_chk84 v2 v3670), ∀ a x, ((![v2, v3670] : Fin 2 → IVec S16 32) a x).toNat < S16x16.size a := fun v2 v3670 k0_hw84 => k0_hw84

def k0_chk85 (v2 : IVec S16 32) (v3673 : IVec S16 32) : Prop :=
  (∀ a x, ((![v2, v3673] : Fin 2 → IVec S16 32) a x).toNat < S16x16.size a)
theorem k0_idx85_inb : ∀ (v2 : IVec S16 32) (v3673 : IVec S16 32) (k0_hw85 : k0_chk85 v2 v3673), ∀ a x, ((![v2, v3673] : Fin 2 → IVec S16 32) a x).toNat < S16x16.size a := fun v2 v3673 k0_hw85 => k0_hw85

def k0_chk86 (v2 : IVec S16 32) (v3676 : IVec S16 32) : Prop :=
  (∀ a x, ((![v2, v3676] : Fin 2 → IVec S16 32) a x).toNat < S16x16.size a)
theorem k0_idx86_inb : ∀ (v2 : IVec S16 32) (v3676 : IVec S16 32) (k0_hw86 : k0_chk86 v2 v3676), ∀ a x, ((![v2, v3676] : Fin 2 → IVec S16 32) a x).toNat < S16x16.size a := fun v2 v3676 k0_hw86 => k0_hw86

def k0_chk87 (v2 : IVec S16 32) (v3679 : IVec S16 32) : Prop :=
  (∀ a x, ((![v2, v3679] : Fin 2 → IVec S16 32) a x).toNat < S16x16.size a)
theorem k0_idx87_inb : ∀ (v2 : IVec S16 32) (v3679 : IVec S16 32) (k0_hw87 : k0_chk87 v2 v3679), ∀ a x, ((![v2, v3679] : Fin 2 → IVec S16 32) a x).toNat < S16x16.size a := fun v2 v3679 k0_hw87 => k0_hw87

def k0_chk88 (v2 : IVec S16 32) (v3682 : IVec S16 32) : Prop :=
  (∀ a x, ((![v2, v3682] : Fin 2 → IVec S16 32) a x).toNat < S16x16.size a)
theorem k0_idx88_inb : ∀ (v2 : IVec S16 32) (v3682 : IVec S16 32) (k0_hw88 : k0_chk88 v2 v3682), ∀ a x, ((![v2, v3682] : Fin 2 → IVec S16 32) a x).toNat < S16x16.size a := fun v2 v3682 k0_hw88 => k0_hw88

def k0_chk89 (v2 : IVec S16 32) (v3685 : IVec S16 32) : Prop :=
  (∀ a x, ((![v2, v3685] : Fin 2 → IVec S16 32) a x).toNat < S16x16.size a)
theorem k0_idx89_inb : ∀ (v2 : IVec S16 32) (v3685 : IVec S16 32) (k0_hw89 : k0_chk89 v2 v3685), ∀ a x, ((![v2, v3685] : Fin 2 → IVec S16 32) a x).toNat < S16x16.size a := fun v2 v3685 k0_hw89 => k0_hw89

def k0_chk90 (v2 : IVec S16 32) (v3688 : IVec S16 32) : Prop :=
  (∀ a x, ((![v2, v3688] : Fin 2 → IVec S16 32) a x).toNat < S16x16.size a)
theorem k0_idx90_inb : ∀ (v2 : IVec S16 32) (v3688 : IVec S16 32) (k0_hw90 : k0_chk90 v2 v3688), ∀ a x, ((![v2, v3688] : Fin 2 → IVec S16 32) a x).toNat < S16x16.size a := fun v2 v3688 k0_hw90 => k0_hw90

def k0_chk91 (v2 : IVec S16 32) (v3691 : IVec S16 32) : Prop :=
  (∀ a x, ((![v2, v3691] : Fin 2 → IVec S16 32) a x).toNat < S16x16.size a)
theorem k0_idx91_inb : ∀ (v2 : IVec S16 32) (v3691 : IVec S16 32) (k0_hw91 : k0_chk91 v2 v3691), ∀ a x, ((![v2, v3691] : Fin 2 → IVec S16 32) a x).toNat < S16x16.size a := fun v2 v3691 k0_hw91 => k0_hw91

def k0_chk92 (v2 : IVec S16 32) (v3694 : IVec S16 32) : Prop :=
  (∀ a x, ((![v2, v3694] : Fin 2 → IVec S16 32) a x).toNat < S16x16.size a)
theorem k0_idx92_inb : ∀ (v2 : IVec S16 32) (v3694 : IVec S16 32) (k0_hw92 : k0_chk92 v2 v3694), ∀ a x, ((![v2, v3694] : Fin 2 → IVec S16 32) a x).toNat < S16x16.size a := fun v2 v3694 k0_hw92 => k0_hw92

def k0_chk93 (v2 : IVec S16 32) (v3697 : IVec S16 32) : Prop :=
  (∀ a x, ((![v2, v3697] : Fin 2 → IVec S16 32) a x).toNat < S16x16.size a)
theorem k0_idx93_inb : ∀ (v2 : IVec S16 32) (v3697 : IVec S16 32) (k0_hw93 : k0_chk93 v2 v3697), ∀ a x, ((![v2, v3697] : Fin 2 → IVec S16 32) a x).toNat < S16x16.size a := fun v2 v3697 k0_hw93 => k0_hw93

def k0_chk94 (v2 : IVec S16 32) (v3700 : IVec S16 32) : Prop :=
  (∀ a x, ((![v2, v3700] : Fin 2 → IVec S16 32) a x).toNat < S16x16.size a)
theorem k0_idx94_inb : ∀ (v2 : IVec S16 32) (v3700 : IVec S16 32) (k0_hw94 : k0_chk94 v2 v3700), ∀ a x, ((![v2, v3700] : Fin 2 → IVec S16 32) a x).toNat < S16x16.size a := fun v2 v3700 k0_hw94 => k0_hw94

def k0_chk95 (v2 : IVec S16 32) (v3703 : IVec S16 32) : Prop :=
  (∀ a x, ((![v2, v3703] : Fin 2 → IVec S16 32) a x).toNat < S16x16.size a)
theorem k0_idx95_inb : ∀ (v2 : IVec S16 32) (v3703 : IVec S16 32) (k0_hw95 : k0_chk95 v2 v3703), ∀ a x, ((![v2, v3703] : Fin 2 → IVec S16 32) a x).toNat < S16x16.size a := fun v2 v3703 k0_hw95 => k0_hw95

def k0_chk96 (v2 : IVec S16 32) (v3706 : IVec S16 32) : Prop :=
  (∀ a x, ((![v2, v3706] : Fin 2 → IVec S16 32) a x).toNat < S16x16.size a)
theorem k0_idx96_inb : ∀ (v2 : IVec S16 32) (v3706 : IVec S16 32) (k0_hw96 : k0_chk96 v2 v3706), ∀ a x, ((![v2, v3706] : Fin 2 → IVec S16 32) a x).toNat < S16x16.size a := fun v2 v3706 k0_hw96 => k0_hw96
@[reducible] def k0_t12_loop : Scf.Loop 32 :=
  let c0_i32_2103 : BitVec 32 := 0#32
  let c32_i32_2104 : BitVec 32 := 32#32
  let v3888 : BitVec 32 := Scalar.addi c0_i32_2103 c32_i32_2104
  let c1_i32_2105 : BitVec 32 := 1#32
  ⟨c0_i32_2103, v3888, c1_i32_2105⟩
def k0_off205 (k0_t12 : Fin k0_t12_loop.trips) (c0_i32_2910 : BitVec 32) : Fin 2 → Nat :=
  let c12_i32_2911 : BitVec 32 := 12#32
  let v5276 : Index := Scalar.indexCast c12_i32_2911
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off206 (k0_t12 : Fin k0_t12_loop.trips) (c0_i32_2910 : BitVec 32) : Fin 2 → Nat :=
  let c13_i32_2912 : BitVec 32 := 13#32
  let v5281 : Index := Scalar.indexCast c13_i32_2912
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5282 : Index := Scalar.indexCast v5275
  ![13, v5282.toNat]
def k0_off207 (k0_t12 : Fin k0_t12_loop.trips) (c0_i32_2910 : BitVec 32) : Fin 2 → Nat :=
  let c14_i32_2913 : BitVec 32 := 14#32
  let v5286 : Index := Scalar.indexCast c14_i32_2913
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5287 : Index := Scalar.indexCast v5275
  ![14, v5287.toNat]
def k0_off208 (k0_t12 : Fin k0_t12_loop.trips) (c0_i32_2910 : BitVec 32) : Fin 2 → Nat :=
  let c15_i32_2914 : BitVec 32 := 15#32
  let v5291 : Index := Scalar.indexCast c15_i32_2914
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5292 : Index := Scalar.indexCast v5275
  ![15, v5292.toNat]
def k0_off209 (k0_t12 : Fin k0_t12_loop.trips) (c0_i32_2910 : BitVec 32) : Fin 2 → Nat :=
  let c16_i32_2915 : BitVec 32 := 16#32
  let v5296 : Index := Scalar.indexCast c16_i32_2915
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5297 : Index := Scalar.indexCast v5275
  ![16, v5297.toNat]
def k0_off210 (k0_t12 : Fin k0_t12_loop.trips) (c0_i32_2910 : BitVec 32) : Fin 2 → Nat :=
  let c17_i32_2916 : BitVec 32 := 17#32
  let v5301 : Index := Scalar.indexCast c17_i32_2916
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5302 : Index := Scalar.indexCast v5275
  ![17, v5302.toNat]
def k0_off211 (k0_t12 : Fin k0_t12_loop.trips) (c0_i32_2910 : BitVec 32) : Fin 2 → Nat :=
  let c18_i32_2917 : BitVec 32 := 18#32
  let v5306 : Index := Scalar.indexCast c18_i32_2917
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5307 : Index := Scalar.indexCast v5275
  ![18, v5307.toNat]
def k0_off212 (k0_t12 : Fin k0_t12_loop.trips) (c0_i32_2910 : BitVec 32) : Fin 2 → Nat :=
  let c19_i32_2918 : BitVec 32 := 19#32
  let v5311 : Index := Scalar.indexCast c19_i32_2918
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5312 : Index := Scalar.indexCast v5275
  ![19, v5312.toNat]
def k0_off213 (k0_t12 : Fin k0_t12_loop.trips) (c0_i32_2910 : BitVec 32) : Fin 2 → Nat :=
  let c20_i32_2919 : BitVec 32 := 20#32
  let v5316 : Index := Scalar.indexCast c20_i32_2919
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5317 : Index := Scalar.indexCast v5275
  ![20, v5317.toNat]
def k0_off214 (k0_t12 : Fin k0_t12_loop.trips) (c0_i32_2910 : BitVec 32) : Fin 2 → Nat :=
  let c21_i32_2920 : BitVec 32 := 21#32
  let v5321 : Index := Scalar.indexCast c21_i32_2920
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5322 : Index := Scalar.indexCast v5275
  ![21, v5322.toNat]
def k0_off215 (k0_t12 : Fin k0_t12_loop.trips) (c0_i32_2910 : BitVec 32) : Fin 2 → Nat :=
  let c22_i32_2921 : BitVec 32 := 22#32
  let v5326 : Index := Scalar.indexCast c22_i32_2921
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5327 : Index := Scalar.indexCast v5275
  ![22, v5327.toNat]
def k0_off216 (k0_t12 : Fin k0_t12_loop.trips) (c0_i32_2910 : BitVec 32) : Fin 2 → Nat :=
  let c23_i32_2922 : BitVec 32 := 23#32
  let v5331 : Index := Scalar.indexCast c23_i32_2922
  let c0_i32_2103 : BitVec 32 := 0#32
  let c1_i32_2105 : BitVec 32 := 1#32
  let arg14 : BitVec 32 := Scf.iv c0_i32_2103 c1_i32_2105 k0_t12
  let c128_i32 : BitVec 32 := 128#32
  let v5274 : BitVec 32 := Scalar.muli arg14 c128_i32
  let v5275 : BitVec 32 := Scalar.addi v5274 c0_i32_2910
  let v5332 : Index := Scalar.indexCast v5275
  ![23, v5332.toNat]
def k0_off217 (i : grid0.Coords) (c5_i32_2108 : BitVec 32) : Fin 3 → Nat :=
  let c0_i32_2110 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2112 : BitVec 32 := 0#32
  ![0, v3890.toNat, 0]
def k0_off218 (i : grid0.Coords) (c5_i32_2108 : BitVec 32) : Fin 3 → Nat :=
  let c1_i32_2116 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2118 : BitVec 32 := 0#32
  ![1, v3890.toNat, 0]
def k0_off219 (i : grid0.Coords) (c5_i32_2108 : BitVec 32) : Fin 3 → Nat :=
  let c2_i32_2122 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2124 : BitVec 32 := 0#32
  ![2, v3890.toNat, 0]
def k0_off220 (i : grid0.Coords) (c5_i32_2108 : BitVec 32) : Fin 3 → Nat :=
  let c3_i32_2128 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2130 : BitVec 32 := 0#32
  ![3, v3890.toNat, 0]
def k0_off221 (i : grid0.Coords) (c5_i32_2108 : BitVec 32) : Fin 3 → Nat :=
  let c4_i32_2134 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2136 : BitVec 32 := 0#32
  ![4, v3890.toNat, 0]
def k0_off222 (i : grid0.Coords) (c5_i32_2108 : BitVec 32) : Fin 3 → Nat :=
  let c5_i32_2140 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2142 : BitVec 32 := 0#32
  ![5, v3890.toNat, 0]
def k0_off223 (i : grid0.Coords) (c5_i32_2108 : BitVec 32) : Fin 3 → Nat :=
  let c6_i32_2146 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2148 : BitVec 32 := 0#32
  ![6, v3890.toNat, 0]
def k0_off224 (i : grid0.Coords) (c5_i32_2108 : BitVec 32) : Fin 3 → Nat :=
  let c7_i32_2152 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2154 : BitVec 32 := 0#32
  ![7, v3890.toNat, 0]
def k0_off225 (i : grid0.Coords) (c5_i32_2108 : BitVec 32) : Fin 3 → Nat :=
  let c8_i32_2158 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2160 : BitVec 32 := 0#32
  ![8, v3890.toNat, 0]
def k0_off226 (i : grid0.Coords) (c5_i32_2108 : BitVec 32) : Fin 3 → Nat :=
  let c9_i32_2164 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2166 : BitVec 32 := 0#32
  ![9, v3890.toNat, 0]
def k0_off227 (i : grid0.Coords) (c5_i32_2108 : BitVec 32) : Fin 3 → Nat :=
  let c10_i32_2170 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2172 : BitVec 32 := 0#32
  ![10, v3890.toNat, 0]
def k0_off228 (i : grid0.Coords) (c5_i32_2108 : BitVec 32) : Fin 3 → Nat :=
  let c11_i32_2176 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2107 : BitVec 32 := 8#32
  let v3889 : BitVec 32 := Scalar.muli v1 c8_i32_2107
  let v3890 : BitVec 32 := Scalar.addi v3889 c5_i32_2108
  let c0_i32_2178 : BitVec 32 := 0#32
  ![11, v3890.toNat, 0]
@[reducible] def k0_t13_loop : Scf.Loop 32 :=
  let c0_i32_2401 : BitVec 32 := 0#32
  let c32_i32_2402 : BitVec 32 := 32#32
  let v4279 : BitVec 32 := Scalar.addi c0_i32_2401 c32_i32_2402
  let c1_i32_2403 : BitVec 32 := 1#32
  ⟨c0_i32_2401, v4279, c1_i32_2403⟩
def k0_off229 (k0_t13 : Fin k0_t13_loop.trips) (c0_i32_2910 : BitVec 32) : Fin 2 → Nat :=
  let c0_i32_2911 : BitVec 32 := 0#32
  let v5276 : Index := Scalar.indexCast c0_i32_2911
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off230 (k0_t13 : Fin k0_t13_loop.trips) (c0_i32_2910 : BitVec 32) : Fin 2 → Nat :=
  let c1_i32_2912 : BitVec 32 := 1#32
  let v5280 : Index := Scalar.indexCast c1_i32_2912
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5281 : Index := Scalar.indexCast v5275
  ![1, v5281.toNat]
def k0_off231 (k0_t13 : Fin k0_t13_loop.trips) (c0_i32_2910 : BitVec 32) : Fin 2 → Nat :=
  let c2_i32_2913 : BitVec 32 := 2#32
  let v5284 : Index := Scalar.indexCast c2_i32_2913
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5285 : Index := Scalar.indexCast v5275
  ![2, v5285.toNat]
def k0_off232 (k0_t13 : Fin k0_t13_loop.trips) (c0_i32_2910 : BitVec 32) : Fin 2 → Nat :=
  let c3_i32_2914 : BitVec 32 := 3#32
  let v5288 : Index := Scalar.indexCast c3_i32_2914
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5289 : Index := Scalar.indexCast v5275
  ![3, v5289.toNat]
def k0_off233 (k0_t13 : Fin k0_t13_loop.trips) (c0_i32_2910 : BitVec 32) : Fin 2 → Nat :=
  let c4_i32_2915 : BitVec 32 := 4#32
  let v5292 : Index := Scalar.indexCast c4_i32_2915
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5293 : Index := Scalar.indexCast v5275
  ![4, v5293.toNat]
def k0_off234 (k0_t13 : Fin k0_t13_loop.trips) (c0_i32_2910 : BitVec 32) : Fin 2 → Nat :=
  let c5_i32_2916 : BitVec 32 := 5#32
  let v5296 : Index := Scalar.indexCast c5_i32_2916
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5297 : Index := Scalar.indexCast v5275
  ![5, v5297.toNat]
def k0_off235 (k0_t13 : Fin k0_t13_loop.trips) (c0_i32_2910 : BitVec 32) : Fin 2 → Nat :=
  let c6_i32_2917 : BitVec 32 := 6#32
  let v5300 : Index := Scalar.indexCast c6_i32_2917
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5301 : Index := Scalar.indexCast v5275
  ![6, v5301.toNat]
def k0_off236 (k0_t13 : Fin k0_t13_loop.trips) (c0_i32_2910 : BitVec 32) : Fin 2 → Nat :=
  let c7_i32_2918 : BitVec 32 := 7#32
  let v5304 : Index := Scalar.indexCast c7_i32_2918
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5305 : Index := Scalar.indexCast v5275
  ![7, v5305.toNat]
def k0_off237 (k0_t13 : Fin k0_t13_loop.trips) (c0_i32_2910 : BitVec 32) : Fin 2 → Nat :=
  let c8_i32_2919 : BitVec 32 := 8#32
  let v5308 : Index := Scalar.indexCast c8_i32_2919
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5309 : Index := Scalar.indexCast v5275
  ![8, v5309.toNat]
def k0_off238 (k0_t13 : Fin k0_t13_loop.trips) (c0_i32_2910 : BitVec 32) : Fin 2 → Nat :=
  let c9_i32_2920 : BitVec 32 := 9#32
  let v5312 : Index := Scalar.indexCast c9_i32_2920
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5313 : Index := Scalar.indexCast v5275
  ![9, v5313.toNat]
def k0_off239 (k0_t13 : Fin k0_t13_loop.trips) (c0_i32_2910 : BitVec 32) : Fin 2 → Nat :=
  let c10_i32_2921 : BitVec 32 := 10#32
  let v5316 : Index := Scalar.indexCast c10_i32_2921
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5317 : Index := Scalar.indexCast v5275
  ![10, v5317.toNat]
def k0_off240 (k0_t13 : Fin k0_t13_loop.trips) (c0_i32_2910 : BitVec 32) : Fin 2 → Nat :=
  let c11_i32_2922 : BitVec 32 := 11#32
  let v5320 : Index := Scalar.indexCast c11_i32_2922
  let c0_i32_2401 : BitVec 32 := 0#32
  let c1_i32_2403 : BitVec 32 := 1#32
  let arg14 : BitVec 32 := Scf.iv c0_i32_2401 c1_i32_2403 k0_t13
  let c128_i32 : BitVec 32 := 128#32
  let v5274 : BitVec 32 := Scalar.muli arg14 c128_i32
  let v5275 : BitVec 32 := Scalar.addi v5274 c0_i32_2910
  let v5321 : Index := Scalar.indexCast v5275
  ![11, v5321.toNat]

def k0_chk97 (v2 : IVec S16 32) (v4305 : IVec S16 32) : Prop :=
  (∀ a x, ((![v2, v4305] : Fin 2 → IVec S16 32) a x).toNat < S16x16.size a)
theorem k0_idx97_inb : ∀ (v2 : IVec S16 32) (v4305 : IVec S16 32) (k0_hw97 : k0_chk97 v2 v4305), ∀ a x, ((![v2, v4305] : Fin 2 → IVec S16 32) a x).toNat < S16x16.size a := fun v2 v4305 k0_hw97 => k0_hw97

def k0_chk98 (v2 : IVec S16 32) (v4308 : IVec S16 32) : Prop :=
  (∀ a x, ((![v2, v4308] : Fin 2 → IVec S16 32) a x).toNat < S16x16.size a)
theorem k0_idx98_inb : ∀ (v2 : IVec S16 32) (v4308 : IVec S16 32) (k0_hw98 : k0_chk98 v2 v4308), ∀ a x, ((![v2, v4308] : Fin 2 → IVec S16 32) a x).toNat < S16x16.size a := fun v2 v4308 k0_hw98 => k0_hw98

def k0_chk99 (v2 : IVec S16 32) (v4311 : IVec S16 32) : Prop :=
  (∀ a x, ((![v2, v4311] : Fin 2 → IVec S16 32) a x).toNat < S16x16.size a)
theorem k0_idx99_inb : ∀ (v2 : IVec S16 32) (v4311 : IVec S16 32) (k0_hw99 : k0_chk99 v2 v4311), ∀ a x, ((![v2, v4311] : Fin 2 → IVec S16 32) a x).toNat < S16x16.size a := fun v2 v4311 k0_hw99 => k0_hw99

def k0_chk100 (v2 : IVec S16 32) (v4314 : IVec S16 32) : Prop :=
  (∀ a x, ((![v2, v4314] : Fin 2 → IVec S16 32) a x).toNat < S16x16.size a)
theorem k0_idx100_inb : ∀ (v2 : IVec S16 32) (v4314 : IVec S16 32) (k0_hw100 : k0_chk100 v2 v4314), ∀ a x, ((![v2, v4314] : Fin 2 → IVec S16 32) a x).toNat < S16x16.size a := fun v2 v4314 k0_hw100 => k0_hw100

def k0_chk101 (v2 : IVec S16 32) (v4317 : IVec S16 32) : Prop :=
  (∀ a x, ((![v2, v4317] : Fin 2 → IVec S16 32) a x).toNat < S16x16.size a)
theorem k0_idx101_inb : ∀ (v2 : IVec S16 32) (v4317 : IVec S16 32) (k0_hw101 : k0_chk101 v2 v4317), ∀ a x, ((![v2, v4317] : Fin 2 → IVec S16 32) a x).toNat < S16x16.size a := fun v2 v4317 k0_hw101 => k0_hw101

def k0_chk102 (v2 : IVec S16 32) (v4320 : IVec S16 32) : Prop :=
  (∀ a x, ((![v2, v4320] : Fin 2 → IVec S16 32) a x).toNat < S16x16.size a)
theorem k0_idx102_inb : ∀ (v2 : IVec S16 32) (v4320 : IVec S16 32) (k0_hw102 : k0_chk102 v2 v4320), ∀ a x, ((![v2, v4320] : Fin 2 → IVec S16 32) a x).toNat < S16x16.size a := fun v2 v4320 k0_hw102 => k0_hw102

def k0_chk103 (v2 : IVec S16 32) (v4323 : IVec S16 32) : Prop :=
  (∀ a x, ((![v2, v4323] : Fin 2 → IVec S16 32) a x).toNat < S16x16.size a)
theorem k0_idx103_inb : ∀ (v2 : IVec S16 32) (v4323 : IVec S16 32) (k0_hw103 : k0_chk103 v2 v4323), ∀ a x, ((![v2, v4323] : Fin 2 → IVec S16 32) a x).toNat < S16x16.size a := fun v2 v4323 k0_hw103 => k0_hw103

def k0_chk104 (v2 : IVec S16 32) (v4326 : IVec S16 32) : Prop :=
  (∀ a x, ((![v2, v4326] : Fin 2 → IVec S16 32) a x).toNat < S16x16.size a)
theorem k0_idx104_inb : ∀ (v2 : IVec S16 32) (v4326 : IVec S16 32) (k0_hw104 : k0_chk104 v2 v4326), ∀ a x, ((![v2, v4326] : Fin 2 → IVec S16 32) a x).toNat < S16x16.size a := fun v2 v4326 k0_hw104 => k0_hw104

def k0_chk105 (v2 : IVec S16 32) (v4329 : IVec S16 32) : Prop :=
  (∀ a x, ((![v2, v4329] : Fin 2 → IVec S16 32) a x).toNat < S16x16.size a)
theorem k0_idx105_inb : ∀ (v2 : IVec S16 32) (v4329 : IVec S16 32) (k0_hw105 : k0_chk105 v2 v4329), ∀ a x, ((![v2, v4329] : Fin 2 → IVec S16 32) a x).toNat < S16x16.size a := fun v2 v4329 k0_hw105 => k0_hw105

def k0_chk106 (v2 : IVec S16 32) (v4332 : IVec S16 32) : Prop :=
  (∀ a x, ((![v2, v4332] : Fin 2 → IVec S16 32) a x).toNat < S16x16.size a)
theorem k0_idx106_inb : ∀ (v2 : IVec S16 32) (v4332 : IVec S16 32) (k0_hw106 : k0_chk106 v2 v4332), ∀ a x, ((![v2, v4332] : Fin 2 → IVec S16 32) a x).toNat < S16x16.size a := fun v2 v4332 k0_hw106 => k0_hw106

def k0_chk107 (v2 : IVec S16 32) (v4335 : IVec S16 32) : Prop :=
  (∀ a x, ((![v2, v4335] : Fin 2 → IVec S16 32) a x).toNat < S16x16.size a)
theorem k0_idx107_inb : ∀ (v2 : IVec S16 32) (v4335 : IVec S16 32) (k0_hw107 : k0_chk107 v2 v4335), ∀ a x, ((![v2, v4335] : Fin 2 → IVec S16 32) a x).toNat < S16x16.size a := fun v2 v4335 k0_hw107 => k0_hw107

def k0_chk108 (v2 : IVec S16 32) (v4338 : IVec S16 32) : Prop :=
  (∀ a x, ((![v2, v4338] : Fin 2 → IVec S16 32) a x).toNat < S16x16.size a)
theorem k0_idx108_inb : ∀ (v2 : IVec S16 32) (v4338 : IVec S16 32) (k0_hw108 : k0_chk108 v2 v4338), ∀ a x, ((![v2, v4338] : Fin 2 → IVec S16 32) a x).toNat < S16x16.size a := fun v2 v4338 k0_hw108 => k0_hw108

def k0_chk109 (v2 : IVec S16 32) (v4341 : IVec S16 32) : Prop :=
  (∀ a x, ((![v2, v4341] : Fin 2 → IVec S16 32) a x).toNat < S16x16.size a)
theorem k0_idx109_inb : ∀ (v2 : IVec S16 32) (v4341 : IVec S16 32) (k0_hw109 : k0_chk109 v2 v4341), ∀ a x, ((![v2, v4341] : Fin 2 → IVec S16 32) a x).toNat < S16x16.size a := fun v2 v4341 k0_hw109 => k0_hw109

def k0_chk110 (v2 : IVec S16 32) (v4344 : IVec S16 32) : Prop :=
  (∀ a x, ((![v2, v4344] : Fin 2 → IVec S16 32) a x).toNat < S16x16.size a)
theorem k0_idx110_inb : ∀ (v2 : IVec S16 32) (v4344 : IVec S16 32) (k0_hw110 : k0_chk110 v2 v4344), ∀ a x, ((![v2, v4344] : Fin 2 → IVec S16 32) a x).toNat < S16x16.size a := fun v2 v4344 k0_hw110 => k0_hw110

def k0_chk111 (v2 : IVec S16 32) (v4347 : IVec S16 32) : Prop :=
  (∀ a x, ((![v2, v4347] : Fin 2 → IVec S16 32) a x).toNat < S16x16.size a)
theorem k0_idx111_inb : ∀ (v2 : IVec S16 32) (v4347 : IVec S16 32) (k0_hw111 : k0_chk111 v2 v4347), ∀ a x, ((![v2, v4347] : Fin 2 → IVec S16 32) a x).toNat < S16x16.size a := fun v2 v4347 k0_hw111 => k0_hw111

def k0_chk112 (v2 : IVec S16 32) (v4350 : IVec S16 32) : Prop :=
  (∀ a x, ((![v2, v4350] : Fin 2 → IVec S16 32) a x).toNat < S16x16.size a)
theorem k0_idx112_inb : ∀ (v2 : IVec S16 32) (v4350 : IVec S16 32) (k0_hw112 : k0_chk112 v2 v4350), ∀ a x, ((![v2, v4350] : Fin 2 → IVec S16 32) a x).toNat < S16x16.size a := fun v2 v4350 k0_hw112 => k0_hw112
@[reducible] def k0_t14_loop : Scf.Loop 32 :=
  let c0_i32_2468 : BitVec 32 := 0#32
  let c32_i32_2469 : BitVec 32 := 32#32
  let v4532 : BitVec 32 := Scalar.addi c0_i32_2468 c32_i32_2469
  let c1_i32_2470 : BitVec 32 := 1#32
  ⟨c0_i32_2468, v4532, c1_i32_2470⟩
def k0_off241 (k0_t14 : Fin k0_t14_loop.trips) (c0_i32_2910 : BitVec 32) : Fin 2 → Nat :=
  let c0_i32_2911 : BitVec 32 := 0#32
  let v5276 : Index := Scalar.indexCast c0_i32_2911
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5277 : Index := Scalar.indexCast v5275
  ![0, v5277.toNat]
def k0_off242 (k0_t14 : Fin k0_t14_loop.trips) (c0_i32_2910 : BitVec 32) : Fin 2 → Nat :=
  let c1_i32_2912 : BitVec 32 := 1#32
  let v5281 : Index := Scalar.indexCast c1_i32_2912
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5282 : Index := Scalar.indexCast v5275
  ![1, v5282.toNat]
def k0_off243 (k0_t14 : Fin k0_t14_loop.trips) (c0_i32_2910 : BitVec 32) : Fin 2 → Nat :=
  let c2_i32_2913 : BitVec 32 := 2#32
  let v5286 : Index := Scalar.indexCast c2_i32_2913
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5287 : Index := Scalar.indexCast v5275
  ![2, v5287.toNat]
def k0_off244 (k0_t14 : Fin k0_t14_loop.trips) (c0_i32_2910 : BitVec 32) : Fin 2 → Nat :=
  let c3_i32_2914 : BitVec 32 := 3#32
  let v5291 : Index := Scalar.indexCast c3_i32_2914
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5292 : Index := Scalar.indexCast v5275
  ![3, v5292.toNat]
def k0_off245 (k0_t14 : Fin k0_t14_loop.trips) (c0_i32_2910 : BitVec 32) : Fin 2 → Nat :=
  let c4_i32_2915 : BitVec 32 := 4#32
  let v5296 : Index := Scalar.indexCast c4_i32_2915
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5297 : Index := Scalar.indexCast v5275
  ![4, v5297.toNat]
def k0_off246 (k0_t14 : Fin k0_t14_loop.trips) (c0_i32_2910 : BitVec 32) : Fin 2 → Nat :=
  let c5_i32_2916 : BitVec 32 := 5#32
  let v5301 : Index := Scalar.indexCast c5_i32_2916
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5302 : Index := Scalar.indexCast v5275
  ![5, v5302.toNat]
def k0_off247 (k0_t14 : Fin k0_t14_loop.trips) (c0_i32_2910 : BitVec 32) : Fin 2 → Nat :=
  let c6_i32_2917 : BitVec 32 := 6#32
  let v5306 : Index := Scalar.indexCast c6_i32_2917
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5307 : Index := Scalar.indexCast v5275
  ![6, v5307.toNat]
def k0_off248 (k0_t14 : Fin k0_t14_loop.trips) (c0_i32_2910 : BitVec 32) : Fin 2 → Nat :=
  let c7_i32_2918 : BitVec 32 := 7#32
  let v5311 : Index := Scalar.indexCast c7_i32_2918
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5312 : Index := Scalar.indexCast v5275
  ![7, v5312.toNat]
def k0_off249 (k0_t14 : Fin k0_t14_loop.trips) (c0_i32_2910 : BitVec 32) : Fin 2 → Nat :=
  let c8_i32_2919 : BitVec 32 := 8#32
  let v5316 : Index := Scalar.indexCast c8_i32_2919
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5317 : Index := Scalar.indexCast v5275
  ![8, v5317.toNat]
def k0_off250 (k0_t14 : Fin k0_t14_loop.trips) (c0_i32_2910 : BitVec 32) : Fin 2 → Nat :=
  let c9_i32_2920 : BitVec 32 := 9#32
  let v5321 : Index := Scalar.indexCast c9_i32_2920
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5322 : Index := Scalar.indexCast v5275
  ![9, v5322.toNat]
def k0_off251 (k0_t14 : Fin k0_t14_loop.trips) (c0_i32_2910 : BitVec 32) : Fin 2 → Nat :=
  let c10_i32_2921 : BitVec 32 := 10#32
  let v5326 : Index := Scalar.indexCast c10_i32_2921
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5327 : Index := Scalar.indexCast v5275
  ![10, v5327.toNat]
def k0_off252 (k0_t14 : Fin k0_t14_loop.trips) (c0_i32_2910 : BitVec 32) : Fin 2 → Nat :=
  let c11_i32_2922 : BitVec 32 := 11#32
  let v5331 : Index := Scalar.indexCast c11_i32_2922
  let c0_i32_2468 : BitVec 32 := 0#32
  let c1_i32_2470 : BitVec 32 := 1#32
  let arg14 : BitVec 32 := Scf.iv c0_i32_2468 c1_i32_2470 k0_t14
  let c128_i32 : BitVec 32 := 128#32
  let v5274 : BitVec 32 := Scalar.muli arg14 c128_i32
  let v5275 : BitVec 32 := Scalar.addi v5274 c0_i32_2910
  let v5332 : Index := Scalar.indexCast v5275
  ![11, v5332.toNat]
def k0_off253 (i : grid0.Coords) (c6_i32_2473 : BitVec 32) : Fin 3 → Nat :=
  let c0_i32_2475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2477 : BitVec 32 := 0#32
  ![0, v4534.toNat, 0]
def k0_off254 (i : grid0.Coords) (c6_i32_2473 : BitVec 32) : Fin 3 → Nat :=
  let c1_i32_2481 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2483 : BitVec 32 := 0#32
  ![1, v4534.toNat, 0]
def k0_off255 (i : grid0.Coords) (c6_i32_2473 : BitVec 32) : Fin 3 → Nat :=
  let c2_i32_2487 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2489 : BitVec 32 := 0#32
  ![2, v4534.toNat, 0]
def k0_off256 (i : grid0.Coords) (c6_i32_2473 : BitVec 32) : Fin 3 → Nat :=
  let c3_i32_2493 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2495 : BitVec 32 := 0#32
  ![3, v4534.toNat, 0]
def k0_off257 (i : grid0.Coords) (c6_i32_2473 : BitVec 32) : Fin 3 → Nat :=
  let c4_i32_2499 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2501 : BitVec 32 := 0#32
  ![4, v4534.toNat, 0]
def k0_off258 (i : grid0.Coords) (c6_i32_2473 : BitVec 32) : Fin 3 → Nat :=
  let c5_i32_2505 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2507 : BitVec 32 := 0#32
  ![5, v4534.toNat, 0]
def k0_off259 (i : grid0.Coords) (c6_i32_2473 : BitVec 32) : Fin 3 → Nat :=
  let c6_i32_2511 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2513 : BitVec 32 := 0#32
  ![6, v4534.toNat, 0]
def k0_off260 (i : grid0.Coords) (c6_i32_2473 : BitVec 32) : Fin 3 → Nat :=
  let c7_i32_2517 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2519 : BitVec 32 := 0#32
  ![7, v4534.toNat, 0]
def k0_off261 (i : grid0.Coords) (c6_i32_2473 : BitVec 32) : Fin 3 → Nat :=
  let c8_i32_2523 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2525 : BitVec 32 := 0#32
  ![8, v4534.toNat, 0]
def k0_off262 (i : grid0.Coords) (c6_i32_2473 : BitVec 32) : Fin 3 → Nat :=
  let c9_i32_2529 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2531 : BitVec 32 := 0#32
  ![9, v4534.toNat, 0]
def k0_off263 (i : grid0.Coords) (c6_i32_2473 : BitVec 32) : Fin 3 → Nat :=
  let c10_i32_2535 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2537 : BitVec 32 := 0#32
  ![10, v4534.toNat, 0]
def k0_off264 (i : grid0.Coords) (c6_i32_2473 : BitVec 32) : Fin 3 → Nat :=
  let c11_i32_2541 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2472 : BitVec 32 := 8#32
  let v4533 : BitVec 32 := Scalar.muli v1 c8_i32_2472
  let v4534 : BitVec 32 := Scalar.addi v4533 c6_i32_2473
  let c0_i32_2543 : BitVec 32 := 0#32
  ![11, v4534.toNat, 0]
@[reducible] def k0_t15_loop : Scf.Loop 32 :=
  let c0_i32_2620 : BitVec 32 := 0#32
  let c32_i32_2621 : BitVec 32 := 32#32
  let v4729 : BitVec 32 := Scalar.addi c0_i32_2620 c32_i32_2621
  let c1_i32_2622 : BitVec 32 := 1#32
  ⟨c0_i32_2620, v4729, c1_i32_2622⟩
def k0_off265 (k0_t15 : Fin k0_t15_loop.trips) (c0_i32_2910 : BitVec 32) : Fin 2 → Nat :=
  let c12_i32_2911 : BitVec 32 := 12#32
  let v5276 : Index := Scalar.indexCast c12_i32_2911
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off266 (k0_t15 : Fin k0_t15_loop.trips) (c0_i32_2910 : BitVec 32) : Fin 2 → Nat :=
  let c13_i32_2912 : BitVec 32 := 13#32
  let v5280 : Index := Scalar.indexCast c13_i32_2912
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5281 : Index := Scalar.indexCast v5275
  ![13, v5281.toNat]
def k0_off267 (k0_t15 : Fin k0_t15_loop.trips) (c0_i32_2910 : BitVec 32) : Fin 2 → Nat :=
  let c14_i32_2913 : BitVec 32 := 14#32
  let v5284 : Index := Scalar.indexCast c14_i32_2913
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5285 : Index := Scalar.indexCast v5275
  ![14, v5285.toNat]
def k0_off268 (k0_t15 : Fin k0_t15_loop.trips) (c0_i32_2910 : BitVec 32) : Fin 2 → Nat :=
  let c15_i32_2914 : BitVec 32 := 15#32
  let v5288 : Index := Scalar.indexCast c15_i32_2914
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5289 : Index := Scalar.indexCast v5275
  ![15, v5289.toNat]
def k0_off269 (k0_t15 : Fin k0_t15_loop.trips) (c0_i32_2910 : BitVec 32) : Fin 2 → Nat :=
  let c16_i32_2915 : BitVec 32 := 16#32
  let v5292 : Index := Scalar.indexCast c16_i32_2915
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5293 : Index := Scalar.indexCast v5275
  ![16, v5293.toNat]
def k0_off270 (k0_t15 : Fin k0_t15_loop.trips) (c0_i32_2910 : BitVec 32) : Fin 2 → Nat :=
  let c17_i32_2916 : BitVec 32 := 17#32
  let v5296 : Index := Scalar.indexCast c17_i32_2916
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5297 : Index := Scalar.indexCast v5275
  ![17, v5297.toNat]
def k0_off271 (k0_t15 : Fin k0_t15_loop.trips) (c0_i32_2910 : BitVec 32) : Fin 2 → Nat :=
  let c18_i32_2917 : BitVec 32 := 18#32
  let v5300 : Index := Scalar.indexCast c18_i32_2917
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5301 : Index := Scalar.indexCast v5275
  ![18, v5301.toNat]
def k0_off272 (k0_t15 : Fin k0_t15_loop.trips) (c0_i32_2910 : BitVec 32) : Fin 2 → Nat :=
  let c19_i32_2918 : BitVec 32 := 19#32
  let v5304 : Index := Scalar.indexCast c19_i32_2918
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5305 : Index := Scalar.indexCast v5275
  ![19, v5305.toNat]
def k0_off273 (k0_t15 : Fin k0_t15_loop.trips) (c0_i32_2910 : BitVec 32) : Fin 2 → Nat :=
  let c20_i32_2919 : BitVec 32 := 20#32
  let v5308 : Index := Scalar.indexCast c20_i32_2919
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5309 : Index := Scalar.indexCast v5275
  ![20, v5309.toNat]
def k0_off274 (k0_t15 : Fin k0_t15_loop.trips) (c0_i32_2910 : BitVec 32) : Fin 2 → Nat :=
  let c21_i32_2920 : BitVec 32 := 21#32
  let v5312 : Index := Scalar.indexCast c21_i32_2920
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5313 : Index := Scalar.indexCast v5275
  ![21, v5313.toNat]
def k0_off275 (k0_t15 : Fin k0_t15_loop.trips) (c0_i32_2910 : BitVec 32) : Fin 2 → Nat :=
  let c22_i32_2921 : BitVec 32 := 22#32
  let v5316 : Index := Scalar.indexCast c22_i32_2921
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5317 : Index := Scalar.indexCast v5275
  ![22, v5317.toNat]
def k0_off276 (k0_t15 : Fin k0_t15_loop.trips) (c0_i32_2910 : BitVec 32) : Fin 2 → Nat :=
  let c23_i32_2922 : BitVec 32 := 23#32
  let v5320 : Index := Scalar.indexCast c23_i32_2922
  let c0_i32_2620 : BitVec 32 := 0#32
  let c1_i32_2622 : BitVec 32 := 1#32
  let arg14 : BitVec 32 := Scf.iv c0_i32_2620 c1_i32_2622 k0_t15
  let c128_i32 : BitVec 32 := 128#32
  let v5274 : BitVec 32 := Scalar.muli arg14 c128_i32
  let v5275 : BitVec 32 := Scalar.addi v5274 c0_i32_2910
  let v5321 : Index := Scalar.indexCast v5275
  ![23, v5321.toNat]

def k0_chk113 (v2 : IVec S16 32) (v4755 : IVec S16 32) : Prop :=
  (∀ a x, ((![v2, v4755] : Fin 2 → IVec S16 32) a x).toNat < S16x16.size a)
theorem k0_idx113_inb : ∀ (v2 : IVec S16 32) (v4755 : IVec S16 32) (k0_hw113 : k0_chk113 v2 v4755), ∀ a x, ((![v2, v4755] : Fin 2 → IVec S16 32) a x).toNat < S16x16.size a := fun v2 v4755 k0_hw113 => k0_hw113

def k0_chk114 (v2 : IVec S16 32) (v4758 : IVec S16 32) : Prop :=
  (∀ a x, ((![v2, v4758] : Fin 2 → IVec S16 32) a x).toNat < S16x16.size a)
theorem k0_idx114_inb : ∀ (v2 : IVec S16 32) (v4758 : IVec S16 32) (k0_hw114 : k0_chk114 v2 v4758), ∀ a x, ((![v2, v4758] : Fin 2 → IVec S16 32) a x).toNat < S16x16.size a := fun v2 v4758 k0_hw114 => k0_hw114

def k0_chk115 (v2 : IVec S16 32) (v4761 : IVec S16 32) : Prop :=
  (∀ a x, ((![v2, v4761] : Fin 2 → IVec S16 32) a x).toNat < S16x16.size a)
theorem k0_idx115_inb : ∀ (v2 : IVec S16 32) (v4761 : IVec S16 32) (k0_hw115 : k0_chk115 v2 v4761), ∀ a x, ((![v2, v4761] : Fin 2 → IVec S16 32) a x).toNat < S16x16.size a := fun v2 v4761 k0_hw115 => k0_hw115

def k0_chk116 (v2 : IVec S16 32) (v4764 : IVec S16 32) : Prop :=
  (∀ a x, ((![v2, v4764] : Fin 2 → IVec S16 32) a x).toNat < S16x16.size a)
theorem k0_idx116_inb : ∀ (v2 : IVec S16 32) (v4764 : IVec S16 32) (k0_hw116 : k0_chk116 v2 v4764), ∀ a x, ((![v2, v4764] : Fin 2 → IVec S16 32) a x).toNat < S16x16.size a := fun v2 v4764 k0_hw116 => k0_hw116

def k0_chk117 (v2 : IVec S16 32) (v4767 : IVec S16 32) : Prop :=
  (∀ a x, ((![v2, v4767] : Fin 2 → IVec S16 32) a x).toNat < S16x16.size a)
theorem k0_idx117_inb : ∀ (v2 : IVec S16 32) (v4767 : IVec S16 32) (k0_hw117 : k0_chk117 v2 v4767), ∀ a x, ((![v2, v4767] : Fin 2 → IVec S16 32) a x).toNat < S16x16.size a := fun v2 v4767 k0_hw117 => k0_hw117

def k0_chk118 (v2 : IVec S16 32) (v4770 : IVec S16 32) : Prop :=
  (∀ a x, ((![v2, v4770] : Fin 2 → IVec S16 32) a x).toNat < S16x16.size a)
theorem k0_idx118_inb : ∀ (v2 : IVec S16 32) (v4770 : IVec S16 32) (k0_hw118 : k0_chk118 v2 v4770), ∀ a x, ((![v2, v4770] : Fin 2 → IVec S16 32) a x).toNat < S16x16.size a := fun v2 v4770 k0_hw118 => k0_hw118

def k0_chk119 (v2 : IVec S16 32) (v4773 : IVec S16 32) : Prop :=
  (∀ a x, ((![v2, v4773] : Fin 2 → IVec S16 32) a x).toNat < S16x16.size a)
theorem k0_idx119_inb : ∀ (v2 : IVec S16 32) (v4773 : IVec S16 32) (k0_hw119 : k0_chk119 v2 v4773), ∀ a x, ((![v2, v4773] : Fin 2 → IVec S16 32) a x).toNat < S16x16.size a := fun v2 v4773 k0_hw119 => k0_hw119

def k0_chk120 (v2 : IVec S16 32) (v4776 : IVec S16 32) : Prop :=
  (∀ a x, ((![v2, v4776] : Fin 2 → IVec S16 32) a x).toNat < S16x16.size a)
theorem k0_idx120_inb : ∀ (v2 : IVec S16 32) (v4776 : IVec S16 32) (k0_hw120 : k0_chk120 v2 v4776), ∀ a x, ((![v2, v4776] : Fin 2 → IVec S16 32) a x).toNat < S16x16.size a := fun v2 v4776 k0_hw120 => k0_hw120

def k0_chk121 (v2 : IVec S16 32) (v4779 : IVec S16 32) : Prop :=
  (∀ a x, ((![v2, v4779] : Fin 2 → IVec S16 32) a x).toNat < S16x16.size a)
theorem k0_idx121_inb : ∀ (v2 : IVec S16 32) (v4779 : IVec S16 32) (k0_hw121 : k0_chk121 v2 v4779), ∀ a x, ((![v2, v4779] : Fin 2 → IVec S16 32) a x).toNat < S16x16.size a := fun v2 v4779 k0_hw121 => k0_hw121

def k0_chk122 (v2 : IVec S16 32) (v4782 : IVec S16 32) : Prop :=
  (∀ a x, ((![v2, v4782] : Fin 2 → IVec S16 32) a x).toNat < S16x16.size a)
theorem k0_idx122_inb : ∀ (v2 : IVec S16 32) (v4782 : IVec S16 32) (k0_hw122 : k0_chk122 v2 v4782), ∀ a x, ((![v2, v4782] : Fin 2 → IVec S16 32) a x).toNat < S16x16.size a := fun v2 v4782 k0_hw122 => k0_hw122

def k0_chk123 (v2 : IVec S16 32) (v4785 : IVec S16 32) : Prop :=
  (∀ a x, ((![v2, v4785] : Fin 2 → IVec S16 32) a x).toNat < S16x16.size a)
theorem k0_idx123_inb : ∀ (v2 : IVec S16 32) (v4785 : IVec S16 32) (k0_hw123 : k0_chk123 v2 v4785), ∀ a x, ((![v2, v4785] : Fin 2 → IVec S16 32) a x).toNat < S16x16.size a := fun v2 v4785 k0_hw123 => k0_hw123

def k0_chk124 (v2 : IVec S16 32) (v4788 : IVec S16 32) : Prop :=
  (∀ a x, ((![v2, v4788] : Fin 2 → IVec S16 32) a x).toNat < S16x16.size a)
theorem k0_idx124_inb : ∀ (v2 : IVec S16 32) (v4788 : IVec S16 32) (k0_hw124 : k0_chk124 v2 v4788), ∀ a x, ((![v2, v4788] : Fin 2 → IVec S16 32) a x).toNat < S16x16.size a := fun v2 v4788 k0_hw124 => k0_hw124

def k0_chk125 (v2 : IVec S16 32) (v4791 : IVec S16 32) : Prop :=
  (∀ a x, ((![v2, v4791] : Fin 2 → IVec S16 32) a x).toNat < S16x16.size a)
theorem k0_idx125_inb : ∀ (v2 : IVec S16 32) (v4791 : IVec S16 32) (k0_hw125 : k0_chk125 v2 v4791), ∀ a x, ((![v2, v4791] : Fin 2 → IVec S16 32) a x).toNat < S16x16.size a := fun v2 v4791 k0_hw125 => k0_hw125

def k0_chk126 (v2 : IVec S16 32) (v4794 : IVec S16 32) : Prop :=
  (∀ a x, ((![v2, v4794] : Fin 2 → IVec S16 32) a x).toNat < S16x16.size a)
theorem k0_idx126_inb : ∀ (v2 : IVec S16 32) (v4794 : IVec S16 32) (k0_hw126 : k0_chk126 v2 v4794), ∀ a x, ((![v2, v4794] : Fin 2 → IVec S16 32) a x).toNat < S16x16.size a := fun v2 v4794 k0_hw126 => k0_hw126

def k0_chk127 (v2 : IVec S16 32) (v4797 : IVec S16 32) : Prop :=
  (∀ a x, ((![v2, v4797] : Fin 2 → IVec S16 32) a x).toNat < S16x16.size a)
theorem k0_idx127_inb : ∀ (v2 : IVec S16 32) (v4797 : IVec S16 32) (k0_hw127 : k0_chk127 v2 v4797), ∀ a x, ((![v2, v4797] : Fin 2 → IVec S16 32) a x).toNat < S16x16.size a := fun v2 v4797 k0_hw127 => k0_hw127

def k0_chk128 (v2 : IVec S16 32) (v4800 : IVec S16 32) : Prop :=
  (∀ a x, ((![v2, v4800] : Fin 2 → IVec S16 32) a x).toNat < S16x16.size a)
theorem k0_idx128_inb : ∀ (v2 : IVec S16 32) (v4800 : IVec S16 32) (k0_hw128 : k0_chk128 v2 v4800), ∀ a x, ((![v2, v4800] : Fin 2 → IVec S16 32) a x).toNat < S16x16.size a := fun v2 v4800 k0_hw128 => k0_hw128
@[reducible] def k0_t16_loop : Scf.Loop 32 :=
  let c0_i32_2687 : BitVec 32 := 0#32
  let c32_i32_2688 : BitVec 32 := 32#32
  let v4982 : BitVec 32 := Scalar.addi c0_i32_2687 c32_i32_2688
  let c1_i32_2689 : BitVec 32 := 1#32
  ⟨c0_i32_2687, v4982, c1_i32_2689⟩
def k0_off277 (k0_t16 : Fin k0_t16_loop.trips) (c0_i32_2910 : BitVec 32) : Fin 2 → Nat :=
  let c12_i32_2911 : BitVec 32 := 12#32
  let v5276 : Index := Scalar.indexCast c12_i32_2911
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5277 : Index := Scalar.indexCast v5275
  ![12, v5277.toNat]
def k0_off278 (k0_t16 : Fin k0_t16_loop.trips) (c0_i32_2910 : BitVec 32) : Fin 2 → Nat :=
  let c13_i32_2912 : BitVec 32 := 13#32
  let v5281 : Index := Scalar.indexCast c13_i32_2912
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5282 : Index := Scalar.indexCast v5275
  ![13, v5282.toNat]
def k0_off279 (k0_t16 : Fin k0_t16_loop.trips) (c0_i32_2910 : BitVec 32) : Fin 2 → Nat :=
  let c14_i32_2913 : BitVec 32 := 14#32
  let v5286 : Index := Scalar.indexCast c14_i32_2913
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5287 : Index := Scalar.indexCast v5275
  ![14, v5287.toNat]
def k0_off280 (k0_t16 : Fin k0_t16_loop.trips) (c0_i32_2910 : BitVec 32) : Fin 2 → Nat :=
  let c15_i32_2914 : BitVec 32 := 15#32
  let v5291 : Index := Scalar.indexCast c15_i32_2914
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5292 : Index := Scalar.indexCast v5275
  ![15, v5292.toNat]
def k0_off281 (k0_t16 : Fin k0_t16_loop.trips) (c0_i32_2910 : BitVec 32) : Fin 2 → Nat :=
  let c16_i32_2915 : BitVec 32 := 16#32
  let v5296 : Index := Scalar.indexCast c16_i32_2915
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5297 : Index := Scalar.indexCast v5275
  ![16, v5297.toNat]
def k0_off282 (k0_t16 : Fin k0_t16_loop.trips) (c0_i32_2910 : BitVec 32) : Fin 2 → Nat :=
  let c17_i32_2916 : BitVec 32 := 17#32
  let v5301 : Index := Scalar.indexCast c17_i32_2916
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5302 : Index := Scalar.indexCast v5275
  ![17, v5302.toNat]
def k0_off283 (k0_t16 : Fin k0_t16_loop.trips) (c0_i32_2910 : BitVec 32) : Fin 2 → Nat :=
  let c18_i32_2917 : BitVec 32 := 18#32
  let v5306 : Index := Scalar.indexCast c18_i32_2917
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5307 : Index := Scalar.indexCast v5275
  ![18, v5307.toNat]
def k0_off284 (k0_t16 : Fin k0_t16_loop.trips) (c0_i32_2910 : BitVec 32) : Fin 2 → Nat :=
  let c19_i32_2918 : BitVec 32 := 19#32
  let v5311 : Index := Scalar.indexCast c19_i32_2918
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5312 : Index := Scalar.indexCast v5275
  ![19, v5312.toNat]
def k0_off285 (k0_t16 : Fin k0_t16_loop.trips) (c0_i32_2910 : BitVec 32) : Fin 2 → Nat :=
  let c20_i32_2919 : BitVec 32 := 20#32
  let v5316 : Index := Scalar.indexCast c20_i32_2919
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5317 : Index := Scalar.indexCast v5275
  ![20, v5317.toNat]
def k0_off286 (k0_t16 : Fin k0_t16_loop.trips) (c0_i32_2910 : BitVec 32) : Fin 2 → Nat :=
  let c21_i32_2920 : BitVec 32 := 21#32
  let v5321 : Index := Scalar.indexCast c21_i32_2920
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5322 : Index := Scalar.indexCast v5275
  ![21, v5322.toNat]
def k0_off287 (k0_t16 : Fin k0_t16_loop.trips) (c0_i32_2910 : BitVec 32) : Fin 2 → Nat :=
  let c22_i32_2921 : BitVec 32 := 22#32
  let v5326 : Index := Scalar.indexCast c22_i32_2921
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5327 : Index := Scalar.indexCast v5275
  ![22, v5327.toNat]
def k0_off288 (k0_t16 : Fin k0_t16_loop.trips) (c0_i32_2910 : BitVec 32) : Fin 2 → Nat :=
  let c23_i32_2922 : BitVec 32 := 23#32
  let v5331 : Index := Scalar.indexCast c23_i32_2922
  let c0_i32_2687 : BitVec 32 := 0#32
  let c1_i32_2689 : BitVec 32 := 1#32
  let arg14 : BitVec 32 := Scf.iv c0_i32_2687 c1_i32_2689 k0_t16
  let c128_i32 : BitVec 32 := 128#32
  let v5274 : BitVec 32 := Scalar.muli arg14 c128_i32
  let v5275 : BitVec 32 := Scalar.addi v5274 c0_i32_2910
  let v5332 : Index := Scalar.indexCast v5275
  ![23, v5332.toNat]
def k0_off289 (i : grid0.Coords) (c7_i32_2692 : BitVec 32) : Fin 3 → Nat :=
  let c0_i32_2694 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2696 : BitVec 32 := 0#32
  ![0, v4984.toNat, 0]
def k0_off290 (i : grid0.Coords) (c7_i32_2692 : BitVec 32) : Fin 3 → Nat :=
  let c1_i32_2700 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2702 : BitVec 32 := 0#32
  ![1, v4984.toNat, 0]
def k0_off291 (i : grid0.Coords) (c7_i32_2692 : BitVec 32) : Fin 3 → Nat :=
  let c2_i32_2706 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2708 : BitVec 32 := 0#32
  ![2, v4984.toNat, 0]
def k0_off292 (i : grid0.Coords) (c7_i32_2692 : BitVec 32) : Fin 3 → Nat :=
  let c3_i32_2712 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2714 : BitVec 32 := 0#32
  ![3, v4984.toNat, 0]
def k0_off293 (i : grid0.Coords) (c7_i32_2692 : BitVec 32) : Fin 3 → Nat :=
  let c4_i32_2718 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2720 : BitVec 32 := 0#32
  ![4, v4984.toNat, 0]
def k0_off294 (i : grid0.Coords) (c7_i32_2692 : BitVec 32) : Fin 3 → Nat :=
  let c5_i32_2724 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2726 : BitVec 32 := 0#32
  ![5, v4984.toNat, 0]
def k0_off295 (i : grid0.Coords) (c7_i32_2692 : BitVec 32) : Fin 3 → Nat :=
  let c6_i32_2730 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2732 : BitVec 32 := 0#32
  ![6, v4984.toNat, 0]
def k0_off296 (i : grid0.Coords) (c7_i32_2692 : BitVec 32) : Fin 3 → Nat :=
  let c7_i32_2736 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2738 : BitVec 32 := 0#32
  ![7, v4984.toNat, 0]
def k0_off297 (i : grid0.Coords) (c7_i32_2692 : BitVec 32) : Fin 3 → Nat :=
  let c8_i32_2742 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2744 : BitVec 32 := 0#32
  ![8, v4984.toNat, 0]
def k0_off298 (i : grid0.Coords) (c7_i32_2692 : BitVec 32) : Fin 3 → Nat :=
  let c9_i32_2748 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2750 : BitVec 32 := 0#32
  ![9, v4984.toNat, 0]
def k0_off299 (i : grid0.Coords) (c7_i32_2692 : BitVec 32) : Fin 3 → Nat :=
  let c10_i32_2754 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2756 : BitVec 32 := 0#32
  ![10, v4984.toNat, 0]
def k0_off300 (i : grid0.Coords) (c7_i32_2692 : BitVec 32) : Fin 3 → Nat :=
  let c11_i32_2760 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2691 : BitVec 32 := 8#32
  let v4983 : BitVec 32 := Scalar.muli v1 c8_i32_2691
  let v4984 : BitVec 32 := Scalar.addi v4983 c7_i32_2692
  let c0_i32_2762 : BitVec 32 := 0#32
  ![11, v4984.toNat, 0]
def k0_off301 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2765 : BitVec 32 := 8#32
  let v5081 : BitVec 32 := Scalar.muli v1 c8_i32_2765
  let c0_i32_2910_r1 : BitVec 32 := 0#32
  ![v5081.toNat, 0]
abbrev grid1 : Pipeline.Grid := .none

abbrev stage1_0 : Fin 1 → Memref sig .tc .vmem S256x12x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x12x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x12x64 : Shape := ⟨3, ![256, 12, 64]⟩
abbrev S256x4096x12 : Shape := ⟨3, ![256, 4096, 12]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩
abbrev S256x12 : Shape := ⟨2, ![256, 12]⟩
abbrev S256x12x1 : Shape := ⟨3, ![256, 12, 1]⟩
abbrev S256x12x16 : Shape := ⟨3, ![256, 12, 16]⟩
abbrev S1x1x16 : Shape := ⟨3, ![1, 1, 16]⟩
abbrev S1x1x1 : Shape := ⟨3, ![1, 1, 1]⟩
abbrev S256x1x12 : Shape := ⟨3, ![256, 1, 12]⟩
abbrev S256x4096 : Shape := ⟨2, ![256, 4096]⟩
abbrev S256x4096x1 : Shape := ⟨3, ![256, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S256x12x64, .f32⟩
  | .hbm, ⟨1, _⟩ => ⟨S256x4096x12, .f32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S_, .f32⟩
  | .hbm, ⟨7, _⟩ => ⟨S256x12, .f32⟩
  | .hbm, ⟨8, _⟩ => ⟨S_, .f32⟩
  | .hbm, ⟨9, _⟩ => ⟨S256x12, .f32⟩
  | .hbm, ⟨10, _⟩ => ⟨S256x12, .f32⟩
  | .hbm, ⟨11, _⟩ => ⟨S256x12x1, .f32⟩
  | .hbm, ⟨12, _⟩ => ⟨S256x12x16, .f32⟩
  | .hbm, ⟨13, _⟩ => ⟨S1x1x16, .f32⟩
  | .hbm, ⟨14, _⟩ => ⟨S256x12x16, .f32⟩
  | .hbm, ⟨15, _⟩ => ⟨S256x12x16, .f32⟩
  | .hbm, ⟨16, _⟩ => ⟨S_, .f32⟩
  | .hbm, ⟨17, _⟩ => ⟨S256x12x16, .f32⟩
  | .hbm, ⟨18, _⟩ => ⟨S256x12x16, .f32⟩
  | .hbm, ⟨19, _⟩ => ⟨S256x12x1, .f32⟩
  | .hbm, ⟨20, _⟩ => ⟨S1x1x1, .f32⟩
  | .hbm, ⟨21, _⟩ => ⟨S256x12x1, .f32⟩
  | .hbm, ⟨22, _⟩ => ⟨S256x12x1, .f32⟩
  | .hbm, ⟨23, _⟩ => ⟨S256x12x1, .f32⟩
  | .hbm, ⟨24, _⟩ => ⟨S256x12x1, .f32⟩
  | .hbm, ⟨25, _⟩ => ⟨S_, .f32⟩
  | .hbm, ⟨26, _⟩ => ⟨S256x12x1, .f32⟩
  | .hbm, ⟨27, _⟩ => ⟨S256x12x1, .f32⟩
  | .hbm, ⟨28, _⟩ => ⟨S_, .f32⟩
  | .hbm, ⟨29, _⟩ => ⟨S256x12x1, .f32⟩
  | .hbm, ⟨30, _⟩ => ⟨S256x12x1, .f32⟩
  | .hbm, ⟨31, _⟩ => ⟨S256x12, .f32⟩
  | .hbm, ⟨32, _⟩ => ⟨S256x12x1, .f32⟩
  | .hbm, ⟨33, _⟩ => ⟨S256x12x64, .f32⟩
  | .hbm, ⟨34, _⟩ => ⟨S256x12x64, .f32⟩
  | .hbm, ⟨35, _⟩ => ⟨S256x1x12, .f32⟩
  | .hbm, ⟨36, _⟩ => ⟨S256x4096x12, .f32⟩
  | .hbm, ⟨37, _⟩ => ⟨S256x4096x12, .f32⟩
  | .hbm, ⟨38, _⟩ => ⟨S_, .f32⟩
  | .hbm, ⟨39, _⟩ => ⟨S256x4096, .f32⟩
  | .hbm, ⟨40, _⟩ => ⟨S256x4096x1, .f32⟩
  | .hbm, ⟨41, _⟩ => ⟨S_, .f32⟩
  | .hbm, ⟨42, _⟩ => ⟨S256x4096x1, .f32⟩
  | .hbm, ⟨43, _⟩ => ⟨S256x4096x1, .f32⟩
  | .hbm, ⟨44, _⟩ => ⟨S256x4096x12, .f32⟩
  | .hbm, ⟨45, _⟩ => ⟨S256x4096x12, .f32⟩
  | _, _ => ⟨S256x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Text.lean ====
/-
  The tile program written as loops: what one vector subcore runs, from the pieces it is built of — a row of the
  scratch, a row of an HBM array, one strip of sixteen lanes — each stated once, for any row, lane and batch.
-/
module

public import proofs.«01_k».proof.Proof.Gen.KernelIdeal

@[expose] public section

noncomputable section

namespace Cert.KernelIdeal.Tile

open Cert.KernelIdeal Cert.KernelIdeal.Gen
open Idealize.ShloMosaic Idealize.SL.Sem

variable {F : FTy → Type} [FloatOps F]

/-- The programs of the vector subcore at grid point `i`. -/
abbrev TP (F : FTy → Type) [FloatOps F] (i : grid0.Coords) (α : Type) :=
  Prog (TpuEff nD τ sig (Elt F) Λ₀ (.scVector ((i 0).castLE hcore0) ((i 1).castLE hsub0))) α

/-- The transposed masks, the parameters, the two results, and the tile's four scratch buffers. -/
abbrev mT : Memref sig .scVector .hbm S12x256x4096 .f32 := Memref.whole main_v5_scv
abbrev par : Memref sig .scVector .hbm S1x64 .f32 := Memref.whole main_v4_scv
abbrev pmT : Memref sig .scVector .hbm S12x256x4096 .f32 := Memref.whole main_v6_0_scv
abbrev gts : Memref sig .scVector .hbm S256x16 .f32 := Memref.whole main_v6_1_scv
abbrev mB : Memref sig .scVector .vmem S24x4096 .f32 := Memref.whole cc0_scratch0
abbrev aB : Memref sig .scVector .vmem S16x16 .f32 := Memref.whole cc0_scratch1
abbrev gB : Memref sig .scVector .vmem S8x16 .f32 := Memref.whole cc0_scratch2
abbrev pV : Memref sig .scVector .vmem S1x64 .f32 := Memref.whole cc0_scratch3

/-! ## One strip of sixteen lanes -/

/-- Where strip `s` of trip `t` of row `r` of the mask scratch starts. -/
def offM (r t s : Nat) : Fin 2 → Nat :=
  ![r, (Scalar.indexCast (Scalar.addi (Scalar.muli (Scf.iv 0#32 1#32 t) 128#32) (BitVec.ofNat 32 (16 * s)))).toNat]

theorem offM_eq (r t s : Nat) (ht : t < 32) (hs : s < 8) : offM r t s = ![r, 128 * t + 16 * s] := by
  have : (Scalar.indexCast (Scalar.addi (Scalar.muli (Scf.iv 0#32 1#32 t) 128#32) (BitVec.ofNat 32 (16 * s))) : Index).toNat
      = 128 * t + 16 * s := by
    simp only [Scalar.indexCast, Scalar.addi, Scalar.muli, Scf.iv, IntOp.addi, IntOp.muli]
    simp
    omega
  unfold offM; rw [this]

theorem offM_inb (r t s : Nat) (hr : r < 24) (ht : t < 32) (hs : s < 8) :
    ∀ a, offM r t s a + S1x16.size a ≤ S24x4096.size a := by
  rw [offM_eq r t s ht hs]
  intro a
  match a with
  | 0 => show r + 1 ≤ 24; omega
  | 1 => show 128 * t + 16 * s + 16 ≤ 4096; omega

/-- The strip of row `r` of the mask scratch. -/
abbrev strip (r : Fin 24) (t : Fin k0_t1_loop.trips) (s : Fin 8) : Rect S24x4096 :=
  Rect.unit (s := S24x4096) (offM r.val t.val s.val) S1x16.size (offM_inb _ _ _ r.isLt t.isLt s.isLt)

theorem rowInb (r : Fin 24) : ∀ a, (![r.val, 0] : Fin 2 → Nat) a + S1x4096.size a ≤ S24x4096.size a := by
  have := r.isLt
  intro a
  match a with
  | 0 => show r.val + 1 ≤ 24; omega
  | 1 => show 0 + 4096 ≤ 4096; omega

theorem accInb (k : Fin 16) : ∀ a, (![k.val, 0] : Fin 2 → Nat) a + S1x16.size a ≤ S16x16.size a := by
  have := k.isLt
  intro a
  match a with
  | 0 => show k.val + 1 ≤ 16; omega
  | 1 => show 0 + 16 ≤ 16; omega

theorem gateInb (n : Fin 8) : ∀ a, (![n.val, 0] : Fin 2 → Nat) a + S1x16.size a ≤ S8x16.size a := by
  have := n.isLt
  intro a
  match a with
  | 0 => show n.val + 1 ≤ 8; omega
  | 1 => show 0 + 16 ≤ 16; omega

variable (i : grid0.Coords)

/-- Reading a strip of a row. -/
def loadM (r : Fin 24) (t : Fin k0_t1_loop.trips) (s : Fin 8) : TP F i (FVec F S16 .f32) := do
  let v : Vec F S1x16 .f32 ← Prog.lift (.load mB (strip r t s).toLoadRect (View.loadsAt_vmem h_S1x16))
  pure (shapeCast S16 v shapeCasts_S1x16_S16)

/-- Overwriting a strip of a row (whose old lanes are read first and not used). -/
def storeM (r : Fin 24) (t : Fin k0_t1_loop.trips) (s : Fin 8) (v : FVec F S16 .f32) : TP F i PUnit := do
  let _ : Vec F S1x16 .f32 ← Prog.lift (.load mB (strip r t s).toLoadRect (View.loadsAt_vmem h_S1x16))
  Prog.lift (.store mB (strip r t s) (shapeCast S1x16 v shapeCasts_S16_S1x16) Finset.univ (View.stores_vmem_bits_univ h_S1x16 rfl) (.inl rfl))

/-- Row `k` of parity `p`'s half of the mask scratch. -/
abbrev rowOf (p : Fin 2) (k : Fin 12) : Fin 24 := ⟨12 * p.val + k.val, by omega⟩

/-- Twelve values, carried side by side. -/
abbrev Twelve (α : Type) : Type := α × α × α × α × α × α × α × α × α × α × α × α

/-- One strip's lanes added to the twelve running sums. -/
def addStrip (p : Fin 2) (s : Fin 8) (t : Fin k0_t1_loop.trips) (x : Twelve (FVec F S16 .f32)) : TP F i (Twelve (FVec F S16 .f32)) := do
  let (x0, x1, x2, x3, x4, x5, x6, x7, x8, x9, x10, x11) := x
  let y0 ← loadM i (rowOf p 0) t s
  let y1 ← loadM i (rowOf p 1) t s
  let y2 ← loadM i (rowOf p 2) t s
  let y3 ← loadM i (rowOf p 3) t s
  let y4 ← loadM i (rowOf p 4) t s
  let y5 ← loadM i (rowOf p 5) t s
  let y6 ← loadM i (rowOf p 6) t s
  let y7 ← loadM i (rowOf p 7) t s
  let y8 ← loadM i (rowOf p 8) t s
  let y9 ← loadM i (rowOf p 9) t s
  let y10 ← loadM i (rowOf p 10) t s
  let y11 ← loadM i (rowOf p 11) t s
  pure (addf x0 y0, addf x1 y1, addf x2 y2, addf x3 y3, addf x4 y4, addf x5 y5, addf x6 y6, addf x7 y7, addf x8 y8, addf x9 y9, addf x10 y10, addf x11 y11)

/-- A trip of the summing loop: its eight strips. -/
def sumTrip (p : Fin 2) (t : Fin k0_t1_loop.trips) (x : Twelve (FVec F S16 .f32)) : TP F i (Twelve (FVec F S16 .f32)) := do
  let x ← addStrip i p 0 t x
  let x ← addStrip i p 1 t x
  let x ← addStrip i p 2 t x
  let x ← addStrip i p 3 t x
  let x ← addStrip i p 4 t x
  let x ← addStrip i p 5 t x
  let x ← addStrip i p 6 t x
  addStrip i p 7 t x

/-- One strip's lanes scaled by the gates and divided by their sum over the twelve rows. -/
def scaleStrip (p : Fin 2) (g : Twelve (F .f32)) (s : Fin 8) (t : Fin k0_t1_loop.trips) : TP F i PUnit := do
  let (g0, g1, g2, g3, g4, g5, g6, g7, g8, g9, g10, g11) := g
  let y0 ← loadM i (rowOf p 0) t s
  let y1 ← loadM i (rowOf p 1) t s
  let y2 ← loadM i (rowOf p 2) t s
  let y3 ← loadM i (rowOf p 3) t s
  let y4 ← loadM i (rowOf p 4) t s
  let y5 ← loadM i (rowOf p 5) t s
  let y6 ← loadM i (rowOf p 6) t s
  let y7 ← loadM i (rowOf p 7) t s
  let y8 ← loadM i (rowOf p 8) t s
  let y9 ← loadM i (rowOf p 9) t s
  let y10 ← loadM i (rowOf p 10) t s
  let y11 ← loadM i (rowOf p 11) t s
  let z0 := mulf y0 (broadcast S16 g0)
  let z1 := mulf y1 (broadcast S16 g1)
  let z2 := mulf y2 (broadcast S16 g2)
  let z3 := mulf y3 (broadcast S16 g3)
  let z4 := mulf y4 (broadcast S16 g4)
  let z5 := mulf y5 (broadcast S16 g5)
  let z6 := mulf y6 (broadcast S16 g6)
  let z7 := mulf y7 (broadcast S16 g7)
  let z8 := mulf y8 (broadcast S16 g8)
  let z9 := mulf y9 (broadcast S16 g9)
  let z10 := mulf y10 (broadcast S16 g10)
  let z11 := mulf y11 (broadcast S16 g11)
  let s01 := addf (addf z0 z1) (addf z2 z3)
  let s23 := addf (addf z4 z5) (addf z6 z7)
  let s45 := addf (addf z8 z9) (addf z10 z11)
  let r := divf (broadcast S16 (Scalar.ofBits .f32 0x3f800000#32)) (addf (addf (addf s01 s23) s45) (broadcast S16 (Scalar.ofBits .f32 0x322bcc77#32)))
  storeM i (rowOf p 0) t s (mulf z0 r)
  storeM i (rowOf p 1) t s (mulf z1 r)
  storeM i (rowOf p 2) t s (mulf z2 r)
  storeM i (rowOf p 3) t s (mulf z3 r)
  storeM i (rowOf p 4) t s (mulf z4 r)
  storeM i (rowOf p 5) t s (mulf z5 r)
  storeM i (rowOf p 6) t s (mulf z6 r)
  storeM i (rowOf p 7) t s (mulf z7 r)
  storeM i (rowOf p 8) t s (mulf z8 r)
  storeM i (rowOf p 9) t s (mulf z9 r)
  storeM i (rowOf p 10) t s (mulf z10 r)
  storeM i (rowOf p 11) t s (mulf z11 r)

/-- A trip of the scaling loop: its eight strips. -/
def scaleTrip (p : Fin 2) (g : Twelve (F .f32)) (t : Fin k0_t1_loop.trips) : TP F i PUnit := do
  scaleStrip i p g 0 t
  scaleStrip i p g 1 t
  scaleStrip i p g 2 t
  scaleStrip i p g 3 t
  scaleStrip i p g 4 t
  scaleStrip i p g 5 t
  scaleStrip i p g 6 t
  scaleStrip i p g 7 t

/-! ## Rows on the move -/

/-- Row `r` of the mask scratch, as a copy names it. -/
abbrev mRow (r : Fin 24) : Memref sig .scVector .vmem S4096 .f32 :=
  (mB.slice (Rect.unit (s := S24x4096) ![r.val, 0] S1x4096.size (rowInb r)) (fun _ => rfl)).squeeze S4096 squeezes_S1x4096_S4096

/-- Where row `k` of this tile's batch `n` starts in an array of twelve rows a batch. -/
def offH (i : grid0.Coords) (k n : Nat) : Fin 3 → Nat :=
  ![k, (Scalar.addi (Scalar.muli (Scalar.addi (Scalar.muli (BitVec.ofNat 32 (i 1).val) 2#32) (BitVec.ofNat 32 (i 0).val)) 8#32) (BitVec.ofNat 32 n)).toNat, 0]

theorem offH_eq (i : grid0.Coords) (k n : Nat) (hn : n < 8) : offH i k n = ![k, 16 * (i 1).val + 8 * (i 0).val + n, 0] := by
  have h0 : (i 0).val < 2 := (i 0).isLt
  have h1 : (i 1).val < 16 := (i 1).isLt
  have : (Scalar.addi (Scalar.muli (Scalar.addi (Scalar.muli (BitVec.ofNat 32 (i 1).val) 2#32) (BitVec.ofNat 32 (i 0).val)) 8#32) (BitVec.ofNat 32 n)).toNat
      = 16 * (i 1).val + 8 * (i 0).val + n := by
    simp only [Scalar.addi, Scalar.muli, IntOp.addi, IntOp.muli]
    simp
    omega
  unfold offH; rw [this]

theorem offH_inb (i : grid0.Coords) (k n : Nat) (hk : k < 12) (hn : n < 8) :
    ∀ a, offH i k n a + S1x1x4096.size a ≤ S12x256x4096.size a := by
  have h0 : (i 0).val < 2 := (i 0).isLt
  have h1 : (i 1).val < 16 := (i 1).isLt
  rw [offH_eq i k n hn]
  intro a
  match a with
  | 0 => show k + 1 ≤ 12; omega
  | 1 => show 16 * (i 1).val + 8 * (i 0).val + n + 1 ≤ 256; omega
  | 2 => show 0 + 4096 ≤ 4096; omega

/-- Row `k` of this tile's batch `n` of such an array, as a copy names it. -/
abbrev hRow (A : Memref sig .scVector .hbm S12x256x4096 .f32) (k : Fin 12) (n : Fin 8) : Memref sig .scVector .hbm S4096 .f32 :=
  (A.slice (Rect.unit (s := S12x256x4096) (offH i k.val n.val) S1x1x4096.size (offH_inb i _ _ k.isLt n.isLt)) (fun _ => rfl)).squeeze S4096 squeezes_S1x1x4096_S4096

/-- The parity of a batch, -/
abbrev par2 (n : Fin 8) : Fin 2 := ⟨n.val % 2, Nat.mod_lt _ (by omega)⟩
/-- and the semaphores its loads and its stores complete on. -/
abbrev lSem : Fin 2 → DmaSem sig := fun | 0 => cc0_scratch4.sem | 1 => cc0_scratch5.sem
abbrev sSem : Fin 2 → DmaSem sig := fun | 0 => cc0_scratch6.sem | 1 => cc0_scratch7.sem

/-- The load of row `k` of batch `n` started, -/
def startLoad (n : Fin 8) (k : Fin 12) : TP F i PUnit :=
  Prog.lift (.enqueueDma (hRow i mT k n) (.here (mRow (rowOf (par2 n) k))) (.dma (lSem (par2 n))) ((View.wordExact_bits rfl).reshape _ _) ((View.wordExact_bits rfl).reshape _ _) ⟨Or.inl rfl, trivial⟩)
/-- and waited for; -/
def waitLoad (n : Fin 8) (k : Fin 12) : TP F i PUnit :=
  Prog.lift (.waitDma2 (lSem (par2 n)) (hRow i mT k n) (mRow (rowOf (par2 n) k)) ((View.wordExact_bits rfl).reshape _ _) ((View.wordExact_bits rfl).reshape _ _))
/-- its store started, -/
def startStore (n : Fin 8) (k : Fin 12) : TP F i PUnit :=
  Prog.lift (.enqueueDma (mRow (rowOf (par2 n) k)) (.here (hRow i pmT k n)) (.dma (sSem (par2 n))) ((View.wordExact_bits rfl).reshape _ _) ((View.wordExact_bits rfl).reshape _ _) ⟨Or.inl rfl, trivial⟩)
/-- and waited for. -/
def waitStore (n : Fin 8) (k : Fin 12) : TP F i PUnit :=
  Prog.lift (.waitDma2 (sSem (par2 n)) (mRow (rowOf (par2 n) k)) (hRow i pmT k n) ((View.wordExact_bits rfl).reshape _ _) ((View.wordExact_bits rfl).reshape _ _))

/-- The same done for `m` rows from `k` on, in order. -/
def rowsFrom (f : Fin 12 → TP F i PUnit) : (m k : Nat) → k + m = 12 → TP F i PUnit
  | 0, _, _ => pure ⟨⟩
  | m + 1, k, h => f ⟨k, by omega⟩ >>= fun _ => rowsFrom f m (k + 1) (by omega)

/-- The same done for the twelve rows in order. -/
def rows (f : Fin 12 → TP F i PUnit) : TP F i PUnit := rowsFrom i f 12 0 rfl

/-! ## The gates -/

/-- Lane `j` of a vector. -/
def lane (v : FVec F S16 .f32) (j : Nat) (h : S16.Slices ![j] S1) : F .f32 := extractAt ![0] (extractStridedSlice S1 ![j] v h) inpos_S1_p0

/-- The lanes' numbers, and the vector of zeros. -/
abbrev lanes : IVec S16 32 := iota .scVector S16 32 [0] iota_S16_d0_w32_scVector
abbrev zeros : FVec F S16 .f32 := broadcast S16 (Scalar.ofBits .f32 0x00000000#32)

/-- The sums written into row `k` of the sum scratch. -/
def putRow (k : Fin 16) (v : FVec F S16 .f32) : TP F i PUnit := do
  let _ : Vec F S1x16 .f32 ← Prog.lift (.load aB (Rect.unit (s := S16x16) ![k.val, 0] S1x16.size (accInb k)).toLoadRect (View.loadsAt_vmem h_S1x16))
  Prog.lift (.store aB (Rect.unit (s := S16x16) ![k.val, 0] S1x16.size (accInb k)) (shapeCast S1x16 v shapeCasts_S16_S1x16) Finset.univ (View.stores_vmem_bits_univ h_S1x16 rfl) (.inl rfl))

/-- Column `j` of the sum scratch added to a running sum. -/
def addCol (j : Nat) (x : FVec F S16 .f32) : TP F i (FVec F S16 .f32) := do
  have hw : k0_chk1 lanes (broadcast S16 (BitVec.ofNat 32 j)) :=
    (← Prog.lift (TpuEff.assume (k0_chk1 lanes (broadcast S16 (BitVec.ofNat 32 j))) (k0_chk1.dec lanes (broadcast S16 (BitVec.ofNat 32 j))))).down
  let y : Vec F S16 .f32 ← SparseCore.vectorLoadIdx aB ![lanes, broadcast S16 (BitVec.ofNat 32 j)] (k0_idx1_inb lanes (broadcast S16 (BitVec.ofNat 32 j)) hw) (View.loads_vmem h_S16x16)
  pure (addf x y)

/-- `m` columns from `j` on added. -/
def addCols : (m j : Nat) → FVec F S16 .f32 → TP F i (FVec F S16 .f32)
  | 0, _, x => pure x
  | m + 1, j, x => addCol i j x >>= addCols m (j + 1)

/-- The network's parameters as the tile holds them: two weights and a bias for each hidden unit, and the last bias. -/
structure Params (F : FTy → Type) where
  w1 : FVec F S16 .f32
  b1 : FVec F S16 .f32
  w2 : FVec F S16 .f32
  b2 : FVec F S16 .f32

/-- What hidden unit `j` adds to the running output. -/
def unit1 (P : Params F) (u : FVec F S16 .f32) (j : Nat) (h : S16.Slices ![j] S1) (acc : FVec F S16 .f32) : FVec F S16 .f32 :=
  addf acc (mulf (maximumf (addf (mulf u (broadcast S16 (lane P.w1 j h))) (broadcast S16 (lane P.b1 j h))) zeros) (broadcast S16 (lane P.w2 j h)))

/-- The network's output before the sigmoid. -/
def logit (P : Params F) (u : FVec F S16 .f32) : FVec F S16 .f32 :=
  let a := addf zeros (broadcast S16 (lane P.b2 0 slices_S16_o0_S1))
  let a := unit1 P u 0 slices_S16_o0_S1 a
  let a := unit1 P u 1 slices_S16_o1_S1 a
  let a := unit1 P u 2 slices_S16_o2_S1 a
  let a := unit1 P u 3 slices_S16_o3_S1 a
  let a := unit1 P u 4 slices_S16_o4_S1 a
  let a := unit1 P u 5 slices_S16_o5_S1 a
  let a := unit1 P u 6 slices_S16_o6_S1 a
  let a := unit1 P u 7 slices_S16_o7_S1 a
  let a := unit1 P u 8 slices_S16_o8_S1 a
  let a := unit1 P u 9 slices_S16_o9_S1 a
  let a := unit1 P u 10 slices_S16_o10_S1 a
  let a := unit1 P u 11 slices_S16_o11_S1 a
  let a := unit1 P u 12 slices_S16_o12_S1 a
  let a := unit1 P u 13 slices_S16_o13_S1 a
  let a := unit1 P u 14 slices_S16_o14_S1 a
  unit1 P u 15 slices_S16_o15_S1 a

/-- The gates of a batch from its twelve rows' sums of sums. -/
def gate (P : Params F) (uv : FVec F S16 .f32) : FVec F S16 .f32 :=
  divf (broadcast S16 (Scalar.ofBits .f32 0x3f800000#32))
    (addf (broadcast S16 (Scalar.ofBits .f32 0x3f800000#32))
      (exp (subf zeros (logit P (mulf uv (broadcast S16 (Scalar.ofBits .f32 0x39800000#32)))))))

/-- The gates of batch `n` kept in row `n` of the gate scratch. -/
def putGate (n : Fin 8) (g : FVec F S16 .f32) : TP F i PUnit := do
  let _ : Vec F S1x16 .f32 ← Prog.lift (.load gB (Rect.unit (s := S8x16) ![n.val, 0] S1x16.size (gateInb n)).toLoadRect (View.loadsAt_vmem h_S1x16))
  Prog.lift (.store gB (Rect.unit (s := S8x16) ![n.val, 0] S1x16.size (gateInb n)) (shapeCast S1x16 g shapeCasts_S16_S1x16) Finset.univ (View.stores_vmem_bits_univ h_S1x16 rfl) (.inl rfl))

/-- The first twelve lanes. -/
def twelve (g : FVec F S16 .f32) : Twelve (F .f32) :=
  (lane g 0 slices_S16_o0_S1, lane g 1 slices_S16_o1_S1, lane g 2 slices_S16_o2_S1, lane g 3 slices_S16_o3_S1,
    lane g 4 slices_S16_o4_S1, lane g 5 slices_S16_o5_S1, lane g 6 slices_S16_o6_S1, lane g 7 slices_S16_o7_S1,
    lane g 8 slices_S16_o8_S1, lane g 9 slices_S16_o9_S1, lane g 10 slices_S16_o10_S1, lane g 11 slices_S16_o11_S1)

/-! ## A batch -/

/-- The twelve rows' sums into the sum scratch. -/
def putRows (x : Twelve (FVec F S16 .f32)) : TP F i PUnit := do
  let (x0, x1, x2, x3, x4, x5, x6, x7, x8, x9, x10, x11) := x
  putRow i 0 x0
  putRow i 1 x1
  putRow i 2 x2
  putRow i 3 x3
  putRow i 4 x4
  putRow i 5 x5
  putRow i 6 x6
  putRow i 7 x7
  putRow i 8 x8
  putRow i 9 x9
  putRow i 10 x10
  putRow i 11 x11

/-- What is computed of batch `n` once its rows are in the scratch: its gates, and the rows scaled in place. -/
def compute (P : Params F) (n : Fin 8) : TP F i PUnit := do
  let x ← Scf.Loop.for k0_t1_loop k0_t1_ok (zeros, zeros, zeros, zeros, zeros, zeros, zeros, zeros, zeros, zeros, zeros, zeros) (sumTrip i (par2 n))
  putRows i x
  let uv ← addCols i 16 0 zeros
  putGate i n (gate P uv)
  Scf.Loop.for k0_t1_loop k0_t1_ok (⟨⟩ : PUnit) (fun t _ => scaleTrip i (par2 n) (twelve (gate P uv)) t)

/-- The parameters fetched, and read back from the scratch they land in. -/
def fetchParams : TP F i (Params F) := do
  Prog.lift (.enqueueDma par (.here pV) (.dma cc0_scoped0.sem) (Memref.isWhole_whole _).wordExact (Memref.isWhole_whole _).wordExact ⟨Or.inl rfl, trivial⟩)
  Prog.lift (.waitDma2 cc0_scoped0.sem par pV (Memref.isWhole_whole _).wordExact (Memref.isWhole_whole _).wordExact)
  let w1 : Vec F S1x16 .f32 ← Prog.lift (.load pV (Rect.unit (s := S1x64) ![0, 0] S1x16.size inb_S1x64_S1x16_0_0).toLoadRect (View.loadsAt_vmem h_S1x16))
  let b1 : Vec F S1x16 .f32 ← Prog.lift (.load pV (Rect.unit (s := S1x64) ![0, 16] S1x16.size inb_S1x64_S1x16_0_16).toLoadRect (View.loadsAt_vmem h_S1x16))
  let w2 : Vec F S1x16 .f32 ← Prog.lift (.load pV (Rect.unit (s := S1x64) ![0, 32] S1x16.size inb_S1x64_S1x16_0_32).toLoadRect (View.loadsAt_vmem h_S1x16))
  let b2 : Vec F S1x16 .f32 ← Prog.lift (.load pV (Rect.unit (s := S1x64) ![0, 48] S1x16.size inb_S1x64_S1x16_0_48).toLoadRect (View.loadsAt_vmem h_S1x16))
  pure ⟨shapeCast S16 w1 shapeCasts_S1x16_S16, shapeCast S16 b1 shapeCasts_S1x16_S16, shapeCast S16 w2 shapeCasts_S1x16_S16, shapeCast S16 b2 shapeCasts_S1x16_S16⟩

/-- The tile's gates written out. -/
def flushGates : TP F i PUnit := do
  Prog.lift (.enqueueDma gB (.here (gts.slice (Rect.unit (s := S256x16) (k0_off301 i) S8x16.size (k0_off301_inb i)) (fun _ => rfl))) (.dma cc0_scoped1.sem) (Memref.isWhole_whole _).wordExact (View.wordExact_bits rfl) ⟨Or.inl rfl, trivial⟩)
  Prog.lift (.waitDma2 cc0_scoped1.sem gB (gts.slice (Rect.unit (s := S256x16) (k0_off301 i) S8x16.size (k0_off301_inb i)) (fun _ => rfl)) (Memref.isWhole_whole _).wordExact (View.wordExact_bits rfl))

/-- Batch `n`, between the first and the last: its predecessor's store finished, its successor's load started; then its own. -/
def middle (P : Params F) (n m s : Fin 8) : TP F i PUnit := do
  rows i (waitStore i m)
  rows i (startLoad i s)
  rows i (waitLoad i n)
  compute i P n
  rows i (startStore i n)

/-- The tile's whole task. -/
def task : TP F i PUnit := do
  let P ← fetchParams i
  putRow i 12 zeros
  putRow i 13 zeros
  putRow i 14 zeros
  putRow i 15 zeros
  rows i (startLoad i 0)
  rows i (startLoad i 1)
  rows i (waitLoad i 0)
  compute i P 0
  rows i (startStore i 0)
  middle i P 1 0 2
  middle i P 2 1 3
  middle i P 3 2 4
  middle i P 4 3 5
  middle i P 5 4 6
  middle i P 6 5 7
  rows i (waitLoad i 7)
  compute i P 7
  rows i (startStore i 7)
  flushGates i
  rows i (waitStore i 6)
  rows i (waitStore i 7)

end Cert.KernelIdeal.Tile

end
-- ==== Proof.Readings.lean ====
/-
  The kernel's two readings have the same text: their bodies, their body tables and their threads are the same, so that
  what is proved of one over any float type holds of the other.
-/
module

public import proofs.«01_k».proof.Proof.Gen.Kernel
public import proofs.«01_k».proof.Proof.Text

@[expose] public section

set_option maxRecDepth 1000000

noncomputable section

namespace Cert.Proof

open Idealize.ShloMosaic Idealize.SL.Sem
open Cert.Kernel.Gen Cert.KernelIdeal.Gen
open Cert.KernelIdeal Cert.KernelIdeal.Tile

variable {F : FTy → Type} [FloatOps F]

section
set_option maxHeartbeats 0
/-- A tile's body. -/
theorem body_same (i : grid0.Coords) :
    Cert.Kernel.cc0__sc_body (F := F) i mT (Memref.isWhole_whole _) par (Memref.isWhole_whole _) pmT (Memref.isWhole_whole _) gts (Memref.isWhole_whole _)
        mB (Memref.isWhole_whole _) aB (Memref.isWhole_whole _) gB (Memref.isWhole_whole _) pV (Memref.isWhole_whole _)
        cc0_scratch4 cc0_scratch5 cc0_scratch6 cc0_scratch7 cc0_scoped0 cc0_scoped1
      = cc0__sc_body (F := F) i mT (Memref.isWhole_whole _) par (Memref.isWhole_whole _) pmT (Memref.isWhole_whole _) gts (Memref.isWhole_whole _)
        mB (Memref.isWhole_whole _) aB (Memref.isWhole_whole _) gB (Memref.isWhole_whole _) pV (Memref.isWhole_whole _)
        cc0_scratch4 cc0_scratch5 cc0_scratch6 cc0_scratch7 cc0_scoped0 cc0_scoped1 := rfl
end

/-- The kernels' body table, -/
theorem bodies_same : @Cert.Kernel.defs₀ F _ _ = @defs₀ F _ _ := by
  funext p ℓ a
  match p, ℓ, a with
  | .scVector c s, 0, _ =>
    exact congrArg (fun f => SparseCore.onTile Cert.KernelIdeal.Gen.hcore0 Cert.KernelIdeal.Gen.hsub0 f ⟨⟩ c s)
      (funext fun c => funext fun s => body_same (F := F) (fun | 0 => c | 1 => s | ⟨_ + 2, h⟩ => absurd h (Nat.not_lt.2 (Nat.le_add_left _ _))))
  | .scVector _ _, 1, _ => rfl
  | .scScalar _, 0, _ => rfl
  | .scScalar _, 1, _ => rfl
  | .tc, 0, _ => rfl
  | .tc, 1, _ => rfl

/-- the whole body table, -/
theorem defs_same : @Cert.Kernel.defs F _ _ = @defs F _ _ := congrArg (fun d => (sc (F := F)).defs (Pipeline.defs pcfgs d)) bodies_same

/-- and the threads. -/
theorem threads_same : @Cert.Kernel.threads F _ _ = @threads F _ _ := rfl

end Cert.Proof

end
-- ==== Proof.Base.lean ====
/-
  What every part of the proof is stated over: the program as the launch sees it, the resource algebra — the
  handshakes' rounds, the rounds of the host call's staging copies, and the counters the tiles' own copies are followed by —,
  the tile's thread and its buffers, and the indices of the arrays from their coordinates.
-/
module

public import proofs.«01_k».proof.Proof.Text
public import Idealize.ShloMosaic.Lib.Batch
public import Idealize.ShloMosaic.Lib.Pipeline.Kit
public import Idealize.ShloMosaic.Lib.Pipeline.Value
public import Idealize.ShloMosaic.Lib.SparseCore.Quiescent
public import Idealize.ShloMosaic.Lib.SparseCore.Ops

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × (Idealize.ShloMosaic.UR sig nD τ × Counters)

/-- The resources of this program. -/
abbrev MM (F : FTy → Type) : Type := MT nD τ sig (HIx 1) (Elt F) ℕ UU ℕ

/-! ## The tile -/

/-- The vector subcore at grid point `L` of device `d`. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-- The tile's rank among all of them: tile `s` of SparseCore `c` is `2 s + c`. -/
def rank (L : grid0.Coords) : ℕ := 2 * (L 1).val + (L 0).val

theorem rank_lt (L : grid0.Coords) : rank L < 32 := by
  have h0 : (L 0).val < 2 := (L 0).isLt
  have h1 : (L 1).val < 16 := (L 1).isLt
  unfold rank; omega

/-- Batch `n` of the tile's eight, among all 256. -/
def batch (L : grid0.Coords) (n : Fin 8) : Fin 256 := ⟨8 * rank L + n.val, by have := rank_lt L; omega⟩

/-! ## Indices from coordinates -/

/-- Row `r`, column `c` of the mask scratch; -/
def ixM (r : Fin 24) (c : Fin 4096) : S24x4096.Idx := fun | 0 => r | 1 => c | ⟨_ + 2, h⟩ => absurd h (Nat.not_lt.2 (Nat.le_add_left _ _))
/-- row `k`, batch `b`, column `c` of an array of twelve rows a batch; -/
def ixH (k : Fin 12) (b : Fin 256) (c : Fin 4096) : S12x256x4096.Idx :=
  fun | 0 => k | 1 => b | 2 => c | ⟨_ + 3, h⟩ => absurd h (Nat.not_lt.2 (Nat.le_add_left _ _))
/-- row `r`, lane `l` of the sum scratch; -/
def ixA (r : Fin 16) (l : Fin 16) : S16x16.Idx := fun | 0 => r | 1 => l | ⟨_ + 2, h⟩ => absurd h (Nat.not_lt.2 (Nat.le_add_left _ _))
/-- row `n`, lane `l` of the gate scratch; -/
def ixG (n : Fin 8) (l : Fin 16) : S8x16.Idx := fun | 0 => n | 1 => l | ⟨_ + 2, h⟩ => absurd h (Nat.not_lt.2 (Nat.le_add_left _ _))
/-- batch `b`, lane `l` of the gates; -/
def ixO (b : Fin 256) (l : Fin 16) : S256x16.Idx := fun | 0 => b | 1 => l | ⟨_ + 2, h⟩ => absurd h (Nat.not_lt.2 (Nat.le_add_left _ _))
/-- parameter `j`; -/
def ixP (j : Fin 64) : S1x64.Idx := fun | 0 => ⟨0, by decide⟩ | 1 => j | ⟨_ + 2, h⟩ => absurd h (Nat.not_lt.2 (Nat.le_add_left _ _))
/-- lane `l` of a vector. -/
def ixL (l : Fin 16) : S16.Idx := fun | 0 => l | ⟨_ + 1, h⟩ => absurd h (Nat.not_lt.2 (Nat.le_add_left _ _))

theorem ixM_eta (x : S24x4096.Idx) : ixM (x 0) (x 1) = x := by
  funext a; match a with | 0 => rfl | 1 => rfl
theorem ixH_eta (x : S12x256x4096.Idx) : ixH (x 0) (x 1) (x 2) = x := by
  funext a; match a with | 0 => rfl | 1 => rfl | 2 => rfl
theorem ixA_eta (x : S16x16.Idx) : ixA (x 0) (x 1) = x := by
  funext a; match a with | 0 => rfl | 1 => rfl
theorem ixG_eta (x : S8x16.Idx) : ixG (x 0) (x 1) = x := by
  funext a; match a with | 0 => rfl | 1 => rfl
theorem ixO_eta (x : S256x16.Idx) : ixO (x 0) (x 1) = x := by
  funext a; match a with | 0 => rfl | 1 => rfl
theorem ixL_eta (x : S16.Idx) : ixL (x 0) = x := by
  funext a; match a with | 0 => rfl

end Cert.KernelIdeal.Tile

end
-- ==== Proof.Model.lean ====
/-
  What the tiles compute, as functions of the transposed masks and the parameters: the sums of a row's strips, the sum
  over a vector's lanes through the sum scratch, the gates, and a scaled mask's element — in the kernel's own operations,
  in its own order, over any float type.
-/
module

public import proofs.«01_k».proof.Proof.Base

@[expose] public section

noncomputable section

namespace Cert.KernelIdeal.Tile

open Cert.KernelIdeal Cert.KernelIdeal.Gen
open Idealize.ShloMosaic

variable {F : FTy → Type} [FloatOps F]

/-- Contents of the transposed masks (and of the transposed result), and of the parameters. -/
abbrev Masks (F : FTy → Type) : Type := S12x256x4096.Idx → F .f32
abbrev Pars (F : FTy → Type) : Type := S1x64.Idx → F .f32

/-- Strip `m` of a row: sixteen lanes from column `16 m` on. -/
def stripAt (y : Fin 4096 → F .f32) (m : ℕ) : FVec F S16 .f32 := fun j => y (Fin.ofNat 4096 (16 * m + (j 0).val))

/-- The first `m` strips of a row added up, lane by lane. -/
def stripSum (y : Fin 4096 → F .f32) : ℕ → FVec F S16 .f32
  | 0 => zeros
  | m + 1 => addf (stripSum y m) (stripAt y m)

/-- The sum scratch's rows: the twelve rows' sums, then zeros. -/
def accAt (X : Fin 12 → FVec F S16 .f32) (r : Fin 16) : FVec F S16 .f32 := if h : r.val < 12 then X ⟨r.val, h⟩ else zeros

/-- The first `j` columns of the sum scratch added up: lane `l` adds along row `l`. -/
def colSum (A : Fin 16 → FVec F S16 .f32) : ℕ → FVec F S16 .f32
  | 0 => zeros
  | j + 1 => addf (colSum A j) (fun l => A (l 0) (ixL (Fin.ofNat 16 j)))

/-- Row `k` of batch `b`. -/
def bRow (M : Masks F) (b : Fin 256) (k : Fin 12) : Fin 4096 → F .f32 := fun c => M (ixH k b c)

/-- The rows' totals of batch `b`, a lane for each row. -/
def totals (M : Masks F) (b : Fin 256) : FVec F S16 .f32 := colSum (accAt fun k => stripSum (bRow M b k) 256) 16

/-- The parameters from the array they are packed in. -/
def paramsOf (P : Pars F) : Params F :=
  ⟨fun j => P (ixP ⟨(j 0).val, by have := (j 0).isLt; have : (j 0).val < 16 := this; omega⟩),
    fun j => P (ixP ⟨16 + (j 0).val, by have := (j 0).isLt; have : (j 0).val < 16 := this; omega⟩),
    fun j => P (ixP ⟨32 + (j 0).val, by have := (j 0).isLt; have : (j 0).val < 16 := this; omega⟩),
    fun j => P (ixP ⟨48 + (j 0).val, by have := (j 0).isLt; have : (j 0).val < 16 := this; omega⟩)⟩

/-- The gates of batch `b`, -/
def gatesV (M : Masks F) (P : Pars F) (b : Fin 256) : FVec F S16 .f32 := gate (paramsOf P) (totals M b)

/-- and of every batch. -/
def gOut (M : Masks F) (P : Pars F) : S256x16.Idx → F .f32 := fun x => gatesV M P (x 0) (ixL (x 1))

/-- The first twelve lanes of a vector. -/
def lane12 (g : FVec F S16 .f32) (k : Fin 12) : F .f32 := g (ixL ⟨k.val, by omega⟩)

/-- One over the sum of twelve values and the small constant. -/
def rcp (z : Fin 12 → F .f32) : F .f32 :=
  FloatOps.divf (Scalar.ofBits .f32 0x3f800000#32)
    (FloatOps.addf
      (FloatOps.addf
        (FloatOps.addf (FloatOps.addf (FloatOps.addf (z 0) (z 1)) (FloatOps.addf (z 2) (z 3)))
          (FloatOps.addf (FloatOps.addf (z 4) (z 5)) (FloatOps.addf (z 6) (z 7))))
        (FloatOps.addf (FloatOps.addf (z 8) (z 9)) (FloatOps.addf (z 10) (z 11))))
      (Scalar.ofBits .f32 0x322bcc77#32))

/-- A scaled mask's element from the twelve masks' elements there and the gates. -/
def pmVal (y : Fin 12 → F .f32) (G : Fin 12 → F .f32) (k : Fin 12) : F .f32 :=
  FloatOps.mulf (FloatOps.mulf (y k) (G k)) (rcp fun k => FloatOps.mulf (y k) (G k))

/-- The transposed result. -/
def pmOut (M : Masks F) (P : Pars F) : Masks F :=
  fun x => pmVal (fun k => M (ixH k (x 1) (x 2))) (lane12 (gatesV M P (x 1))) (x 0)

/-- Twelve values side by side. -/
def tw {α : Type} (X : Fin 12 → α) : Twelve α := (X 0, X 1, X 2, X 3, X 4, X 5, X 6, X 7, X 8, X 9, X 10, X 11)

/-- A lane taken out of a vector is that lane. -/
theorem lane_eq (v : FVec F S16 .f32) (j : ℕ) (h : S16.Slices ![j] S1) (hj : j < 16) : lane v j h = v (ixL ⟨j, hj⟩) := by
  unfold lane extractAt extractStridedSlice
  refine congrArg v (funext fun a => ?_)
  match a with
  | 0 => exact Fin.ext (Nat.add_zero _)

theorem twelve_eq (g : FVec F S16 .f32) : twelve g = tw (lane12 g) := by
  unfold twelve tw lane12
  rw [lane_eq g 0 _ (by decide), lane_eq g 1 _ (by decide), lane_eq g 2 _ (by decide), lane_eq g 3 _ (by decide),
    lane_eq g 4 _ (by decide), lane_eq g 5 _ (by decide), lane_eq g 6 _ (by decide), lane_eq g 7 _ (by decide),
    lane_eq g 8 _ (by decide), lane_eq g 9 _ (by decide), lane_eq g 10 _ (by decide), lane_eq g 11 _ (by decide)]
  rfl

end Cert.KernelIdeal.Tile

end
-- ==== Proof.Geom.lean ====
/-
  Where the tile's accesses land: a strip of the mask scratch, a row of it or of an HBM array, a row of the sum scratch or of
  the gate scratch, the tile's block of the gates — each as the coordinates it reads and writes.
-/
module

public import proofs.«01_k».proof.Proof.Model

@[expose] public section

noncomputable section

namespace Cert.KernelIdeal.Tile

open Cert.KernelIdeal Cert.KernelIdeal.Gen
open Idealize.ShloMosaic

variable {F : FTy → Type} [FloatOps F]

/-! ## Strips of the mask scratch -/

/-- One row's strip replaced. -/
def setStrip (r : Fin 24) (m : ℕ) (v : FVec F S16 .f32) (f : S24x4096.Idx → F .f32) : S24x4096.Idx → F .f32 :=
  fun x => if (x 0).val = r.val ∧ 16 * m ≤ (x 1).val ∧ (x 1).val < 16 * m + 16 then v (ixL (Fin.ofNat 16 ((x 1).val - 16 * m))) else f x

theorem off_strip (r : Fin 24) (t : Fin k0_t1_loop.trips) (s : Fin 8) :
    offM r.val t.val s.val = ![r.val, 16 * (8 * t.val + s.val)] := by
  rw [offM_eq _ _ _ t.isLt s.isLt, show 16 * (8 * t.val + s.val) = 128 * t.val + 16 * s.val by omega]

theorem read_strip (f : S24x4096.Idx → F .f32) (r : Fin 24) (t : Fin k0_t1_loop.trips) (s : Fin 8) :
    shapeCast S16 (mB.view.readAt (Elt F) (strip r t s).toLoadRect f) shapeCasts_S1x16_S16
      = stripAt (fun c => f (ixM r c)) (8 * t.val + s.val) := by
  have ht : t.val < 32 := t.isLt
  have hs : s.val < 8 := s.isLt
  funext j
  refine (shapeCast_dropUnit_apply (d := ![16]) _ _ j).trans ?_
  have hj : (j 0).val < 16 := (j 0).isLt
  refine congrArg f (funext fun a => ?_)
  apply Fin.ext
  match a with
  | 0 =>
    show offM r.val t.val s.val 0 + 1 * 0 = r.val
    rw [off_strip]; simp
  | 1 =>
    show offM r.val t.val s.val 1 + 1 * (j 0).val = (16 * (8 * t.val + s.val) + (j 0).val) % 4096
    rw [off_strip, Nat.mod_eq_of_lt (by omega)]
    show 16 * (8 * t.val + s.val) + 1 * (j 0).val = _
    omega

theorem write_strip (f : S24x4096.Idx → F .f32) (r : Fin 24) (t : Fin k0_t1_loop.trips) (s : Fin 8) (v : FVec F S16 .f32) :
    (mB.access (strip r t s)).write (Elt F) f (shapeCast S1x16 v shapeCasts_S16_S1x16) Finset.univ
      = setStrip r (8 * t.val + s.val) v f := by
  refine (View.write_whole_slice_unit (Val := Elt F) cc0_scratch0 _ _ _ f _).trans ?_
  funext x
  unfold updateSlice setStrip
  have hx1 : (x 1).val < 4096 := (x 1).isLt
  have hiff : (∀ a : Fin 2, offM r.val t.val s.val a ≤ (x a).val ∧ (x a).val < offM r.val t.val s.val a + S1x16.size a)
      ↔ ((x 0).val = r.val ∧ 16 * (8 * t.val + s.val) ≤ (x 1).val ∧ (x 1).val < 16 * (8 * t.val + s.val) + 16) := by
    rw [off_strip]
    constructor
    · intro h
      have h0 : r.val ≤ (x 0).val ∧ (x 0).val < r.val + 1 := h 0
      have h1 : 16 * (8 * t.val + s.val) ≤ (x 1).val ∧ (x 1).val < 16 * (8 * t.val + s.val) + 16 := h 1
      omega
    · rintro ⟨h0, h1, h2⟩ a
      match a with
      | 0 => exact ⟨show r.val ≤ (x 0).val by omega, show (x 0).val < r.val + 1 by omega⟩
      | 1 => exact ⟨h1, h2⟩
  by_cases h : (x 0).val = r.val ∧ 16 * (8 * t.val + s.val) ≤ (x 1).val ∧ (x 1).val < 16 * (8 * t.val + s.val) + 16
  · rw [if_pos h]
    refine (dif_pos (hiff.mpr h)).trans ?_
    refine (shapeCast_addUnit_apply (d := ![16]) _ _ _).trans ?_
    refine congrArg v (funext fun a => ?_)
    apply Fin.ext
    match a with
    | 0 =>
      show (x 1).val - offM r.val t.val s.val 1 = ((x 1).val - 16 * (8 * t.val + s.val)) % 16
      rw [off_strip, Nat.mod_eq_of_lt (by omega)]
      rfl
  · rw [if_neg h]
    exact dif_neg (fun h' => h (hiff.mp h'))

/-! ## Rows on the move -/

/-- Column `c` of a row on its own. -/
def ixR (c : Fin 4096) : S4096.Idx := fun | 0 => c | ⟨_ + 1, h⟩ => absurd h (Nat.not_lt.2 (Nat.le_add_left _ _))

theorem ixR_eta (x : S4096.Idx) : ixR (x 0) = x := by
  funext a; match a with | 0 => rfl

/-- A row with its unit axes back: the same column. -/
theorem unsq1 (h : S4096.numel = S1x4096.numel) (j : S4096.Idx) :
    (Shape.reshapeEquiv h j : S1x4096.Idx) = fun | 0 => ⟨0, by decide⟩ | 1 => j 0 | ⟨_ + 2, h⟩ => absurd h (Nat.not_lt.2 (Nat.le_add_left _ _)) := by
  apply Shape.reshapeEquiv_eq_of_rowMajor
  refine (Shape.rowMajor_val_two _).trans ((Shape.rowMajor_val_one _).trans ?_).symm
  show (j 0).val = 0 * 4096 + (j 0).val
  omega

theorem unsq2 (h : S4096.numel = S1x1x4096.numel) (j : S4096.Idx) :
    (Shape.reshapeEquiv h j : S1x1x4096.Idx)
      = fun | 0 => ⟨0, by decide⟩ | 1 => ⟨0, by decide⟩ | 2 => j 0 | ⟨_ + 3, h⟩ => absurd h (Nat.not_lt.2 (Nat.le_add_left _ _)) := by
  apply Shape.reshapeEquiv_eq_of_rowMajor
  refine (Shape.rowMajor_val_three _).trans ((Shape.rowMajor_val_one _).trans ?_).symm
  show (j 0).val = (0 * 1 + 0) * 4096 + (j 0).val
  omega

/-- Column `j` of row `r` of the scratch, in the scratch. -/
theorem emb_mRow (r : Fin 24) (j : S4096.Idx) : (mRow r).view.emb j = ixM r (j 0) := by
  show (Rect.unit (s := S24x4096) ![r.val, 0] S1x4096.size (rowInb r)).emb (Shape.reshapeEquiv _ j) = _
  rw [unsq1]
  funext a
  apply Fin.ext
  match a with
  | 0 => show r.val + 1 * 0 = r.val; omega
  | 1 => show 0 + 1 * (j 0).val = (j 0).val; omega

/-- Column `j` of row `k` of batch `n`, in its array. -/
theorem emb_rowH (L : grid0.Coords) (k : Fin 12) (n : Fin 8) (h : S4096.numel = S1x1x4096.numel) (j : S4096.Idx) :
    (Rect.unit (s := S12x256x4096) (offH L k.val n.val) S1x1x4096.size (offH_inb L _ _ k.isLt n.isLt)).emb (Shape.reshapeEquiv h j)
      = ixH k (batch L n) (j 0) := by
  rw [unsq2]
  funext a
  apply Fin.ext
  match a with
  | 0 =>
    show offH L k.val n.val 0 + 1 * 0 = k.val
    rw [offH_eq _ _ _ n.isLt]; rfl
  | 1 =>
    show offH L k.val n.val 1 + 1 * 0 = 8 * rank L + n.val
    rw [offH_eq _ _ _ n.isLt]
    show 16 * (L 1).val + 8 * (L 0).val + n.val + 1 * 0 = 8 * (2 * (L 1).val + (L 0).val) + n.val
    omega
  | 2 =>
    show offH L k.val n.val 2 + 1 * (j 0).val = (j 0).val
    rw [offH_eq _ _ _ n.isLt]
    show 0 + 1 * (j 0).val = (j 0).val
    omega

theorem emb_mT (L : grid0.Coords) (k : Fin 12) (n : Fin 8) (j : S4096.Idx) : (hRow L mT k n).view.emb j = ixH k (batch L n) (j 0) :=
  emb_rowH L k n _ j
theorem emb_pmT (L : grid0.Coords) (k : Fin 12) (n : Fin 8) (j : S4096.Idx) : (hRow L pmT k n).view.emb j = ixH k (batch L n) (j 0) :=
  emb_rowH L k n _ j

/-- The elements of row `r` of the scratch, of parity `p`'s half of it, and of row `k` of batch `b` of an array. -/
def rowM (r : Fin 24) : Finset S24x4096.Idx := Finset.univ.filter fun x => (x 0).val = r.val
def halfM (p : Fin 2) : Finset S24x4096.Idx := Finset.univ.filter fun x => (x 0).val / 12 = p.val
def rowH (k : Fin 12) (b : Fin 256) : Finset S12x256x4096.Idx := Finset.univ.filter fun x => (x 0).val = k.val ∧ (x 1).val = b.val

theorem mem_rowM {r : Fin 24} {x : S24x4096.Idx} : x ∈ rowM r ↔ (x 0).val = r.val := by simp [rowM]
theorem mem_halfM {p : Fin 2} {x : S24x4096.Idx} : x ∈ halfM p ↔ (x 0).val / 12 = p.val := by simp [halfM]
theorem mem_rowH {k : Fin 12} {b : Fin 256} {x : S12x256x4096.Idx} : x ∈ rowH k b ↔ (x 0).val = k.val ∧ (x 1).val = b.val := by
  simp [rowH]

theorem set_mRow (r : Fin 24) : (mRow r).view.set = rowM r := by
  ext x
  rw [mem_rowM]
  refine Finset.mem_map.trans ⟨?_, fun h => ⟨ixR (x 1), Finset.mem_univ _, ?_⟩⟩
  · rintro ⟨j, -, rfl⟩
    rw [emb_mRow]; rfl
  · rw [emb_mRow]
    refine Eq.trans ?_ (ixM_eta x)
    exact congrArg (fun r => ixM r (x 1)) (Fin.ext h.symm)

theorem ixH_of_mem {k : Fin 12} {b : Fin 256} {x : S12x256x4096.Idx} (h : (x 0).val = k.val ∧ (x 1).val = b.val) : ixH k b (x 2) = x := by
  refine Eq.trans ?_ (ixH_eta x)
  have h0 : k = x 0 := Fin.ext h.1.symm
  have h1 : b = x 1 := Fin.ext h.2.symm
  rw [h0, h1]

theorem set_mT (L : grid0.Coords) (k : Fin 12) (n : Fin 8) : (hRow L mT k n).view.set = rowH k (batch L n) := by
  ext x
  rw [mem_rowH]
  refine Finset.mem_map.trans ⟨?_, fun h => ⟨ixR (x 2), Finset.mem_univ _, (emb_mT L k n _).trans (ixH_of_mem h)⟩⟩
  rintro ⟨j, -, rfl⟩
  rw [emb_mT]; exact ⟨rfl, rfl⟩

theorem set_pmT (L : grid0.Coords) (k : Fin 12) (n : Fin 8) : (hRow L pmT k n).view.set = rowH k (batch L n) := by
  ext x
  rw [mem_rowH]
  refine Finset.mem_map.trans ⟨?_, fun h => ⟨ixR (x 2), Finset.mem_univ _, (emb_pmT L k n _).trans (ixH_of_mem h)⟩⟩
  rintro ⟨j, -, rfl⟩
  rw [emb_pmT]; exact ⟨rfl, rfl⟩

/-- The scratch with batch `b` of an array in it: its twelve rows, in either half. -/
def landed (M : Masks F) (b : Fin 256) : S24x4096.Idx → F .f32 := fun x => M (ixH (Fin.ofNat 12 (x 0).val) b (x 1))

theorem rowOf_mod (p : Fin 2) (k : Fin 12) : Fin.ofNat 12 (rowOf p k).val = k := by
  apply Fin.ext
  show (12 * p.val + k.val) % 12 = k.val
  have := k.isLt; omega

/-- A loaded row holds the batch's row. -/
theorem load_lands (M : Masks F) (L : grid0.Coords) (p : Fin 2) (k : Fin 12) (n : Fin 8) (f : S24x4096.Idx → F .f32)
    (x : S24x4096.Idx) (hx : x ∈ rowM (rowOf p k)) :
    (mRow (rowOf p k)).view.write (Elt F) f ((hRow L mT k n).view.read (Elt F) M) Finset.univ x = landed M (batch L n) x := by
  rw [mem_rowM] at hx
  have e : x = (mRow (rowOf p k)).view.emb (ixR (x 1)) := by
    rw [emb_mRow]
    refine (ixM_eta x).symm.trans ?_
    exact congrArg (fun r => ixM r (x 1)) (Fin.ext hx)
  rw [e, View.write_emb_of_mem _ _ (Finset.mem_univ _)]
  show M ((hRow L mT k n).view.emb (ixR (x 1))) = _
  rw [emb_mT, emb_mRow]
  show M (ixH k _ _) = M (ixH (Fin.ofNat 12 (rowOf p k).val) _ _)
  rw [rowOf_mod]
  rfl

/-- A stored row of the result is what its row of the scratch held. -/
theorem store_lands (M : Masks F) (L : grid0.Coords) (p : Fin 2) (k : Fin 12) (n : Fin 8) (f : S12x256x4096.Idx → F .f32)
    (x : S12x256x4096.Idx) (hx : x ∈ rowH k (batch L n)) :
    (hRow L pmT k n).view.write (Elt F) f ((mRow (rowOf p k)).view.read (Elt F) (landed M (batch L n))) Finset.univ x = M x := by
  rw [mem_rowH] at hx
  have e : x = (hRow L pmT k n).view.emb (ixR (x 2)) := by rw [emb_pmT]; exact (ixH_of_mem hx).symm
  rw [e, View.write_emb_of_mem _ _ (Finset.mem_univ _)]
  show landed M (batch L n) ((mRow (rowOf p k)).view.emb (ixR (x 2))) = _
  rw [emb_pmT, emb_mRow]
  show M (ixH (Fin.ofNat 12 (rowOf p k).val) _ _) = M (ixH k _ _)
  rw [rowOf_mod]
  rfl

/-- A strip of a row is inside the row's half. -/
theorem strip_half (p : Fin 2) (k : Fin 12) (t : Fin k0_t1_loop.trips) (s : Fin 8) :
    mB.view.setOn (strip (rowOf p k) t s).toLoadRect.set ⊆ halfM p := by
  intro x hx
  have hx' : x ∈ (strip (rowOf p k) t s).set := by
    obtain ⟨y, hy, rfl⟩ := Finset.mem_map.mp hx
    exact hy
  have h0 := Rect.mem_set_unit.mp hx' 0
  rw [off_strip] at h0
  have h1 : 12 * p.val + k.val ≤ (x 0).val ∧ (x 0).val < 12 * p.val + k.val + 1 := h0
  rw [mem_halfM]
  have := k.isLt; omega

theorem strip_half' (p : Fin 2) (k : Fin 12) (t : Fin k0_t1_loop.trips) (s : Fin 8) :
    (mB.access (strip (rowOf p k) t s)).setOn Finset.univ ⊆ halfM p := by
  intro x hx
  have hx' : x ∈ (strip (rowOf p k) t s).set := by
    have : x ∈ ((View.whole cc0_scratch0).slice (strip (rowOf p k) t s)).set := hx
    rwa [View.set_slice_whole] at this
  have h0 := Rect.mem_set_unit.mp hx' 0
  rw [off_strip] at h0
  have h1 : 12 * p.val + k.val ≤ (x 0).val ∧ (x 0).val < 12 * p.val + k.val + 1 := h0
  rw [mem_halfM]
  have := k.isLt; omega

/-! ## Rows of sixteen lanes -/

/-- One row of a scratch of sixteen lanes a row replaced. -/
def setRow {m : ℕ} (k : ℕ) (v : FVec F S16 .f32) (f : (⟨2, ![m, 16]⟩ : Shape).Idx → F .f32) : (⟨2, ![m, 16]⟩ : Shape).Idx → F .f32 :=
  fun x => if (x 0).val = k then v (ixL (x 1)) else f x

theorem update_row {m : ℕ} (k : ℕ) (v : FVec F S16 .f32) (f : (⟨2, ![m, 16]⟩ : Shape).Idx → F .f32)
    (h : (⟨2, ![m, 16]⟩ : Shape).Slices ![k, 0] S1x16) :
    updateSlice (s := ⟨2, ![m, 16]⟩) (u := S1x16) f (shapeCast S1x16 v shapeCasts_S16_S1x16) ![k, 0] h = setRow k v f := by
  funext x
  unfold updateSlice setRow
  have hx1 : (x 1).val < 16 := (x 1).isLt
  by_cases hx : (x 0).val = k
  · rw [if_pos hx]
    refine (dif_pos (fun a => ?_)).trans ?_
    · match a with
      | 0 => exact ⟨show k ≤ (x 0).val by omega, show (x 0).val < k + 1 by omega⟩
      | 1 => exact ⟨show 0 ≤ (x 1).val by omega, show (x 1).val < 0 + 16 by omega⟩
    · refine (shapeCast_addUnit_apply (d := ![16]) _ _ _).trans ?_
      refine congrArg v (funext fun a => ?_)
      match a with
      | 0 => exact Fin.ext (Nat.sub_zero _)
  · rw [if_neg hx]
    refine dif_neg fun h' => hx ?_
    have h0 : k ≤ (x 0).val ∧ (x 0).val < k + 1 := h' 0
    omega

theorem write_acc (f : S16x16.Idx → F .f32) (k : Fin 16) (v : FVec F S16 .f32) :
    (aB.access (Rect.unit (s := S16x16) ![k.val, 0] S1x16.size (accInb k))).write (Elt F) f (shapeCast S1x16 v shapeCasts_S16_S1x16) Finset.univ
      = setRow (m := 16) k.val v f :=
  (View.write_whole_slice_unit (Val := Elt F) cc0_scratch1 _ _ _ f _).trans (update_row (m := 16) k.val v f _)

theorem write_gate (f : S8x16.Idx → F .f32) (n : Fin 8) (v : FVec F S16 .f32) :
    (gB.access (Rect.unit (s := S8x16) ![n.val, 0] S1x16.size (gateInb n))).write (Elt F) f (shapeCast S1x16 v shapeCasts_S16_S1x16) Finset.univ
      = setRow (m := 8) n.val v f :=
  (View.write_whole_slice_unit (Val := Elt F) cc0_scratch2 _ _ _ f _).trans (update_row (m := 8) n.val v f _)

/-- A column of the sum scratch, gathered. -/
theorem gather_col (f : S16x16.Idx → F .f32) (j : ℕ) (hj : j < 16)
    (h : ∀ a x, ((![lanes, broadcast S16 (BitVec.ofNat 32 j)] : Fin 2 → IVec S16 32) a x).toNat < S16x16.size a) :
    loadIdx ((aB.access (.whole S16x16)).read (Elt F) f) ![lanes, broadcast S16 (BitVec.ofNat 32 j)] h
      = fun l => f (ixA (l 0) ⟨j, hj⟩) := by
  funext l
  have hl : (l 0).val < 16 := (l 0).isLt
  refine congrArg f (funext fun a => ?_)
  apply Fin.ext
  match a with
  | 0 =>
    show 0 + 1 * (BitVec.ofNat 32 (0 * 16 + (l 0).val)).toNat = (l 0).val
    rw [BitVec.toNat_ofNat, Nat.mod_eq_of_lt (by omega)]; omega
  | 1 =>
    show 0 + 1 * (BitVec.ofNat 32 j).toNat = j
    rw [BitVec.toNat_ofNat, Nat.mod_eq_of_lt (by omega)]; omega

theorem chk_col (j : ℕ) (hj : j < 16) : k0_chk1 lanes (broadcast S16 (BitVec.ofNat 32 j)) := by
  intro a l
  have hl : (l 0).val < 16 := (l 0).isLt
  match a with
  | 0 =>
    show (BitVec.ofNat 32 (0 * 16 + (l 0).val)).toNat < 16
    rw [BitVec.toNat_ofNat, Nat.mod_eq_of_lt (by omega)]; omega
  | 1 =>
    show (BitVec.ofNat 32 j).toNat < 16
    rw [BitVec.toNat_ofNat, Nat.mod_eq_of_lt (by omega)]; omega

/-! ## The parameters and the gates -/

/-- Sixteen parameters read back. -/
theorem read_par (f : S1x64.Idx → F .f32) (c : ℕ) (hc : c + 16 ≤ 64) (h : ∀ a, (![0, c] : Fin 2 → ℕ) a + S1x16.size a ≤ S1x64.size a) :
    shapeCast S16 (pV.view.readAt (Elt F) (Rect.unit (s := S1x64) ![0, c] S1x16.size h).toLoadRect f) shapeCasts_S1x16_S16
      = fun j => f (ixP ⟨c + (j 0).val, by have : (j 0).val < 16 := (j 0).isLt; omega⟩) := by
  funext j
  refine (shapeCast_dropUnit_apply (d := ![16]) _ _ j).trans ?_
  refine congrArg f (funext fun a => ?_)
  apply Fin.ext
  match a with
  | 0 => rfl
  | 1 => show c + 1 * (j 0).val = c + (j 0).val; omega

/-- The tile's block of the gates. -/
abbrev gBlk (L : grid0.Coords) : Memref sig .scVector .hbm S8x16 .f32 :=
  gts.slice (Rect.unit (s := S256x16) (k0_off301 L) S8x16.size (k0_off301_inb L)) (fun _ => rfl)

def blkO (L : grid0.Coords) : Finset S256x16.Idx := Finset.univ.filter fun x => (x 0).val / 8 = rank L

theorem mem_blkO {L : grid0.Coords} {x : S256x16.Idx} : x ∈ blkO L ↔ (x 0).val / 8 = rank L := by simp [blkO]

theorem off301 (L : grid0.Coords) : k0_off301 L = ![8 * rank L, 0] := by
  have h0 : (L 0).val < 2 := (L 0).isLt
  have h1 : (L 1).val < 16 := (L 1).isLt
  have : (Scalar.muli (Scalar.addi (Scalar.muli (BitVec.ofNat 32 (L 1).val) 2#32) (BitVec.ofNat 32 (L 0).val)) 8#32).toNat = 8 * rank L := by
    unfold rank
    simp only [Scalar.addi, Scalar.muli, IntOp.addi, IntOp.muli]
    simp
    omega
  show ![_, 0] = _
  rw [this]

theorem emb_gBlk (L : grid0.Coords) (y : S8x16.Idx) : (gBlk L).view.emb y = ixO (batch L (y 0)) (y 1) := by
  funext a
  apply Fin.ext
  match a with
  | 0 =>
    show k0_off301 L 0 + 1 * (y 0).val = 8 * rank L + (y 0).val
    rw [off301]
    show 8 * rank L + 1 * (y 0).val = 8 * rank L + (y 0).val
    omega
  | 1 =>
    show k0_off301 L 1 + 1 * (y 1).val = (y 1).val
    rw [off301]
    show 0 + 1 * (y 1).val = (y 1).val
    omega

theorem ixO_of_blk {L : grid0.Coords} {x : S256x16.Idx} (h : (x 0).val / 8 = rank L) :
    ixO (batch L ⟨(x 0).val % 8, Nat.mod_lt _ (by decide)⟩) (x 1) = x := by
  refine Eq.trans ?_ (ixO_eta x)
  refine congrArg (fun b => ixO b (x 1)) (Fin.ext ?_)
  show 8 * rank L + (x 0).val % 8 = (x 0).val
  omega

theorem set_gBlk (L : grid0.Coords) : (gBlk L).view.set = blkO L := by
  ext x
  rw [mem_blkO]
  refine Finset.mem_map.trans ⟨?_, fun h => ⟨ixG ⟨(x 0).val % 8, Nat.mod_lt _ (by decide)⟩ (x 1), Finset.mem_univ _, (emb_gBlk L _).trans (ixO_of_blk h)⟩⟩
  rintro ⟨y, -, rfl⟩
  rw [emb_gBlk]
  have hy : (y 0).val < 8 := (y 0).isLt
  show (8 * rank L + (y 0).val) / 8 = rank L
  omega

/-- The gate scratch with the tile's eight batches' gates in it, -/
def gScr (M : Masks F) (P : Pars F) (L : grid0.Coords) : S8x16.Idx → F .f32 := fun x => gatesV M P (batch L (x 0)) (ixL (x 1))

/-- and the block it is written to. -/
theorem flush_lands (M : Masks F) (P : Pars F) (L : grid0.Coords) (f : S256x16.Idx → F .f32) (x : S256x16.Idx) (hx : x ∈ blkO L) :
    (gBlk L).view.write (Elt F) f (gB.view.read (Elt F) (gScr M P L)) Finset.univ x = gOut M P x := by
  rw [mem_blkO] at hx
  obtain ⟨y, rfl⟩ : ∃ y, x = (gBlk L).view.emb y := ⟨_, ((emb_gBlk L (ixG ⟨(x 0).val % 8, Nat.mod_lt _ (by decide)⟩ (x 1))).trans (ixO_of_blk hx)).symm⟩
  rw [View.write_emb_of_mem _ _ (Finset.mem_univ _)]
  show gScr M P L (gB.view.emb y) = _
  rw [emb_gBlk]
  rfl

end Cert.KernelIdeal.Tile

end
-- ==== Proof.Compute.lean ====
/-
  What a tile computes of one batch: the rows' strips summed, the sums written and gathered back by columns, the gates kept,
  the rows scaled in place — each step from the contents of the scratch it reads to the contents it leaves.
-/
module

public import proofs.«01_k».proof.Proof.Geom
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The tile at `L` of device `d` running a program, to a postcondition. -/
abbrev Wp (d : Dev nD) (L : grid0.Coords) {α : Type} (p : TP F L α) (Q : α → sProp 𝕄) : sProp 𝕄 :=
  wp frame (wpE (defs₀ (F := F)) 𝒱₀ (tile d L) none) Set.univ p Q

variable (d : Dev nD) (L : grid0.Coords)

/-- Parity `p`'s half of the mask scratch holding `f`; the sum scratch; the gate scratch. -/
def MBp (p : Fin 2) (f : S24x4096.Idx → F .f32) : sProp 𝕄 := (mB.view.loc (tile d L)) ↦[halfM p]{fullShare} f
def AB (f : S16x16.Idx → F .f32) : sProp 𝕄 := (aB.view.loc (tile d L)) ↦{fullShare} f
def GB (f : S8x16.Idx → F .f32) : sProp 𝕄 := (gB.view.loc (tile d L)) ↦{fullShare} f

variable {d L}

/-- One program after another. -/
theorem wp_seq {α β : Type} {p : TP F L α} {k : α → TP F L β} {A : sProp 𝕄} {R : α → sProp 𝕄} {Q : β → sProp 𝕄}
    (h : A ⊢ Wp d L p R) (hk : ∀ v, R v ⊢ Wp d L (k v) Q) : A ⊢ Wp d L (p >>= k) Q := by
  unfold Wp
  rw [wp_bind]
  exact h.trans (wp_mono frame _ _ hk)

theorem wp_done {α : Type} {v : α} {A : sProp 𝕄} {Q : α → sProp 𝕄} (h : A ⊢ Q v) : A ⊢ Wp d L (pure v) Q := by
  show A ⊢ wp frame _ _ (Prog.ret v) Q
  rw [wp_ret]
  iintro H
  imodintro
  iapply h; iexact H

/-- A step that needs part of what is held, the rest kept aside. -/
theorem wp_part {α : Type} {p : TP F L α} {A B : sProp 𝕄} {R : α → sProp 𝕄} (h : A ⊢ Wp d L p R) :
    iprop(A ∗ B) ⊢ Wp d L p fun v => iprop(R v ∗ B) := by
  iintro ⟨HA, HB⟩
  iapply (wp_wand_r frame _ Set.univ)
  isplitl [HA]
  · iapply h; iexact HA
  · iintro %v HR
    isplitl [HR] <;> iassumption

/-! ## Strips -/

theorem wp_loadM {p : Fin 2} {f : S24x4096.Idx → F .f32} {k : Fin 12} {t : Fin k0_t1_loop.trips} {s : Fin 8} {β : Type}
    {K : FVec F S16 .f32 → TP F L β} {Q : β → sProp 𝕄}
    (h : MBp d L p f ⊢ Wp d L (K (stripAt (fun c => f (ixM (rowOf p k) c)) (8 * t.val + s.val))) Q) :
    MBp d L p f ⊢ Wp d L (loadM L (rowOf p k) t s >>= K) Q := by
  rw [← read_strip f (rowOf p k) t s] at h
  unfold MBp at h ⊢
  iintro H
  iapply (wp_load 𝒱₀ (tile d L) none Set.univ (m := mB) (S := halfM p) (q := fullShare) (f := f)
    (k := fun v => K (shapeCast S16 v shapeCasts_S1x16_S16)) (strip_half p k t s)) $$ [H]
  · iexact H
  iintro H
  iapply h; iexact H

theorem wp_storeM {p : Fin 2} {f : S24x4096.Idx → F .f32} {k : Fin 12} {t : Fin k0_t1_loop.trips} {s : Fin 8} {v : FVec F S16 .f32}
    {β : Type} {K : PUnit → TP F L β} {Q : β → sProp 𝕄}
    (h : MBp d L p (setStrip (rowOf p k) (8 * t.val + s.val) v f) ⊢ Wp d L (K ⟨⟩) Q) :
    MBp d L p f ⊢ Wp d L (storeM L (rowOf p k) t s v >>= K) Q := by
  rw [← write_strip f (rowOf p k) t s v] at h
  unfold MBp at h ⊢
  iintro H
  iapply (wp_load 𝒱₀ (tile d L) none Set.univ (m := mB) (S := halfM p) (q := fullShare) (f := f) (strip_half p k t s)) $$ [H]
  · iexact H
  iintro H
  iapply (wp_store 𝒱₀ (tile d L) none Set.univ (m := mB) (r := strip (rowOf p k) t s) (S := halfM p) (f := f) (k := K) (strip_half' p k t s)) $$ [H]
  · iexact H
  iintro H
  iapply h; iexact H

/-! ## The sums -/

/-- The rows of parity `p`'s half. -/
def rowsOf (p : Fin 2) (f : S24x4096.Idx → F .f32) (k : Fin 12) : Fin 4096 → F .f32 := fun c => f (ixM (rowOf p k) c)

/-- The twelve rows' first `m` strips added up. -/
def sums (p : Fin 2) (f : S24x4096.Idx → F .f32) (m : ℕ) : Twelve (FVec F S16 .f32) := tw fun k => stripSum (rowsOf p f k) m

theorem wp_addStrip {p : Fin 2} {f : S24x4096.Idx → F .f32} {t : Fin k0_t1_loop.trips} {s : Fin 8} {x : Twelve (FVec F S16 .f32)}
    (hx : x = sums p f (8 * t.val + s.val)) :
    MBp d L p f ⊢ Wp d L (addStrip L p s t x) fun y => iprop(⌜y = sums p f (8 * t.val + s.val + 1)⌝ ∗ MBp d L p f) := by
  subst hx
  unfold addStrip
  refine wp_loadM (wp_loadM (wp_loadM (wp_loadM (wp_loadM (wp_loadM (wp_loadM (wp_loadM (wp_loadM (wp_loadM (wp_loadM (wp_loadM
    (wp_done ?_))))))))))))
  iintro H
  isplitr
  · ipureintro; rfl
  iexact H

/-- One trip of the summing loop. -/
theorem wp_sumTrip {p : Fin 2} {f : S24x4096.Idx → F .f32} {t : Fin k0_t1_loop.trips} {x : Twelve (FVec F S16 .f32)}
    (hx : x = sums p f (8 * t.val)) :
    MBp d L p f ⊢ Wp d L (sumTrip L p t x) fun y => iprop(⌜y = sums p f (8 * (t.val + 1))⌝ ∗ MBp d L p f) := by
  have next : ∀ {α : Type} {m : ℕ} {K : Twelve (FVec F S16 .f32) → TP F L α} {Q : α → sProp 𝕄},
      (∀ y, y = sums p f m → MBp d L p f ⊢ Wp d L (K y) Q) →
      ∀ y, iprop(⌜y = sums p f m⌝ ∗ MBp d L p f) ⊢ Wp d L (K y) Q := by
    intro α m K Q h y
    iintro ⟨%hy, H⟩
    iapply (h y hy); iexact H
  unfold sumTrip
  refine wp_seq (wp_addStrip hx) (next fun y hy => ?_)
  refine wp_seq (wp_addStrip (s := 1) hy) (next fun y hy => ?_)
  refine wp_seq (wp_addStrip (s := 2) hy) (next fun y hy => ?_)
  refine wp_seq (wp_addStrip (s := 3) hy) (next fun y hy => ?_)
  refine wp_seq (wp_addStrip (s := 4) hy) (next fun y hy => ?_)
  refine wp_seq (wp_addStrip (s := 5) hy) (next fun y hy => ?_)
  refine wp_seq (wp_addStrip (s := 6) hy) (next fun y hy => ?_)
  exact wp_addStrip (s := 7) hy

/-- The summing loop. -/
theorem wp_sumLoop {p : Fin 2} {f : S24x4096.Idx → F .f32} :
    MBp d L p f ⊢ Wp d L (Scf.Loop.for k0_t1_loop k0_t1_ok
        (zeros, zeros, zeros, zeros, zeros, zeros, zeros, zeros, zeros, zeros, zeros, zeros) (sumTrip L p))
      fun y => iprop(⌜y = sums p f 256⌝ ∗ MBp d L p f) := by
  iintro H
  iapply (Scf.wp_for frame (wpE (defs₀ (F := F)) 𝒱₀ (tile d L) none) Set.univ k0_t1_loop.lb k0_t1_loop.ub k0_t1_loop.st k0_t1_ok
    _ (sumTrip L p) (fun t y => iprop(⌜y = sums p f (8 * t)⌝ ∗ MBp d L p f)) ?hb)
  case hb =>
    intro t y
    iintro ⟨%hy, H⟩
    iapply (wp_sumTrip hy); iexact H
  isplitl [H]
  · isplitr
    · ipureintro; rfl
    iexact H
  · iintro %y H
    iexact H

/-! ## The rows scaled -/

/-- The half with its first `m` strips scaled. -/
def scaled (p : Fin 2) (f : S24x4096.Idx → F .f32) (G : Fin 12 → F .f32) (m : ℕ) : S24x4096.Idx → F .f32 :=
  fun x => if (x 0).val / 12 = p.val ∧ (x 1).val < 16 * m then pmVal (fun k => rowsOf p f k (x 1)) G (Fin.ofNat 12 (x 0).val) else f x

/-- Strip `m` of the half's first `n` rows replaced. -/
def setStrips (p : Fin 2) (m n : ℕ) (V : Fin 12 → FVec F S16 .f32) (f : S24x4096.Idx → F .f32) : S24x4096.Idx → F .f32 :=
  fun x => if ((x 0).val / 12 = p.val ∧ (x 0).val % 12 < n) ∧ 16 * m ≤ (x 1).val ∧ (x 1).val < 16 * m + 16
    then V (Fin.ofNat 12 (x 0).val) (ixL (Fin.ofNat 16 ((x 1).val - 16 * m))) else f x

theorem setStrips_zero (p : Fin 2) (m : ℕ) (V : Fin 12 → FVec F S16 .f32) (f : S24x4096.Idx → F .f32) : setStrips p m 0 V f = f := by
  funext x
  unfold setStrips
  exact if_neg fun h => absurd h.1.2 (Nat.not_lt_zero _)

theorem setStrips_succ (p : Fin 2) (m : ℕ) (k : Fin 12) (V : Fin 12 → FVec F S16 .f32) (f : S24x4096.Idx → F .f32) :
    setStrip (rowOf p k) m (V k) (setStrips p m k.val V f) = setStrips p m (k.val + 1) V f := by
  funext x
  have hk := k.isLt
  unfold setStrip setStrips
  by_cases hr : (x 0).val = (rowOf p k).val
  · have hr' : (x 0).val = 12 * p.val + k.val := hr
    have e : (Fin.ofNat 12 (x 0).val : Fin 12) = k := Fin.ext (show (x 0).val % 12 = k.val by omega)
    by_cases hc : 16 * m ≤ (x 1).val ∧ (x 1).val < 16 * m + 16
    · rw [if_pos ⟨hr, hc⟩, if_pos ⟨⟨by omega, by omega⟩, hc⟩, e]
    · rw [if_neg fun h => hc h.2, if_neg fun h => hc h.2, if_neg fun h => hc h.2]
  · have hr' : ¬(x 0).val = 12 * p.val + k.val := hr
    rw [if_neg fun h => hr h.1]
    refine if_congr ?_ rfl rfl
    constructor
    · rintro ⟨⟨h1, h2⟩, h3⟩; exact ⟨⟨h1, by omega⟩, h3⟩
    · rintro ⟨⟨h1, h2⟩, h3⟩; exact ⟨⟨h1, by omega⟩, h3⟩

/-- A strip not yet scaled still reads as it did. -/
theorem strip_scaled (p : Fin 2) (f : S24x4096.Idx → F .f32) (G : Fin 12 → F .f32) (m : ℕ) (hm : m < 256) (k : Fin 12) :
    stripAt (fun c => scaled p f G m (ixM (rowOf p k) c)) m = stripAt (rowsOf p f k) m := by
  funext j
  have hj : (j 0).val < 16 := (j 0).isLt
  refine if_neg fun h => ?_
  have h2 : (16 * m + (j 0).val) % 4096 < 16 * m := h.2
  rw [Nat.mod_eq_of_lt (by omega)] at h2
  omega

/-- The scaled strip of row `k`. -/
def scaledStrip (p : Fin 2) (f : S24x4096.Idx → F .f32) (G : Fin 12 → F .f32) (m : ℕ) (k : Fin 12) : FVec F S16 .f32 :=
  fun l => pmVal (fun k => stripAt (rowsOf p f k) m l) G k

theorem scaled_succ (p : Fin 2) (f : S24x4096.Idx → F .f32) (G : Fin 12 → F .f32) (m : ℕ) (hm : m < 256) :
    setStrips p m 12 (scaledStrip p f G m) (scaled p f G m) = scaled p f G (m + 1) := by
  funext x
  have hx : (x 1).val < 4096 := (x 1).isLt
  unfold setStrips scaled
  by_cases hr : (x 0).val / 12 = p.val
  · by_cases hc : 16 * m ≤ (x 1).val ∧ (x 1).val < 16 * m + 16
    · rw [if_pos ⟨⟨hr, Nat.mod_lt _ (by decide)⟩, hc⟩, if_pos ⟨hr, by omega⟩]
      have e : (Fin.ofNat 4096 (16 * m + ((x 1).val - 16 * m) % 16) : Fin 4096) = x 1 :=
        Fin.ext (show (16 * m + ((x 1).val - 16 * m) % 16) % 4096 = (x 1).val by omega)
      show pmVal (fun k => rowsOf p f k (Fin.ofNat 4096 (16 * m + ((x 1).val - 16 * m) % 16))) G _ = _
      rw [e]
    · rw [if_neg fun h => hc h.2]
      refine if_congr ?_ rfl rfl
      constructor
      · rintro ⟨h1, h2⟩; exact ⟨h1, by omega⟩
      · rintro ⟨h1, h2⟩; exact ⟨h1, by omega⟩
  · rw [if_neg fun h => hr h.1.1, if_neg fun h => hr h.1, if_neg fun h => hr h.1]

/-- One row's strip stored, among the twelve. -/
theorem wp_storeRow {p : Fin 2} {f : S24x4096.Idx → F .f32} {V : Fin 12 → FVec F S16 .f32} (k : Fin 12) {t : Fin k0_t1_loop.trips} {s : Fin 8}
    {v : FVec F S16 .f32} (hv : v = V k)
    {β : Type} {K : PUnit → TP F L β} {Q : β → sProp 𝕄}
    (h : MBp d L p (setStrips p (8 * t.val + s.val) (k.val + 1) V f) ⊢ Wp d L (K ⟨⟩) Q) :
    MBp d L p (setStrips p (8 * t.val + s.val) k.val V f) ⊢ Wp d L (storeM L (rowOf p k) t s v >>= K) Q := by
  subst hv
  refine wp_storeM ?_
  rw [setStrips_succ]
  exact h

theorem wp_scaleStrip {p : Fin 2} {f : S24x4096.Idx → F .f32} {G : Fin 12 → F .f32} {t : Fin k0_t1_loop.trips} {s : Fin 8} :
    MBp d L p (scaled p f G (8 * t.val + s.val)) ⊢ Wp d L (scaleStrip L p (tw G) s t) fun _ => MBp d L p (scaled p f G (8 * t.val + s.val + 1)) := by
  have ht : t.val < 32 := t.isLt
  have hm : 8 * t.val + s.val < 256 := by have := s.isLt; omega
  unfold scaleStrip
  refine wp_loadM (wp_loadM (wp_loadM (wp_loadM (wp_loadM (wp_loadM (wp_loadM (wp_loadM (wp_loadM (wp_loadM (wp_loadM (wp_loadM
    ?_)))))))))))
  rw [strip_scaled p f G _ hm 0, strip_scaled p f G _ hm 1, strip_scaled p f G _ hm 2, strip_scaled p f G _ hm 3,
    strip_scaled p f G _ hm 4, strip_scaled p f G _ hm 5, strip_scaled p f G _ hm 6, strip_scaled p f G _ hm 7,
    strip_scaled p f G _ hm 8, strip_scaled p f G _ hm 9, strip_scaled p f G _ hm 10, strip_scaled p f G _ hm 11,
    ← scaled_succ p f G _ hm]
  generalize hg : scaled p f G (8 * t.val + s.val) = g
  refine (Entails.of_eq (congrArg (MBp d L p) (setStrips_zero p (8 * t.val + s.val) (scaledStrip p f G (8 * t.val + s.val)) g).symm)).trans ?_
  refine wp_storeRow 0 rfl (wp_storeRow 1 rfl (wp_storeRow 2 rfl (wp_storeRow 3 rfl (wp_storeRow 4 rfl (wp_storeRow 5 rfl
    (wp_storeRow 6 rfl (wp_storeRow 7 rfl (wp_storeRow 8 rfl (wp_storeRow 9 rfl (wp_storeRow 10 rfl ?_))))))))))
  refine (wp_storeRow 11 rfl (β := PUnit) (K := pure)
    (Q := fun _ => MBp d L p (setStrips p (8 * t.val + s.val) 12 (scaledStrip p f G (8 * t.val + s.val)) g)) (wp_done Entails.rfl)).trans ?_
  unfold Wp
  rw [Prog.bind_pure]
  exact Entails.rfl

/-- One trip of the scaling loop, -/
theorem wp_scaleTrip {p : Fin 2} {f : S24x4096.Idx → F .f32} {G : Fin 12 → F .f32} {t : Fin k0_t1_loop.trips} :
    MBp d L p (scaled p f G (8 * t.val)) ⊢ Wp d L (scaleTrip L p (tw G) t) fun _ => MBp d L p (scaled p f G (8 * (t.val + 1))) := by
  unfold scaleTrip
  refine wp_seq (wp_scaleStrip (s := 0)) fun _ => ?_
  refine wp_seq (wp_scaleStrip (s := 1)) fun _ => ?_
  refine wp_seq (wp_scaleStrip (s := 2)) fun _ => ?_
  refine wp_seq (wp_scaleStrip (s := 3)) fun _ => ?_
  refine wp_seq (wp_scaleStrip (s := 4)) fun _ => ?_
  refine wp_seq (wp_scaleStrip (s := 5)) fun _ => ?_
  refine wp_seq (wp_scaleStrip (s := 6)) fun _ => ?_
  exact wp_scaleStrip (s := 7)

/-- and the loop. -/
theorem wp_scaleLoop {p : Fin 2} {f : S24x4096.Idx → F .f32} {G : Fin 12 → F .f32} :
    MBp d L p f ⊢ Wp d L (Scf.Loop.for k0_t1_loop k0_t1_ok (⟨⟩ : PUnit) (fun t _ => scaleTrip L p (tw G) t)) fun _ => MBp d L p (scaled p f G 256) := by
  have e : f = scaled p f G (8 * 0) := by
    funext x
    exact (if_neg fun h => absurd h.2 (Nat.not_lt_zero _)).symm
  refine (Entails.of_eq (congrArg (MBp d L p) e)).trans ?_
  have ht : 8 * Scf.trips k0_t1_loop.lb k0_t1_loop.ub k0_t1_loop.st = 256 := by decide
  generalize hN : (256 : ℕ) = N
  rw [hN] at ht
  iintro H
  iapply (Scf.wp_for frame (wpE (defs₀ (F := F)) 𝒱₀ (tile d L) none) Set.univ k0_t1_loop.lb k0_t1_loop.ub k0_t1_loop.st k0_t1_ok
    _ (fun t _ => scaleTrip L p (tw G) t) (fun t _ => MBp d L p (scaled p f G (8 * t))) ?hb)
  case hb =>
    intro t y
    iintro H
    iapply (wp_scaleTrip (p := p) (f := f) (G := G) (t := t)); iexact H
  isplitl [H]
  · iexact H
  · iintro %y H
    rw [ht]
    iexact H

/-- A batch's rows, every strip scaled by its gates, are the result's. -/
theorem scaled_landed (p : Fin 2) (M : Masks F) (P : Pars F) (b : Fin 256) :
    MBp d L p (scaled p (landed M b) (lane12 (gatesV M P b)) 256) = (MBp d L p (landed (pmOut M P) b) : sProp 𝕄) := by
  unfold MBp
  refine pointsTo_congr fun x hx => ?_
  rw [mem_halfM] at hx
  have hc : (x 1).val < 4096 := (x 1).isLt
  refine (if_pos ⟨hx, by omega⟩).trans ?_
  show pmVal (fun k => M (ixH (Fin.ofNat 12 (rowOf p k).val) b (x 1))) (lane12 (gatesV M P b)) (Fin.ofNat 12 (x 0).val)
    = pmVal (fun k => M (ixH k b (x 1))) (lane12 (gatesV M P b)) (Fin.ofNat 12 (x 0).val)
  exact congrArg (fun y => pmVal y (lane12 (gatesV M P b)) (Fin.ofNat 12 (x 0).val)) (funext fun k => by rw [rowOf_mod])

end Cert.KernelIdeal.Tile

end
-- ==== Proof.Gates.lean ====
/-
  The sums through the scratch, and a batch's computation as a whole: the twelve rows' sums into their rows, the columns
  gathered and added up, the gates kept in the batch's row, the batch's rows scaled.
-/
module

public import proofs.«01_k».proof.Proof.Compute

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable {d : Dev nD} {L : grid0.Coords}

/-- A row of the sum scratch overwritten. -/
theorem wp_putRow {f : S16x16.Idx → F .f32} {k : Fin 16} {v : FVec F S16 .f32} {β : Type} {K : PUnit → TP F L β} {Q : β → sProp 𝕄}
    (h : AB d L (setRow (m := 16) k.val v f) ⊢ Wp d L (K ⟨⟩) Q) : AB d L f ⊢ Wp d L (putRow L k v >>= K) Q := by
  rw [← write_acc f k v] at h
  unfold AB at h ⊢
  iintro H
  iapply (wp_load 𝒱₀ (tile d L) none Set.univ (m := aB) (S := Finset.univ) (q := fullShare) (f := f) (Finset.subset_univ _)) $$ [H]
  · iexact H
  iintro H
  iapply (wp_store 𝒱₀ (tile d L) none Set.univ (m := aB) (r := Rect.unit (s := S16x16) ![k.val, 0] S1x16.size (accInb k))
    (S := Finset.univ) (f := f) (k := K) (Finset.subset_univ _)) $$ [H]
  · iexact H
  iintro H
  iapply h; iexact H

/-- A row of the gate scratch overwritten. -/
theorem wp_putGate {f : S8x16.Idx → F .f32} {n : Fin 8} {v : FVec F S16 .f32} {β : Type} {K : PUnit → TP F L β} {Q : β → sProp 𝕄}
    (h : GB d L (setRow (m := 8) n.val v f) ⊢ Wp d L (K ⟨⟩) Q) : GB d L f ⊢ Wp d L (putGate L n v >>= K) Q := by
  rw [← write_gate f n v] at h
  unfold GB at h ⊢
  iintro H
  iapply (wp_load 𝒱₀ (tile d L) none Set.univ (m := gB) (S := Finset.univ) (q := fullShare) (f := f) (Finset.subset_univ _)) $$ [H]
  · iexact H
  iintro H
  iapply (wp_store 𝒱₀ (tile d L) none Set.univ (m := gB) (r := Rect.unit (s := S8x16) ![n.val, 0] S1x16.size (gateInb n))
    (S := Finset.univ) (f := f) (k := K) (Finset.subset_univ _)) $$ [H]
  · iexact H
  iintro H
  iapply h; iexact H

/-! ## The sum scratch's rows -/

/-- The scratch with its first `n` rows at `X`. -/
def putN (X : Fin 12 → FVec F S16 .f32) (n : ℕ) (f : S16x16.Idx → F .f32) : S16x16.Idx → F .f32 :=
  fun x => if (x 0).val < n then X (Fin.ofNat 12 (x 0).val) (ixL (x 1)) else f x

theorem putN_zero (X : Fin 12 → FVec F S16 .f32) (f : S16x16.Idx → F .f32) : putN X 0 f = f :=
  funext fun _ => if_neg (Nat.not_lt_zero _)

theorem putN_succ (X : Fin 12 → FVec F S16 .f32) (k : Fin 12) (f : S16x16.Idx → F .f32) :
    setRow (m := 16) k.val (X k) (putN X k.val f) = putN X (k.val + 1) f := by
  funext x
  have hk := k.isLt
  unfold setRow putN
  by_cases hx : (x 0).val = k.val
  · have e : (Fin.ofNat 12 (x 0).val : Fin 12) = k := Fin.ext (show (x 0).val % 12 = k.val by omega)
    rw [if_pos hx, if_pos (by omega), e]
  · rw [if_neg hx]
    refine if_congr ⟨fun h => by omega, fun h => by omega⟩ rfl rfl

/-- The last four rows are zeros. -/
def tail0 (f : S16x16.Idx → F .f32) : Prop := ∀ x : S16x16.Idx, 12 ≤ (x 0).val → f x = Scalar.ofBits .f32 0x00000000#32

/-- A scratch of sixteen rows. -/
def ofRows (A : Fin 16 → FVec F S16 .f32) : S16x16.Idx → F .f32 := fun x => A (x 0) (ixL (x 1))

theorem putN_all (X : Fin 12 → FVec F S16 .f32) (f : S16x16.Idx → F .f32) (h : tail0 f) : putN X 12 f = ofRows (accAt X) := by
  funext x
  unfold putN ofRows accAt
  by_cases hx : (x 0).val < 12
  · rw [if_pos hx, dif_pos hx]
    exact congrArg (fun k => X k (ixL (x 1))) (Fin.ext (Nat.mod_eq_of_lt hx))
  · rw [if_neg hx, dif_neg hx]
    exact h x (by omega)

theorem tail0_ofRows (X : Fin 12 → FVec F S16 .f32) : tail0 (ofRows (accAt X)) := by
  intro x hx
  show accAt X (x 0) (ixL (x 1)) = _
  unfold accAt
  rw [dif_neg (by omega)]
  rfl

/-- One row's sums written, among the twelve. -/
theorem wp_putNth {X : Fin 12 → FVec F S16 .f32} {f : S16x16.Idx → F .f32} (k : Fin 12) {r : Fin 16} (hr : r.val = k.val) {v : FVec F S16 .f32}
    (hv : v = X k) {β : Type} {K : PUnit → TP F L β} {Q : β → sProp 𝕄}
    (h : AB d L (putN X (k.val + 1) f) ⊢ Wp d L (K ⟨⟩) Q) : AB d L (putN X k.val f) ⊢ Wp d L (putRow L r v >>= K) Q := by
  subst hv
  refine wp_putRow ?_
  rw [hr, putN_succ]
  exact h

theorem wp_putRows {X : Fin 12 → FVec F S16 .f32} {f : S16x16.Idx → F .f32} (hf : tail0 f) :
    AB d L f ⊢ Wp d L (putRows L (tw X)) fun _ => AB d L (ofRows (accAt X)) := by
  rw [← putN_all X f hf]
  unfold putRows
  refine (Entails.of_eq (congrArg (AB d L) (putN_zero X f).symm)).trans ?_
  refine wp_putNth 0 rfl rfl (wp_putNth 1 rfl rfl (wp_putNth 2 rfl rfl (wp_putNth 3 rfl rfl (wp_putNth 4 rfl rfl (wp_putNth 5 rfl rfl
    (wp_putNth 6 rfl rfl (wp_putNth 7 rfl rfl (wp_putNth 8 rfl rfl (wp_putNth 9 rfl rfl (wp_putNth 10 rfl rfl ?_))))))))))
  refine (wp_putNth 11 (r := 11) rfl rfl (β := PUnit) (K := pure) (Q := fun _ => AB d L (putN X 12 f)) (wp_done Entails.rfl)).trans ?_
  exact Entails.of_eq (congrArg (fun p => Wp d L p _) (Prog.bind_pure _))

/-- A row of the sum scratch overwritten, by itself. -/
theorem wp_putRow_spec {f : S16x16.Idx → F .f32} {k : Fin 16} {v : FVec F S16 .f32} :
    AB d L f ⊢ Wp d L (putRow L k v) fun _ => AB d L (setRow (m := 16) k.val v f) := by
  refine (wp_putRow (β := PUnit) (K := pure) (Q := fun _ => AB d L (setRow (m := 16) k.val v f)) (wp_done Entails.rfl)).trans ?_
  exact Entails.of_eq (congrArg (fun p => Wp d L p _) (Prog.bind_pure _))

/-- The last four rows zeroed. -/
theorem tail0_set (f : S16x16.Idx → F .f32) :
    tail0 (setRow (m := 16) 15 zeros (setRow (m := 16) 14 zeros (setRow (m := 16) 13 zeros (setRow (m := 16) 12 zeros f)))) := by
  intro x hx
  have hx' : (x 0).val < 16 := (x 0).isLt
  unfold setRow
  by_cases h15 : (x 0).val = 15
  · exact if_pos h15
  refine (if_neg h15).trans ?_
  by_cases h14 : (x 0).val = 14
  · exact if_pos h14
  refine (if_neg h14).trans ?_
  by_cases h13 : (x 0).val = 13
  · exact if_pos h13
  refine (if_neg h13).trans ?_
  exact if_pos (show (x 0).val = 12 by omega)

/-! ## The columns -/

theorem wp_addCol {A : Fin 16 → FVec F S16 .f32} {j : ℕ} (hj : j < 16) {β : Type} {K : FVec F S16 .f32 → TP F L β} {Q : β → sProp 𝕄}
    (h : AB d L (ofRows A) ⊢ Wp d L (K (colSum A (j + 1))) Q) : AB d L (ofRows A) ⊢ Wp d L (addCol L j (colSum A j) >>= K) Q := by
  have e : colSum A (j + 1) = addf (colSum A j) (loadIdx ((aB.access (.whole S16x16)).read (Elt F) (ofRows A))
      ![lanes, broadcast S16 (BitVec.ofNat 32 j)] (k0_idx1_inb lanes (broadcast S16 (BitVec.ofNat 32 j)) (chk_col j hj))) := by
    rw [gather_col (ofRows A) j hj]
    show addf (colSum A j) _ = _
    refine congrArg (addf (colSum A j)) (funext fun l => ?_)
    show A (l 0) (ixL (Fin.ofNat 16 j)) = A (l 0) (ixL ⟨j, hj⟩)
    exact congrArg (fun c => A (l 0) (ixL c)) (Fin.ext (Nat.mod_eq_of_lt hj))
  rw [e] at h
  unfold AB at h ⊢
  iintro H
  iapply (wp_assume 𝒱₀ (tile d L) none Set.univ (chk_col j hj))
  iapply (SparseCore.wp_vectorLoadIdx 𝒱₀ (tile d L) none Set.univ (base := aB) (S := Finset.univ) (q := fullShare) (f := ofRows A) (hl := View.loads_vmem h_S16x16)
    (k := fun y => (pure (addf (colSum A j) y) : TP F L _) >>= K) (Finset.subset_univ _)) $$ [H]
  · iexact H
  iintro H
  iapply h; iexact H

theorem wp_addCols {A : Fin 16 → FVec F S16 .f32} : ∀ (m j : ℕ), j + m ≤ 16 →
    (AB d L (ofRows A) ⊢ Wp d L (addCols L m j (colSum A j)) fun y => iprop(⌜y = colSum A (j + m)⌝ ∗ AB d L (ofRows A)))
  | 0, j, _ => by
    refine wp_done ?_
    iintro H
    isplitr
    · ipureintro; rfl
    iexact H
  | m + 1, j, h => by
    refine wp_addCol (by omega) ?_
    refine (wp_addCols m (j + 1) (by omega)).trans (wp_mono frame _ _ fun y => ?_)
    rw [show j + 1 + m = j + (m + 1) by omega]

/-! ## The gates kept -/

/-- The first `n` batches' gates are in the gate scratch. -/
def kept (M : Masks F) (P : Pars F) (L : grid0.Coords) (n : ℕ) (f : S8x16.Idx → F .f32) : Prop :=
  ∀ x : S8x16.Idx, (x 0).val < n → f x = gScr M P L x

theorem kept_succ {M : Masks F} {P : Pars F} {n : Fin 8} {f : S8x16.Idx → F .f32} (h : kept M P L n.val f) :
    kept M P L (n.val + 1) (setRow (m := 8) n.val (gatesV M P (batch L n)) f) := by
  intro x hx
  unfold setRow
  by_cases e : (x 0).val = n.val
  · refine (if_pos e).trans ?_
    obtain rfl : x 0 = n := Fin.ext e
    rfl
  · exact (if_neg e).trans (h x (by omega))

theorem kept_all {M : Masks F} {P : Pars F} {f : S8x16.Idx → F .f32} (h : kept M P L 8 f) : f = gScr M P L :=
  funext fun x => h x (x 0).isLt

/-! ## A batch -/

/-- The scratches a batch's computation works in: the sum scratch, whose last rows are zeros, and the gate scratch, the batches
    before `n` in it. -/
def Work (d : Dev nD) (M : Masks F) (P : Pars F) (L : grid0.Coords) (n : ℕ) : sProp 𝕄 :=
  iprop((∃ f, ⌜tail0 f⌝ ∗ AB d L f) ∗ ∃ g, ⌜kept M P L n g⌝ ∗ GB d L g)

variable {M : Masks F} {P : Pars F} {n : Fin 8}

/-- Its last part: the gates kept, the rows scaled. -/
theorem wp_scale {g : S8x16.Idx → F .f32} (hg : kept M P L n.val g) :
    iprop(GB d L g ∗ MBp d L (par2 n) (landed M (batch L n)) ∗ AB d L (ofRows (accAt fun k => stripSum (bRow M (batch L n) k) 256)))
      ⊢ Wp d L (putGate L n (gate (paramsOf P) (totals M (batch L n))) >>= fun _ => Scf.Loop.for k0_t1_loop k0_t1_ok (⟨⟩ : PUnit)
          (fun t _ => scaleTrip L (par2 n) (twelve (gate (paramsOf P) (totals M (batch L n)))) t))
        fun _ => iprop(MBp d L (par2 n) (landed (pmOut M P) (batch L n)) ∗ Work d M P L (n.val + 1)) := by
  have hk := kept_succ (L := L) hg
  refine wp_seq (wp_part (R := fun _ : PUnit => GB d L (setRow (m := 8) n.val (gatesV M P (batch L n)) g)) ?_) fun _ => ?_
  · refine (wp_putGate (β := PUnit) (K := pure) (Q := fun _ => GB d L (setRow (m := 8) n.val (gatesV M P (batch L n)) g)) (wp_done Entails.rfl)).trans ?_
    exact Entails.of_eq (congrArg (fun p => Wp d L p _) (Prog.bind_pure _))
  · iintro ⟨Hg, Hm, Ha⟩
    rw [twelve_eq]
    iapply (wp_wand_r frame _ Set.univ)
    isplitl [Hm]
    · iapply wp_scaleLoop; iexact Hm
    iintro %_ Hm
    isplitl [Hm]
    · iapply (Entails.of_eq (scaled_landed (par2 n) M P (batch L n))); iexact Hm
    rw [Work]
    isplitl [Ha]
    · iexists (ofRows (accAt fun k => stripSum (bRow M (batch L n) k) 256)); isplitr
      · ipureintro; exact tail0_ofRows _
      iexact Ha
    · iexists _; isplitr
      · ipureintro; exact hk
      iexact Hg

/-- Its middle part: the columns gathered and added up. -/
theorem wp_gates {g : S8x16.Idx → F .f32} (hg : kept M P L n.val g) :
    iprop(AB d L (ofRows (accAt fun k => stripSum (bRow M (batch L n) k) 256)) ∗ GB d L g ∗ MBp d L (par2 n) (landed M (batch L n)))
      ⊢ Wp d L (addCols L 16 0 zeros >>= fun uv => putGate L n (gate (paramsOf P) uv) >>= fun _ => Scf.Loop.for k0_t1_loop k0_t1_ok (⟨⟩ : PUnit)
          (fun t _ => scaleTrip L (par2 n) (twelve (gate (paramsOf P) uv)) t))
        fun _ => iprop(MBp d L (par2 n) (landed (pmOut M P) (batch L n)) ∗ Work d M P L (n.val + 1)) := by
  refine wp_seq (wp_part (wp_addCols 16 0 (le_refl _))) fun uv => ?_
  iintro ⟨⟨%huv, Ha⟩, ⟨Hg, Hm⟩⟩
  have huv' : uv = totals M (batch L n) := huv
  subst huv'
  iapply (wp_scale hg)
  isplitl [Hg]
  · iexact Hg
  · isplitl [Hm] <;> iassumption

/-- A batch computed: from its rows in its half of the scratch to their scaled rows, its gates kept. -/
theorem wp_compute (M : Masks F) (P : Pars F) (n : Fin 8) :
    iprop(MBp d L (par2 n) (landed M (batch L n)) ∗ Work d M P L n.val)
      ⊢ Wp d L (compute L (paramsOf P) n) fun _ => iprop(MBp d L (par2 n) (landed (pmOut M P) (batch L n)) ∗ Work d M P L (n.val + 1)) := by
  unfold compute
  refine wp_seq (wp_part wp_sumLoop) fun x => ?_
  rw [Work]
  iintro ⟨⟨%hx, Hm⟩, ⟨⟨%f, %hf, Ha⟩, ⟨%g, %hg, Hg⟩⟩⟩
  have hx' : x = tw fun k => stripSum (bRow M (batch L n) k) 256 := by
    rw [hx]
    unfold sums
    refine congrArg tw (funext fun k => congrArg (fun y => stripSum y 256) (funext fun c => ?_))
    show M (ixH (Fin.ofNat 12 (rowOf (par2 n) k).val) (batch L n) c) = _
    rw [rowOf_mod]
    rfl
  subst hx'
  have h : iprop(AB d L f ∗ GB d L g ∗ MBp d L (par2 n) (landed M (batch L n))) ⊢ Wp d L (putRows L (tw fun k => stripSum (bRow M (batch L n) k) 256) >>=
      fun _ => addCols L 16 0 zeros >>= fun uv => putGate L n (gate (paramsOf P) uv) >>= fun _ => Scf.Loop.for k0_t1_loop k0_t1_ok (⟨⟩ : PUnit)
          (fun t _ => scaleTrip L (par2 n) (twelve (gate (paramsOf P) uv)) t))
        fun _ => iprop(MBp d L (par2 n) (landed (pmOut M P) (batch L n)) ∗ Work d M P L (n.val + 1)) :=
    wp_seq (wp_part (wp_putRows hf)) fun _ => wp_gates hg
  iapply h
  isplitl [Ha]
  · iexact Ha
  · isplitl [Hg] <;> iassumption

end Cert.KernelIdeal.Tile

end
-- ==== Proof.Rows.lean ====
/-
  The tile's own copies. A batch's twelve rows are loaded by twelve copies that complete on one semaphore, each waited for after
  the last is started, and stored the same way; the parameters come and the gates go by one copy each.
-/
module

public import proofs.«01_k».proof.Proof.Gates

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable {d : Dev nD} {L : grid0.Coords}

/-- What follows the tile's copies: a count for each. -/
abbrev EC : UEmb Counters 𝕄 := countersEmb (U := UU)

/-! ## Twelve steps in a row -/

theorem wp_rowsFrom {f : Fin 12 → TP F L PUnit} {I : ℕ → sProp 𝕄} (h : ∀ k : Fin 12, I k.val ⊢ Wp d L (f k) fun _ => I (k.val + 1)) :
    ∀ (m k : ℕ) (e : k + m = 12), I k ⊢ Wp d L (rowsFrom L f m k e) fun _ => I 12
  | 0, k, e => by obtain rfl : k = 12 := by omega
                  exact wp_done Entails.rfl
  | m + 1, k, e => wp_seq (h ⟨k, by omega⟩) fun _ => wp_rowsFrom h m (k + 1) (by omega)

theorem wp_rows {f : Fin 12 → TP F L PUnit} {I : ℕ → sProp 𝕄} (h : ∀ k : Fin 12, I k.val ⊢ Wp d L (f k) fun _ => I (k.val + 1)) :
    I 0 ⊢ Wp d L (rows L f) fun _ => I 12 :=
  wp_rowsFrom h 12 0 rfl

/-! ## What the tile may wait under -/

/-- What the tile owes and has waited for: what it came with, and waits of its own. -/
def Owe (d : Dev nD) (L : grid0.Coords) (O : CellTallies nD τ sig (HIx 1)) (W : Waits sig (HIx 1)) : sProp 𝕄 :=
  iprop(∃ W', ⌜∀ p ∈ W', p ∈ W ∨ p.2 = none⌝ ∗ owes (tile d L) O W')

theorem owe_more {W W' : Waits sig (HIx 1)} {sm : SemLoc sig} (h : ∀ p ∈ W', p ∈ W ∨ p.2 = none) : ∀ p ∈ insert (sm, none) W', p ∈ W ∨ p.2 = none := by
  intro p hp
  rcases Finset.mem_insert.mp hp with rfl | hp
  · exact .inr rfl
  · exact h p hp

/-- The levels of the protocol, which every wait of the tile's own lies below. -/
abbrev Lev : sProp 𝕄 := levAts (K (F := F)).L (K (F := F)).lev

/-! ## The waits for a batch -/

/-- A batch with its first `k` copies waited for; after the twelfth, all it delivers. -/
def Waited (d : Dev nD) (L : grid0.Coords) (sem : DmaSem sig) (N : ℕ) (D : Fin 12 → sProp 𝕄) (O : CellTallies nD τ sig (HIx 1)) (W : Waits sig (HIx 1)) (k : ℕ) : sProp 𝕄 :=
  if k < 12 then iprop(Transfers.Batch EC (tile d L) (.dma sem) none N D 12 (k * N) ∗ Owe d L O W ∗ Lev)
  else iprop(bigSep Finset.univ D ∗ semVal (tile d L, .dma sem) 0 ∗ Owe d L O W)

theorem wp_waits {sem : DmaSem sig} {N : ℕ} {D : Fin 12 → sProp 𝕄} {O : CellTallies nD τ sig (HIx 1)} {W : Waits sig (HIx 1)} (hO : ∀ g, O g none = 0)
    {sp sp' : Space} {s s' : Shape} {e e' : EltTy} {src : Fin 12 → Memref sig .scVector sp' s' e'} {dst : Fin 12 → Memref sig .scVector sp s e}
    {hs : ∀ k, (src k).view.WordExact} {hd : ∀ k, (dst k).view.WordExact} (hN : ∀ k, (dst k).view.dmaCredit = N) (hN0 : 0 < N) :
    iprop(Transfers.Batch EC (tile d L) (.dma sem) none N D 12 0 ∗ Owe d L O W ∗ Lev)
      ⊢ Wp d L (rows L fun k => Prog.lift (.waitDma2 sem (src k) (dst k) (hs k) (hd k))) fun _ => iprop(bigSep Finset.univ D ∗ semVal (tile d L, .dma sem) 0 ∗ Owe d L O W) := by
  have h0 : (0 : ℕ) = 0 * N := (Nat.zero_mul N).symm
  have hp : iprop(Transfers.Batch EC (tile d L) (.dma sem) none N D 12 0 ∗ Owe d L O W ∗ Lev) = Waited d L sem N D O W 0 := by
    rw [Waited, if_pos (by decide), ← h0]
  have hq : iprop(bigSep Finset.univ D ∗ semVal (tile d L, .dma sem) 0 ∗ Owe d L O W) = Waited d L sem N D O W 12 := by
    rw [Waited, if_neg (by decide)]
  rw [hp, hq]
  refine wp_rows fun k => ?_
  unfold Wp Prog.lift
  rw [Waited, if_pos k.isLt, Owe]
  by_cases hk : k.val + 1 < 12
  · rw [Waited, if_pos hk, Owe]
    iintro ⟨HB, ⟨%W', %hW, HO⟩, #Hlv⟩
    iapply (Transfers.wp_waitBatchO EC 𝒱₀ (tile d L) none none (hN k) (u := k.val * N)
      (by rw [← Nat.succ_mul, Nat.mul_comm N]; exact Nat.mul_lt_mul_of_pos_right hk hN0)) $$ [HB HO]
    · isplitl [HB]
      · iexact HB
      isplitl [HO]
      · iexact HO
      iapply ((K (F := F)).mayWait_none (SemLoc.dma sem) hO); iexact Hlv
    iintro ⟨HB, HO⟩
    rw [wp_ret]; imodintro
    rw [← Nat.succ_mul]
    isplitl [HB]
    · iexact HB
    isplitl [HO]
    · iexists (insert (SemLoc.dma sem, none) W')
      isplitr
      · ipureintro; exact owe_more hW
      iexact HO
    iexact Hlv
  · rw [Waited, if_neg hk, Owe]
    have hk' : k.val + 1 = 12 := by have := k.isLt; omega
    iintro ⟨HB, ⟨%W', %hW, HO⟩, #Hlv⟩
    iapply (Transfers.wp_waitBatchLastO (n := 12) EC 𝒱₀ (tile d L) none none (hN k) hN0 (u := k.val * N) (D := D)
      (by rw [← Nat.succ_mul, Nat.mul_comm N]; exact congrArg (· * N) hk')) $$ [HB HO]
    · isplitl [HB]
      · iexact HB
      isplitl [HO]
      · iexact HO
      iapply ((K (F := F)).mayWait_none (SemLoc.dma sem) hO); iexact Hlv
    iintro ⟨HD, Hv, HO⟩
    rw [wp_ret]; imodintro
    isplitl [HD]
    · iexact HD
    isplitl [Hv]
    · iexact Hv
    iexists (insert (SemLoc.dma sem, none) W')
    isplitr
    · ipureintro; exact owe_more hW
    iexact HO

/-! ## A batch's rows -/

/-- Row `k` of batch `n` among the masks, and among the results; row `r` of the mask scratch. -/
def MTr (d : Dev nD) (L : grid0.Coords) (n : Fin 8) (k : Fin 12) (M : Masks F) : sProp 𝕄 := (mT.view.loc (tile d L)) ↦[rowH k (batch L n)]{fullShare} M
def PMr (d : Dev nD) (L : grid0.Coords) (n : Fin 8) (k : Fin 12) (M : Masks F) : sProp 𝕄 := (pmT.view.loc (tile d L)) ↦[rowH k (batch L n)]{fullShare} M
def MBr (d : Dev nD) (L : grid0.Coords) (r : Fin 24) (f : S24x4096.Idx → F .f32) : sProp 𝕄 := (mB.view.loc (tile d L)) ↦[rowM r]{fullShare} f

instance (n : Fin 8) (k : Fin 12) (M : Masks F) : Storable (upEmb : UEmb _ 𝕄) (MTr d L n k M) := by unfold MTr; infer_instance
instance (n : Fin 8) (k : Fin 12) (M : Masks F) : Storable (upEmb : UEmb _ 𝕄) (PMr d L n k M) := by unfold PMr; infer_instance
instance (r : Fin 24) (f : S24x4096.Idx → F .f32) : Storable (upEmb : UEmb _ 𝕄) (MBr d L r f) := by unfold MBr; infer_instance

/-- A half of the scratch is its twelve rows. -/
theorem half_rows (p : Fin 2) (f : S24x4096.Idx → F .f32) : MBp d L p f = bigSep Finset.univ fun k : Fin 12 => MBr d L (rowOf p k) f := by
  have hu : halfM p = Finset.univ.biUnion fun k : Fin 12 => rowM (rowOf p k) := by
    ext x
    rw [mem_halfM, Finset.mem_biUnion]
    constructor
    · intro h
      refine ⟨⟨(x 0).val % 12, Nat.mod_lt _ (by decide)⟩, Finset.mem_univ _, mem_rowM.mpr ?_⟩
      show (x 0).val = 12 * p.val + (x 0).val % 12
      have := Nat.div_add_mod (x 0).val 12
      rw [h] at this
      exact this.symm
    · rintro ⟨k, -, h⟩
      have h' : (x 0).val = 12 * p.val + k.val := mem_rowM.mp h
      have := k.isLt
      omega
  unfold MBp MBr
  rw [hu]
  refine pointsTo_biUnion _ _ fun i _ j _ hij => Finset.disjoint_left.mpr fun x hi hj => hij (Fin.ext ?_)
  have h1 : (x 0).val = 12 * p.val + i.val := mem_rowM.mp hi
  have h2 : (x 0).val = 12 * p.val + j.val := mem_rowM.mp hj
  omega

/-- Units a load completes with, and a store. -/
abbrev NL : ℕ := (mRow 0).view.dmaCredit
abbrev NS (L : grid0.Coords) : ℕ := (hRow L pmT 0 0).view.dmaCredit

theorem NL_pos : 0 < NL := View.dmaCredit_pos _ (by decide)
theorem NS_pos : 0 < NS L := View.dmaCredit_pos _ (by decide)

/-- What a batch's loads deliver: the masks' rows in the batch's half of the scratch, and the masks as they were. -/
def Dload (d : Dev nD) (L : grid0.Coords) (M : Masks F) (n : Fin 8) (k : Fin 12) : sProp 𝕄 :=
  iprop(MBr d L (rowOf (par2 n) k) (landed M (batch L n)) ∗ MTr d L n k M)
/-- What a batch's stores deliver: the results' rows, and the scratch as it was. -/
def Dstore (d : Dev nD) (L : grid0.Coords) (M : Masks F) (n : Fin 8) (k : Fin 12) : sProp 𝕄 :=
  iprop(PMr d L n k M ∗ MBr d L (rowOf (par2 n) k) (landed M (batch L n)))

instance (M : Masks F) (n : Fin 8) (k : Fin 12) : Storable (upEmb : UEmb _ 𝕄) (Dload d L M n k) := by unfold Dload; infer_instance
instance (M : Masks F) (n : Fin 8) (k : Fin 12) : Storable (upEmb : UEmb _ 𝕄) (Dstore d L M n k) := by unfold Dstore; infer_instance

/-- A batch's loads, or its stores, under way: the semaphore they complete on, all twelve started. -/
abbrev Loading (d : Dev nD) (L : grid0.Coords) (M : Masks F) (n : Fin 8) (k : ℕ) : sProp 𝕄 :=
  Transfers.Batch EC (tile d L) (.dma (lSem (par2 n))) none NL (Dload d L M n) k 0
abbrev Storing (d : Dev nD) (L : grid0.Coords) (M : Masks F) (n : Fin 8) (k : ℕ) : sProp 𝕄 :=
  Transfers.Batch EC (tile d L) (.dma (sSem (par2 n))) none (NS L) (Dstore d L M n) k 0

theorem pts_mT (n : Fin 8) (k : Fin 12) (M : Masks F) :
    ((hRow L mT k n).view.loc (tile d L) ↦[(hRow L mT k n).view.set]{fullShare} M : sProp 𝕄) = MTr d L n k M := by
  rw [set_mT]; rfl
theorem pts_pmT (n : Fin 8) (k : Fin 12) (M : Masks F) :
    ((hRow L pmT k n).view.loc (tile d L) ↦[(hRow L pmT k n).view.set]{fullShare} M : sProp 𝕄) = PMr d L n k M := by
  rw [set_pmT]; rfl
theorem pts_mRow (r : Fin 24) (f : S24x4096.Idx → F .f32) :
    ((mRow r).view.loc (tile d L) ↦[(mRow r).view.set]{fullShare} f : sProp 𝕄) = MBr d L r f := by
  rw [set_mRow]; rfl

/-- A batch's loads started. -/
theorem wp_startLoad (M : Masks F) (n : Fin 8) (f : S24x4096.Idx → F .f32) :
    iprop(semVal (tile d L, .dma (lSem (par2 n))) 0 ∗ (bigSep Finset.univ fun k => MTr d L n k M) ∗ MBp d L (par2 n) f)
      ⊢ Wp d L (rows L (startLoad L n)) fun _ => Loading d L M n 12 := by
  have hr : ∀ k : Fin 12, iprop((bigSep (Transfers.pending k.val) fun k => iprop(MTr d L n k M ∗ MBr d L (rowOf (par2 n) k) f)) ∗ Loading d L M n k.val)
      ⊢ Wp d L (startLoad L n k) fun _ =>
        iprop((bigSep (Transfers.pending (k.val + 1)) fun k => iprop(MTr d L n k M ∗ MBr d L (rowOf (par2 n) k) f)) ∗ Loading d L M n (k.val + 1)) := by
    intro k
    rw [Transfers.bigSep_pending_step _ k.val k.isLt]
    unfold Wp startLoad Prog.lift
    iintro ⟨⟨⟨Hs, Hd⟩, Hr⟩, HB⟩
    iapply (Transfers.wp_dmaBatch (n := 12) EC 𝒱₀ (tile d L) none (src := hRow L mT k n) (dst := mRow (rowOf (par2 n) k)) (sm := .dma (lSem (par2 n)))
      (q := fullShare) (fs := M) (fd := f) (Sd := (mRow (rowOf (par2 n) k)).view.set) (D := Dload d L M n)
      none NL rfl (Finset.Subset.refl _) k.isLt (Nat.zero_le _) ?hD) $$ [Hs Hd HB]
    case hD =>
      refine BIClass.sep_mono ((Entails.of_eq (pts_mRow (rowOf (par2 n) k) _)).trans (Entails.of_eq ?_)) (Entails.of_eq (pts_mT n k M))
      exact pointsTo_congr fun x hx => load_lands M L (par2 n) k n f x hx
    · isplitl [Hs]
      · iapply (Entails.of_eq (pts_mT n k M).symm); iexact Hs
      isplitl [Hd]
      · iapply (Entails.of_eq (pts_mRow (rowOf (par2 n) k) f).symm); iexact Hd
      iexact HB
    iintro HB
    rw [wp_ret]; imodintro
    isplitl [Hr] <;> iassumption
  rw [half_rows, ← bigSep_sep']
  iintro ⟨Hv, Hr⟩
  imod (Transfers.batch_alloc' EC (tile d L) none NL (Dload d L M n)) $$ Hv with HB
  iapply (wp_wand_r frame _ Set.univ)
  isplitl [Hr HB]
  · iapply (wp_rows (I := fun k => iprop((bigSep (Transfers.pending k) fun k => iprop(MTr d L n k M ∗ MBr d L (rowOf (par2 n) k) f)) ∗ Loading d L M n k)) hr)
    isplitl [Hr]
    · iapply (Entails.of_eq (Transfers.bigSep_pending_zero _)); iexact Hr
    iexact HB
  iintro %_ ⟨-, HB⟩
  iexact HB

/-- A batch's stores started. -/
theorem wp_startStore (M : Masks F) (n : Fin 8) (f : Masks F) :
    iprop(semVal (tile d L, .dma (sSem (par2 n))) 0 ∗ (bigSep Finset.univ fun k => PMr d L n k f) ∗ MBp d L (par2 n) (landed M (batch L n)))
      ⊢ Wp d L (rows L (startStore L n)) fun _ => Storing d L M n 12 := by
  have hr : ∀ k : Fin 12, iprop((bigSep (Transfers.pending k.val) fun k => iprop(PMr d L n k f ∗ MBr d L (rowOf (par2 n) k) (landed M (batch L n)))) ∗ Storing d L M n k.val)
      ⊢ Wp d L (startStore L n k) fun _ =>
        iprop((bigSep (Transfers.pending (k.val + 1)) fun k => iprop(PMr d L n k f ∗ MBr d L (rowOf (par2 n) k) (landed M (batch L n)))) ∗ Storing d L M n (k.val + 1)) := by
    intro k
    rw [Transfers.bigSep_pending_step _ k.val k.isLt]
    unfold Wp startStore Prog.lift
    iintro ⟨⟨⟨Hd, Hs⟩, Hr⟩, HB⟩
    iapply (Transfers.wp_dmaBatch (n := 12) EC 𝒱₀ (tile d L) none (src := mRow (rowOf (par2 n) k)) (dst := hRow L pmT k n) (sm := .dma (sSem (par2 n)))
      (q := fullShare) (fs := landed M (batch L n)) (fd := f) (Sd := (hRow L pmT k n).view.set) (D := Dstore d L M n)
      none (NS L) rfl (Finset.Subset.refl _) k.isLt (Nat.zero_le _) ?hD) $$ [Hs Hd HB]
    case hD =>
      refine BIClass.sep_mono ((Entails.of_eq (pts_pmT n k _)).trans (Entails.of_eq ?_)) (Entails.of_eq (pts_mRow (rowOf (par2 n) k) _))
      exact pointsTo_congr fun x hx => store_lands M L (par2 n) k n f x hx
    · isplitl [Hs]
      · iapply (Entails.of_eq (pts_mRow (rowOf (par2 n) k) (landed M (batch L n))).symm); iexact Hs
      isplitl [Hd]
      · iapply (Entails.of_eq (pts_pmT n k f).symm); iexact Hd
      iexact HB
    iintro HB
    rw [wp_ret]; imodintro
    isplitl [Hr] <;> iassumption
  rw [half_rows, ← bigSep_sep']
  iintro ⟨Hv, Hr⟩
  imod (Transfers.batch_alloc' EC (tile d L) none (NS L) (Dstore d L M n)) $$ Hv with HB
  iapply (wp_wand_r frame _ Set.univ)
  isplitl [Hr HB]
  · iapply (wp_rows (I := fun k => iprop((bigSep (Transfers.pending k) fun k => iprop(PMr d L n k f ∗ MBr d L (rowOf (par2 n) k) (landed M (batch L n)))) ∗ Storing d L M n k)) hr)
    isplitl [Hr]
    · iapply (Entails.of_eq (Transfers.bigSep_pending_zero _)); iexact Hr
    iexact HB
  iintro %_ ⟨-, HB⟩
  iexact HB

variable {O : CellTallies nD τ sig (HIx 1)} {W : Waits sig (HIx 1)}

/-- A batch's loads waited for. -/
theorem wp_waitLoad (hO : ∀ g, O g none = 0) (M : Masks F) (n : Fin 8) :
    iprop(Loading d L M n 12 ∗ Owe d L O W ∗ Lev)
      ⊢ Wp d L (rows L (waitLoad L n)) fun _ => iprop(MBp d L (par2 n) (landed M (batch L n)) ∗ (bigSep Finset.univ fun k => MTr d L n k M)
          ∗ semVal (tile d L, .dma (lSem (par2 n))) 0 ∗ Owe d L O W) := by
  refine (wp_waits hO (dst := fun k => mRow (rowOf (par2 n) k)) (src := fun k => hRow L mT k n) (fun _ => rfl) NL_pos).trans (wp_mono frame _ _ fun _ => ?_)
  unfold Dload
  rw [half_rows, bigSep_sep']
  iintro ⟨⟨Hm, Ht⟩, Hv, HO⟩
  isplitl [Hm]
  · iexact Hm
  isplitl [Ht]
  · iexact Ht
  isplitl [Hv] <;> iassumption

/-- A batch's stores waited for. -/
theorem wp_waitStore (hO : ∀ g, O g none = 0) (M : Masks F) (n : Fin 8) :
    iprop(Storing d L M n 12 ∗ Owe d L O W ∗ Lev)
      ⊢ Wp d L (rows L (waitStore L n)) fun _ => iprop(MBp d L (par2 n) (landed M (batch L n)) ∗ (bigSep Finset.univ fun k => PMr d L n k M)
          ∗ semVal (tile d L, .dma (sSem (par2 n))) 0 ∗ Owe d L O W) := by
  refine (wp_waits hO (dst := fun k => hRow L pmT k n) (src := fun k => mRow (rowOf (par2 n) k)) (fun _ => rfl) (NS_pos (L := L))).trans (wp_mono frame _ _ fun _ => ?_)
  unfold Dstore
  rw [half_rows, bigSep_sep']
  iintro ⟨⟨Ht, Hm⟩, Hv, HO⟩
  isplitl [Hm]
  · iexact Hm
  isplitl [Ht]
  · iexact Ht
  isplitl [Hv] <;> iassumption

end Cert.KernelIdeal.Tile

end
-- ==== Proof.Task.lean ====
/-
  The tile's task: the parameters fetched, the eight batches loaded, computed and stored, two at a time under way, the gates
  written out.
-/
module

public import proofs.«01_k».proof.Proof.Rows

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable {d : Dev nD} {L : grid0.Coords} {O : CellTallies nD τ sig (HIx 1)} {W : Waits sig (HIx 1)}

/-- A part of a program run from what it needs, the rest from what it leaves. -/
theorem wp_then {α β : Type} {p : TP F L α} {k : α → TP F L β} {A : sProp 𝕄} {R : α → sProp 𝕄} {Q : β → sProp 𝕄} (h : A ⊢ Wp d L p R) :
    A ⊢ iprop((∀ v, R v -∗ Wp d L (k v) Q) -∗ Wp d L (p >>= k) Q) := by
  unfold Wp at h ⊢
  iintro HA Hk
  rw [wp_bind]
  iapply (wp_wand_r frame _ Set.univ)
  isplitl [HA]
  · iapply h; iexact HA
  iexact Hk

/-! ## The parameters and the gates -/

/-- The parameters' array, at a share; the scratch they are fetched to; the tile's rows of the gates. -/
def PR (d : Dev nD) (L : grid0.Coords) (q : PosShare TreeShare) (P : Pars F) : sProp 𝕄 := (par.view.loc (tile d L)) ↦{q} P
abbrev PB (d : Dev nD) (L : grid0.Coords) (f : Pars F) : sProp 𝕄 := (pV.view.loc (tile d L)) ↦{fullShare} f
abbrev GO (d : Dev nD) (L : grid0.Coords) (f : S256x16.Idx → F .f32) : sProp 𝕄 := (gts.view.loc (tile d L)) ↦[blkO L]{fullShare} f

theorem pts_par (q : PosShare TreeShare) (P : Pars F) :
    ((par : Memref sig .scVector .hbm S1x64 .f32).view.loc (tile d L) ↦[(par : Memref sig .scVector .hbm S1x64 .f32).view.set]{q} P : sProp 𝕄) = PR d L q P := by
  rw [View.set_whole]; rfl
theorem pts_pV (f : Pars F) :
    ((pV : Memref sig .scVector .vmem S1x64 .f32).view.loc (tile d L) ↦[(pV : Memref sig .scVector .vmem S1x64 .f32).view.set]{fullShare} f : sProp 𝕄) = PB d L f := by
  rw [View.set_whole]
theorem pts_gB (f : S8x16.Idx → F .f32) :
    ((gB : Memref sig .scVector .vmem S8x16 .f32).view.loc (tile d L) ↦[(gB : Memref sig .scVector .vmem S8x16 .f32).view.set]{fullShare} f : sProp 𝕄) = GB d L f := by
  rw [View.set_whole]; rfl
theorem pts_gBlk (f : S256x16.Idx → F .f32) :
    ((gBlk L).view.loc (tile d L) ↦[(gBlk L).view.set]{fullShare} f : sProp 𝕄) = GO d L f := by
  rw [set_gBlk]

theorem fetch_lands (P f : Pars F) :
    (pV : Memref sig .scVector .vmem S1x64 .f32).view.write (Elt F) f ((par : Memref sig .scVector .hbm S1x64 .f32).view.read (Elt F) P) Finset.univ = P := by
  funext x
  exact View.write_emb_of_mem (v := (pV : Memref sig .scVector .vmem S1x64 .f32).view) _ _ (Finset.mem_univ x)

theorem wp_fetchParams (hO : ∀ g, O g none = 0) (q : PosShare TreeShare) (P f : Pars F) :
    iprop(PR d L q P ∗ PB d L f ∗ semVal (tile d L, .dma cc0_scoped0.sem) 0 ∗ Owe d L O W ∗ Lev)
      ⊢ Wp d L (fetchParams L) fun y => iprop(⌜y = paramsOf P⌝ ∗ PR d L q P ∗ PB d L P ∗ semVal (tile d L, .dma cc0_scoped0.sem) 0 ∗ Owe d L O W) := by
  unfold Wp fetchParams
  simp only [Prog.lift, Prog.bind_op, Prog.bind_ret, Prog.pure_eq_ret]
  rw [Owe]
  iintro ⟨Hp, Hb, Hv, ⟨%W', %hW, HO⟩, #Hlv⟩
  iapply (Transfers.wp_dmaLocal EC 𝒱₀ (tile d L) none (src := par) (dst := pV) (q := q) (fs := P) (fd := f)
    (Sd := (pV : Memref sig .scVector .vmem S1x64 .f32).view.set) none _ rfl (View.dmaCredit_pos _ (by decide)) (Finset.Subset.refl _)) $$ [Hp Hb Hv]
  · isplitl [Hp]
    · iapply (Entails.of_eq (pts_par q P).symm); iexact Hp
    isplitl [Hb]
    · iapply (Entails.of_eq (pts_pV f).symm); iexact Hb
    iexact Hv
  iintro HF
  iapply (Transfers.wp_waitLocalO EC 𝒱₀ (tile d L) none none rfl) $$ [HF HO]
  · isplitl [HF]
    · iexact HF
    isplitl [HO]
    · iexact HO
    iapply ((K (F := F)).mayWait_none (SemLoc.dma cc0_scoped0.sem) hO); iexact Hlv
  iintro ⟨⟨Hb, Hp⟩, Hv, HO⟩
  ihave Hp := (Entails.of_eq (pts_par q P)) $$ Hp
  ihave Hb := (Entails.of_eq ((pts_pV _).trans (congrArg (PB d L) (fetch_lands P f)))) $$ Hb
  iapply (wp_load 𝒱₀ (tile d L) none Set.univ (m := pV) (S := Finset.univ) (Finset.subset_univ _)) $$ Hb; iintro Hb
  iapply (wp_load 𝒱₀ (tile d L) none Set.univ (m := pV) (S := Finset.univ) (Finset.subset_univ _)) $$ Hb; iintro Hb
  iapply (wp_load 𝒱₀ (tile d L) none Set.univ (m := pV) (S := Finset.univ) (Finset.subset_univ _)) $$ Hb; iintro Hb
  iapply (wp_load 𝒱₀ (tile d L) none Set.univ (m := pV) (S := Finset.univ) (Finset.subset_univ _)) $$ Hb; iintro Hb
  rw [wp_ret]; imodintro
  isplitr
  · ipureintro
    rw [read_par P 0 (by decide), read_par P 16 (by decide), read_par P 32 (by decide), read_par P 48 (by decide)]
    unfold paramsOf
    refine congrArg (fun a => Params.mk a _ _ _) (funext fun j => congrArg P (congrArg ixP (Fin.ext (Nat.zero_add _))))
  isplitl [Hp]
  · iexact Hp
  isplitl [Hb]
  · iexact Hb
  isplitl [Hv]
  · iexact Hv
  iexists (insert (SemLoc.dma cc0_scoped0.sem, none) W')
  isplitr
  · ipureintro; exact owe_more hW
  iexact HO

theorem wp_flushGates (hO : ∀ g, O g none = 0) (M : Masks F) (P : Pars F) (f : S256x16.Idx → F .f32) :
    iprop(GB d L (gScr M P L) ∗ GO d L f ∗ semVal (tile d L, .dma cc0_scoped1.sem) 0 ∗ Owe d L O W ∗ Lev)
      ⊢ Wp d L (flushGates L) fun _ => iprop(GB d L (gScr M P L) ∗ GO d L (gOut M P) ∗ semVal (tile d L, .dma cc0_scoped1.sem) 0 ∗ Owe d L O W) := by
  unfold Wp flushGates
  simp only [Prog.lift, Prog.bind_op, Prog.bind_ret, Prog.pure_eq_ret]
  rw [Owe]
  iintro ⟨Hs, Hd, Hv, ⟨%W', %hW, HO⟩, #Hlv⟩
  iapply (Transfers.wp_dmaLocal EC 𝒱₀ (tile d L) none (src := gB) (dst := gBlk L) (q := fullShare) (fs := gScr M P L) (fd := f)
    (Sd := (gBlk L).view.set) none _ rfl (View.dmaCredit_pos _ (by decide)) (Finset.Subset.refl _)) $$ [Hs Hd Hv]
  · isplitl [Hs]
    · iapply (Entails.of_eq (pts_gB _).symm); iexact Hs
    isplitl [Hd]
    · iapply (Entails.of_eq (pts_gBlk f).symm); iexact Hd
    iexact Hv
  iintro HF
  iapply (Transfers.wp_waitLocalO EC 𝒱₀ (tile d L) none none rfl) $$ [HF HO]
  · isplitl [HF]
    · iexact HF
    isplitl [HO]
    · iexact HO
    iapply ((K (F := F)).mayWait_none (SemLoc.dma cc0_scoped1.sem) hO); iexact Hlv
  iintro ⟨⟨Hd, Hs⟩, Hv, HO⟩
  rw [wp_ret]; imodintro
  isplitl [Hs]
  · iapply (Entails.of_eq (pts_gB (gScr M P L))); iexact Hs
  isplitl [Hd]
  · iapply ((Entails.of_eq (pts_gBlk _)).trans (Entails.of_eq (pointsTo_congr fun x hx => flush_lands M P L f x hx))); iexact Hd
  isplitl [Hv]
  · iexact Hv
  iexists (insert (SemLoc.dma cc0_scoped1.sem, none) W')
  isplitr
  · ipureintro; exact owe_more hW
  iexact HO

/-! ## Two batches under way -/

/-- A batch's masks and its results' rows, before and after. -/
def In (d : Dev nD) (L : grid0.Coords) (M f : Masks F) (n : Fin 8) : sProp 𝕄 :=
  iprop((bigSep Finset.univ fun k => MTr d L n k M) ∗ bigSep Finset.univ fun k => PMr d L n k f)

/-- Batch `m` being stored, batch `n` being loaded. -/
def St (d : Dev nD) (L : grid0.Coords) (O : CellTallies nD τ sig (HIx 1)) (W : Waits sig (HIx 1)) (M : Masks F) (P : Pars F) (f : Masks F) (m n : Fin 8) : sProp 𝕄 :=
  iprop(Storing d L (pmOut M P) m 12 ∗ (bigSep Finset.univ fun k => MTr d L m k M)
    ∗ Loading d L M n 12 ∗ (bigSep Finset.univ fun k => PMr d L n k f)
    ∗ semVal (tile d L, .dma (lSem (par2 m))) 0 ∗ semVal (tile d L, .dma (sSem (par2 n))) 0
    ∗ Work d M P L n.val ∗ Owe d L O W ∗ Lev)

theorem wp_middle (hO : ∀ g, O g none = 0) (M : Masks F) (P : Pars F) (f : Masks F) {n m s : Fin 8} (hs : par2 m = par2 s) (hn : s.val = n.val + 1) :
    iprop(St d L O W M P f m n ∗ In d L M f s)
      ⊢ Wp d L (middle L (paramsOf P) n m s) fun _ => iprop(St d L O W M P f n s ∗ In d L M (pmOut M P) m) := by
  unfold middle St In
  iintro ⟨⟨HS, Hmt, HL, Hpn, Hl, Hs, HW, HO, #Hlv⟩, Hms, Hps⟩
  iapply (wp_then (wp_waitStore hO (pmOut M P) m)) $$ [HS HO]
  · isplitl [HS]
    · iexact HS
    isplitl [HO]
    · iexact HO
    iexact Hlv
  iintro %_ ⟨Hb, Hpm, Hsm, HO⟩
  rw [hs]
  iapply (wp_then (wp_startLoad M s (landed (pmOut M P) (batch L m)))) $$ [Hb Hl Hms]
  · isplitl [Hl]
    · iexact Hl
    isplitl [Hms] <;> iassumption
  iintro %_ HLs
  iapply (wp_then (wp_waitLoad hO M n)) $$ [HL HO]
  · isplitl [HL]
    · iexact HL
    isplitl [HO]
    · iexact HO
    iexact Hlv
  iintro %_ ⟨Hb, Hmn, Hln, HO⟩
  iapply (wp_then (wp_compute M P n)) $$ [Hb HW]
  · isplitl [Hb] <;> iassumption
  iintro %_ ⟨Hb, HW⟩
  iapply (wp_wand_r frame _ Set.univ)
  isplitl [Hs Hpn Hb]
  · iapply (wp_startStore (pmOut M P) n f)
    isplitl [Hs]
    · iexact Hs
    isplitl [Hpn] <;> iassumption
  iintro %_ HS
  rw [hn]
  isplitr [Hmt Hpm]
  · isplitl [HS]
    · iexact HS
    isplitl [Hmn]
    · iexact Hmn
    isplitl [HLs]
    · iexact HLs
    isplitl [Hps]
    · iexact Hps
    isplitl [Hln]
    · iexact Hln
    isplitl [Hsm]
    · iexact Hsm
    isplitl [HW]
    · iexact HW
    isplitl [HO]
    · iexact HO
    iexact Hlv
  · isplitl [Hmt] <;> iassumption

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The task -/

/-- The semaphores of the two parities' loads and stores. -/
def Sems (d : Dev nD) (L : grid0.Coords) : sProp 𝕄 :=
  iprop(semVal (tile d L, .dma (lSem 0)) 0 ∗ semVal (tile d L, .dma (lSem 1)) 0 ∗ semVal (tile d L, .dma (sSem 0)) 0 ∗ semVal (tile d L, .dma (sSem 1)) 0)

/-- The first two batches, up to the first's stores. -/
theorem wp_open (hO : ∀ g, O g none = 0) (M : Masks F) (P : Pars F) (f : Masks F) (g h : S24x4096.Idx → F .f32) {β : Type} {K : TP F L β} {Q : β → sProp 𝕄} :
    iprop((MBp d L 0 g ∗ MBp d L 1 h ∗ Sems d L ∗ Work d M P L 0 ∗ Owe d L O W ∗ Lev) ∗ In d L M f 0 ∗ In d L M f 1)
      ⊢ iprop((St d L O W M P f 0 1 -∗ Wp d L K Q) -∗ Wp d L (rows L (startLoad L 0) >>= fun _ => rows L (startLoad L 1) >>= fun _ =>
          rows L (waitLoad L 0) >>= fun _ => compute L (paramsOf P) 0 >>= fun _ => rows L (startStore L 0) >>= fun _ => K) Q) := by
  unfold Sems In St
  iintro ⟨⟨Hb0, Hb1, ⟨Hl0, Hl1, Hs0, Hs1⟩, HW, HO, #Hlv⟩, ⟨Hm0, Hp0⟩, Hm1, Hp1⟩ Hk
  iapply (wp_then (wp_startLoad M 0 g)) $$ [Hb0 Hl0 Hm0]
  · isplitl [Hl0]
    · iexact Hl0
    isplitl [Hm0]
    · iexact Hm0
    iexact Hb0
  iintro %_ HL0
  iapply (wp_then (wp_startLoad M 1 h)) $$ [Hb1 Hl1 Hm1]
  · isplitl [Hl1]
    · iexact Hl1
    isplitl [Hm1]
    · iexact Hm1
    iexact Hb1
  iintro %_ HL1
  iapply (wp_then (wp_waitLoad hO M 0)) $$ [HL0 HO]
  · isplitl [HL0]
    · iexact HL0
    isplitl [HO]
    · iexact HO
    iexact Hlv
  iintro %_ ⟨Hb, Hm0, Hl0, HO⟩
  iapply (wp_then (wp_compute M P 0)) $$ [Hb HW]
  · isplitl [Hb]
    · iexact Hb
    iexact HW
  iintro %_ ⟨Hb, HW⟩
  iapply (wp_then (wp_startStore (pmOut M P) 0 f)) $$ [Hs0 Hp0 Hb]
  · isplitl [Hs0]
    · iexact Hs0
    isplitl [Hp0]
    · iexact Hp0
    iexact Hb
  iintro %_ HS
  iapply Hk
  isplitl [HS]
  · iexact HS
  isplitl [Hm0]
  · iexact Hm0
  isplitl [HL1]
  · iexact HL1
  isplitl [Hp1]
  · iexact Hp1
  isplitl [Hl0]
  · iexact Hl0
  isplitl [Hs1]
  · iexact Hs1
  isplitl [HW]
  · iexact HW
  isplitl [HO]
  · iexact HO
  iexact Hlv

/-- The last two batches, from the last's loads on. -/
theorem wp_close (hO : ∀ g, O g none = 0) (M : Masks F) (P : Pars F) (f : Masks F) (o : S256x16.Idx → F .f32) :
    iprop(St d L O W M P f 6 7 ∗ GO d L o ∗ semVal (tile d L, .dma cc0_scoped1.sem) 0)
      ⊢ Wp d L (rows L (waitLoad L 7) >>= fun _ => compute L (paramsOf P) 7 >>= fun _ => rows L (startStore L 7) >>= fun _ =>
          flushGates L >>= fun _ => rows L (waitStore L 6) >>= fun _ => rows L (waitStore L 7))
        fun _ => iprop((In d L M (pmOut M P) 6 ∗ In d L M (pmOut M P) 7) ∗ (GO d L (gOut M P) ∗ semVal (tile d L, .dma cc0_scoped1.sem) 0)
          ∗ ((∃ g, MBp d L 0 g) ∗ (∃ g, MBp d L 1 g) ∗ (∃ g, AB d L g) ∗ ∃ g, GB d L g) ∗ Sems d L ∗ Owe d L O W) := by
  unfold Sems In St
  iintro ⟨⟨HS, Hm6, HL, Hp7, Hl6, Hs7, HW, HO, #Hlv⟩, Ho, Hv⟩
  iapply (wp_then (wp_waitLoad hO M 7)) $$ [HL HO]
  · isplitl [HL]
    · iexact HL
    isplitl [HO]
    · iexact HO
    iexact Hlv
  iintro %_ ⟨Hb, Hm7, Hl7, HO⟩
  iapply (wp_then (wp_compute M P 7)) $$ [Hb HW]
  · isplitl [Hb]
    · iexact Hb
    iexact HW
  iintro %_ ⟨Hb, HW⟩
  iapply (wp_then (wp_startStore (pmOut M P) 7 f)) $$ [Hs7 Hp7 Hb]
  · isplitl [Hs7]
    · iexact Hs7
    isplitl [Hp7]
    · iexact Hp7
    iexact Hb
  iintro %_ HS7
  ihave HW := (Entails.of_eq (Work.eq_1 d M P L _)) $$ HW
  icases HW with ⟨⟨%a, -, Ha⟩, ⟨%g, %hg, Hg⟩⟩
  have hg' : g = gScr M P L := kept_all hg
  subst hg'
  iapply (wp_then (wp_flushGates hO M P o)) $$ [Hg Ho Hv HO]
  · isplitl [Hg]
    · iexact Hg
    isplitl [Ho]
    · iexact Ho
    isplitl [Hv]
    · iexact Hv
    isplitl [HO]
    · iexact HO
    iexact Hlv
  iintro %_ ⟨Hg, Ho, Hv, HO⟩
  iapply (wp_then (wp_waitStore hO (pmOut M P) 6)) $$ [HS HO]
  · isplitl [HS]
    · iexact HS
    isplitl [HO]
    · iexact HO
    iexact Hlv
  iintro %_ ⟨Hb6, Hp6, Hs6, HO⟩
  iapply (wp_wand_r frame _ Set.univ)
  isplitl [HS7 HO]
  · iapply (wp_waitStore hO (pmOut M P) 7)
    isplitl [HS7]
    · iexact HS7
    isplitl [HO]
    · iexact HO
    iexact Hlv
  iintro %_ ⟨Hb7, Hp7, Hs7, HO⟩
  isplitl [Hm6 Hp6 Hm7 Hp7]
  · isplitl [Hm6 Hp6]
    · isplitl [Hm6] <;> iassumption
    · isplitl [Hm7] <;> iassumption
  isplitl [Ho Hv]
  · isplitl [Ho] <;> iassumption
  isplitl [Hb6 Hb7 Ha Hg]
  · isplitl [Hb6]
    · iexists _; iexact Hb6
    isplitl [Hb7]
    · iexists _; iexact Hb7
    isplitl [Ha]
    · iexists _; iexact Ha
    iexists _; iexact Hg
  isplitr [HO]
  · isplitl [Hl6]
    · iexact Hl6
    isplitl [Hl7]
    · iexact Hl7
    isplitl [Hs6] <;> iassumption
  iexact HO

/-- What the task works in: its four scratches, and its six semaphores at zero. -/
def Scr (d : Dev nD) (L : grid0.Coords) : sProp 𝕄 :=
  iprop((∃ g, MBp d L 0 g) ∗ (∃ g, MBp d L 1 g) ∗ (∃ g, AB d L g) ∗ (∃ g, GB d L g) ∗ ∃ g, PB d L g)
def Sems6 (d : Dev nD) (L : grid0.Coords) : sProp 𝕄 :=
  iprop(Sems d L ∗ semVal (tile d L, .dma cc0_scoped0.sem) 0 ∗ semVal (tile d L, .dma cc0_scoped1.sem) 0)

theorem wp_task (hO : ∀ g, O g none = 0) (M : Masks F) (P : Pars F) (q : PosShare TreeShare) (f : Masks F) (o : S256x16.Idx → F .f32) :
    iprop((PR d L q P ∗ (bigSep Finset.univ fun n => In d L M f n) ∗ GO d L o) ∗ Scr d L ∗ Sems6 d L ∗ Owe d L O W ∗ Lev)
      ⊢ Wp d L (task L) fun _ => iprop((PR d L q P ∗ (bigSep Finset.univ fun n => In d L M (pmOut M P) n) ∗ GO d L (gOut M P))
          ∗ Scr d L ∗ Sems6 d L ∗ Owe d L O W) := by
  unfold task Scr Sems6
  rw [eight, eight]
  iintro ⟨⟨Hpar, ⟨H0, H1, H2, H3, H4, H5, H6, H7⟩, Ho⟩, ⟨⟨%b0, Hb0⟩, ⟨%b1, Hb1⟩, ⟨%a, Ha⟩, ⟨%g, Hg⟩, %p, Hp⟩, ⟨Hsems, Hv0, Hv1⟩, HO, #Hlv⟩
  iapply (wp_then (wp_fetchParams hO q P p)) $$ [Hpar Hp Hv0 HO]
  · isplitl [Hpar]
    · iexact Hpar
    isplitl [Hp]
    · iexact Hp
    isplitl [Hv0]
    · iexact Hv0
    isplitl [HO]
    · iexact HO
    iexact Hlv
  iintro %y ⟨%hy, Hpar, Hp, Hv0, HO⟩
  subst hy
  iapply (wp_then wp_putRow_spec) $$ [Ha]
  · iexact Ha
  iintro %_ Ha
  iapply (wp_then wp_putRow_spec) $$ [Ha]
  · iexact Ha
  iintro %_ Ha
  iapply (wp_then wp_putRow_spec) $$ [Ha]
  · iexact Ha
  iintro %_ Ha
  iapply (wp_then wp_putRow_spec) $$ [Ha]
  · iexact Ha
  iintro %_ Ha
  iapply (wp_open hO M P f b0 b1) $$ [Hb0 Hb1 Hsems Ha Hg HO H0 H1]
  · isplitr [H0 H1]
    · isplitl [Hb0]
      · iexact Hb0
      isplitl [Hb1]
      · iexact Hb1
      isplitl [Hsems]
      · iexact Hsems
      isplitr [HO]
      · rw [Work]
        isplitl [Ha]
        · iexists _; isplitr
          · ipureintro; exact tail0_set a
          iexact Ha
        iexists g; isplitr
        · ipureintro; exact fun _ h => absurd h (Nat.not_lt_zero _)
        iexact Hg
      isplitl [HO]
      · iexact HO
      iexact Hlv
    · isplitl [H0] <;> iassumption
  iintro HS
  iapply (wp_then (wp_middle hO M P f (n := 1) (m := 0) (s := 2) rfl rfl)) $$ [HS H2]
  · isplitl [HS] <;> iassumption
  iintro %_ ⟨HS, H0⟩
  iapply (wp_then (wp_middle hO M P f (n := 2) (m := 1) (s := 3) rfl rfl)) $$ [HS H3]
  · isplitl [HS] <;> iassumption
  iintro %_ ⟨HS, H1⟩
  iapply (wp_then (wp_middle hO M P f (n := 3) (m := 2) (s := 4) rfl rfl)) $$ [HS H4]
  · isplitl [HS] <;> iassumption
  iintro %_ ⟨HS, H2⟩
  iapply (wp_then (wp_middle hO M P f (n := 4) (m := 3) (s := 5) rfl rfl)) $$ [HS H5]
  · isplitl [HS] <;> iassumption
  iintro %_ ⟨HS, H3⟩
  iapply (wp_then (wp_middle hO M P f (n := 5) (m := 4) (s := 6) rfl rfl)) $$ [HS H6]
  · isplitl [HS] <;> iassumption
  iintro %_ ⟨HS, H4⟩
  iapply (wp_then (wp_middle hO M P f (n := 6) (m := 5) (s := 7) rfl rfl)) $$ [HS H7]
  · isplitl [HS] <;> iassumption
  iintro %_ ⟨HS, H5⟩
  iapply (wp_wand_r frame _ Set.univ)
  isplitl [HS Ho Hv1]
  · iapply (wp_close hO M P f o)
    isplitl [HS]
    · iexact HS
    isplitl [Ho] <;> iassumption
  iintro %_ ⟨⟨H6, H7⟩, ⟨Ho, Hv1⟩, ⟨Hb0, Hb1, Ha, Hg⟩, Hsems, HO⟩
  isplitl [Hpar Ho H0 H1 H2 H3 H4 H5 H6 H7]
  · isplitl [Hpar]
    · iexact Hpar
    isplitr [Ho]
    · isplitl [H0]
      · iexact H0
      isplitl [H1]
      · iexact H1
      isplitl [H2]
      · iexact H2
      isplitl [H3]
      · iexact H3
      isplitl [H4]
      · iexact H4
      isplitl [H5]
      · iexact H5
      isplitl [H6] <;> iassumption
    iexact Ho
  isplitl [Hb0 Hb1 Ha Hg Hp]
  · isplitl [Hb0]
    · iexact Hb0
    isplitl [Hb1]
    · iexact Hb1
    isplitl [Ha]
    · iexact Ha
    isplitl [Hg]
    · iexact Hg
    iexists _; iexact Hp
  isplitr [HO]
  · isplitl [Hsems]
    · iexact Hsems
    isplitl [Hv0] <;> iassumption
  iexact HO

end Cert.KernelIdeal.Tile

end
-- ==== Proof.TaskEq.lean ====
/-
  The printed tile program is the task written as loops: the two texts are the same steps, grouped differently.
-/
module

public import proofs.«01_k».proof.Proof.Text

@[expose] public section

noncomputable section

namespace Cert.KernelIdeal.Tile
open Cert.KernelIdeal Cert.KernelIdeal.Gen
open Idealize.ShloMosaic Idealize.SL.Sem

section
universe v
variable {E : Type → Type v} {α β γ δ σ : Type}
/-- Two programs that begin with the same step are the same if what follows is. -/
theorem op_congr {e : E β} {k k' : β → Prog E α} (h : ∀ x, k x = k' x) : Prog.op e k = Prog.op e k' := congrArg _ (funext h)
/-- Grouping to the right, on either side of an equation. -/
theorem assoc_l {p : Prog E α} {k1 : α → Prog E β} {k2 : β → Prog E γ} {B : Prog E γ} (h : p.bind (fun x => (k1 x).bind k2) = B) :
    (p.bind k1).bind k2 = B := (Prog.bind_assoc p k1 k2).trans h
theorem assoc_r {p : Prog E α} {k1 : α → Prog E β} {k2 : β → Prog E γ} {B : Prog E γ} (h : B = p.bind (fun x => (k1 x).bind k2)) :
    B = (p.bind k1).bind k2 := h.trans (Prog.bind_assoc p k1 k2).symm
/-- Two programs that begin with the same loop are the same if its trips and what follows are. -/
theorem loop_congr {w : Nat} {L : Scf.Loop w} {hok : L.OK} {init : σ} {b b' : Fin L.trips → σ → Prog E σ} {k k' : σ → Prog E α}
    (hb : ∀ t x, b t x = b' t x) (hk : ∀ x, k x = k' x) : (Scf.Loop.for L hok init b).bind k = (Scf.Loop.for L hok init b').bind k' := by
  obtain rfl : b = b' := funext fun t => funext (hb t)
  obtain rfl : k = k' := funext hk
  rfl
end
variable {F : FTy → Type} [FloatOps F]
set_option maxRecDepth 1000000
set_option maxHeartbeats 0
variable (i : grid0.Coords)

/-- The printed body, at the arguments the launch gives it. -/
theorem task_eq : cc0__sc_body (F := F) i mT (Memref.isWhole_whole _) par (Memref.isWhole_whole _) pmT (Memref.isWhole_whole _) gts (Memref.isWhole_whole _) mB (Memref.isWhole_whole _) aB (Memref.isWhole_whole _) gB (Memref.isWhole_whole _) pV (Memref.isWhole_whole _) cc0_scratch4 cc0_scratch5 cc0_scratch6 cc0_scratch7 cc0_scoped0 cc0_scoped1 = task i := by
  iterate 16
    repeat refine op_congr (fun x => ?_)
    repeat refine assoc_l ?_
    repeat refine assoc_r ?_
    refine loop_congr (fun t x => ?_) fun x => ?_
    · rfl
  repeat refine op_congr (fun x => ?_)
  rfl

end Cert.KernelIdeal.Tile

end
-- ==== Proof.Tile.lean ====
/-
  The tile's task as the launch runs it: the six semaphores it uses and its four scratch buffers found among what the tile owns,
  the task run on them, and all handed back.
-/
module

public import proofs.«01_k».proof.Proof.Task
public import proofs.«01_k».proof.Proof.TaskEq

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords) {O : CellTallies nD τ sig (HIx 1)} {W : Waits sig (HIx 1)}

/-- Some of a family, picked by an injection, and the rest. -/
theorem bigSep_pick {I J : Type} [Fintype I] [DecidableEq J] (s : Finset J) (e : I ↪ J) (h : ∀ i, e i ∈ s) (Φ : J → sProp 𝕄) :
    bigSep s Φ = iprop((bigSep Finset.univ fun i => Φ (e i)) ∗ bigSep (s \ Finset.univ.map e) Φ) := by
  rw [SparseCore.bigSep_sdiff_split' (t := Finset.univ.map e) (fun j hj => by
    obtain ⟨i, -, rfl⟩ := Finset.mem_map.mp hj; exact h i), bigSep_map]

/-! ## The semaphores -/

/-- The six the task waits on. -/
def semOf : Fin 6 → DmaSem sig
  | 0 => cc0_scratch4.sem | 1 => cc0_scratch5.sem | 2 => cc0_scratch6.sem | 3 => cc0_scratch7.sem | 4 => cc0_scoped0.sem | 5 => cc0_scoped1.sem

theorem semOf_inj : Function.Injective semOf := by decide

def cellAt : Fin 6 ↪ GSem nD τ sig :=
  ⟨fun i => (tile d L, .dma (semOf i)), fun a b e => semOf_inj (SemLoc.dma.inj (Prod.mk.inj e).2)⟩

theorem cellAt_mem (i : Fin 6) : cellAt d L i ∈ ownCells (tile d L) :=
  mem_ownCells.mpr ⟨rfl, (by decide : ∀ i, (SemLoc.dma (semOf i) : SemLoc sig).isScoped .scVector = true) i⟩

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The other semaphores of the tile. -/
abbrev SemRest : sProp 𝕄 := bigSep (ownCells (tile d L) \ Finset.univ.map (cellAt d L)) fun g => semVal g 0

theorem sems_split : (ownSems0 (tile d L) : sProp 𝕄) ⊢ iprop(Sems6 d L ∗ SemRest d L) := by
  unfold SparseCore.Cfg.ownSems0 SemRest Sems6 Sems
  rw [bigSep_pick _ (cellAt d L) (cellAt_mem d L), six]
  iintro ⟨⟨H0, H1, H2, H3, H4, H5⟩, H⟩
  isplitr [H]
  · isplitl [H0 H1 H2 H3]
    · isplitl [H0]
      · iexact H0
      isplitl [H1]
      · iexact H1
      isplitl [H2]
      · iexact H2
      iexact H3
    isplitl [H4]
    · iexact H4
    iexact H5
  iexact H

theorem sems_join : iprop(Sems6 d L ∗ SemRest d L) ⊢ (ownSems0 (tile d L) : sProp 𝕄) := by
  unfold SparseCore.Cfg.ownSems0 SemRest Sems6 Sems
  rw [bigSep_pick _ (cellAt d L) (cellAt_mem d L), six]
  iintro ⟨⟨⟨H0, H1, H2, H3⟩, H4, H5⟩, H⟩
  isplitr [H]
  · isplitl [H0]
    · iexact H0
    isplitl [H1]
    · iexact H1
    isplitl [H2]
    · iexact H2
    isplitl [H3]
    · iexact H3
    isplitl [H4]
    · iexact H4
    iexact H5
  iexact H

/-! ## The scratch buffers -/

def scrOf : Fin 4 → Ref sig .scVector
  | 0 => cc0_scratch0 | 1 => cc0_scratch1 | 2 => cc0_scratch2 | 3 => cc0_scratch3

theorem scrOf_inj : Function.Injective scrOf := by decide

def scrAt : Fin 4 ↪ DevRef τ sig :=
  ⟨fun i => (Proc.scVector (cV L) (jV L)).devRef (scrOf i), fun _ _ e => scrOf_inj (Proc.devRef_injective _ e)⟩

theorem scrAt_mem (i : Fin 4) : scrAt L i ∈ ownRefs (τ := τ) (.scVector (cV L) (jV L)) :=
  SparseCore.Cfg.mem_ownRefs_of_owner (by fin_cases i <;> rfl)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The other buffers of the tile. -/
abbrev BufRest : sProp 𝕄 :=
  bigSep (ownRefs (τ := τ) (.scVector (cV L) (jV L)) \ Finset.univ.map (scrAt L)) fun b => iprop(∃ f, ((d, b) : Loc nD τ sig) ↦{fullShare} f)

theorem halves_disjoint : ∀ p ∈ (Finset.univ : Finset (Fin 2)), ∀ p' ∈ (Finset.univ : Finset (Fin 2)), p ≠ p' → Disjoint (halfM p) (halfM p') := by
  intro p _ p' _ h
  refine Finset.disjoint_left.mpr fun x h1 h2 => h (Fin.ext ?_)
  rw [mem_halfM] at h1 h2
  omega

theorem halves_cover : (Finset.univ : Finset (Fin 2)).biUnion halfM = Finset.univ := by
  ext x
  have hx : (x 0).val < 24 := (x 0).isLt
  simp only [Finset.mem_biUnion, Finset.mem_univ, true_and, iff_true]
  exact ⟨⟨(x 0).val / 12, by omega⟩, mem_halfM.mpr rfl⟩

theorem two (Φ : Fin 2 → sProp 𝕄) : bigSep Finset.univ Φ = iprop(Φ 0 ∗ Φ 1) :=
  bigSep_univ_eq_bigSepL [0, 1] (by decide) (by decide) Φ

/-- The mask scratch is its two halves. -/
theorem masks_split (f : S24x4096.Idx → F .f32) :
    ((mB.view.loc (tile d L)) ↦{fullShare} f : sProp 𝕄) = iprop(MBp d L 0 f ∗ MBp d L 1 f) := by
  refine Eq.trans (congrArg (fun I => ((mB.view.loc (tile d L)) ↦[I]{fullShare} f : sProp 𝕄)) halves_cover.symm) ?_
  unfold MBp
  refine Eq.trans (pointsTo_biUnion _ _ ?_) (two fun p => (mB.view.loc (tile d L)) ↦[halfM p]{fullShare} f)
  exact halves_disjoint

theorem masks_join : iprop((∃ f, MBp d L 0 f) ∗ ∃ f, MBp d L 1 f) ⊢ (iprop(∃ f, (mB.view.loc (tile d L)) ↦{fullShare} f) : sProp 𝕄) := by
  unfold MBp
  iintro ⟨⟨%f, Hf⟩, %g, Hg⟩
  ihave H := (pointsTo_biUnion_join Finset.univ (ℓ := mB.view.loc (tile d L)) (q := fullShare) halfM (fun p => match p with | 0 => f | 1 => g) f halves_disjoint) $$ [Hf Hg]
  · rw [two]
    isplitl [Hf]
    · iexact Hf
    iexact Hg
  icases H with ⟨%h, -, H⟩
  rw [halves_cover]
  iexists h; iexact H

theorem bufs_split : (ownBufs (tile d L) : sProp 𝕄) ⊢ iprop(Scr d L ∗ BufRest d L) := by
  unfold SparseCore.Cfg.ownBufs BufRest Scr
  rw [show (tile d L).2 = Proc.scVector (cV L) (jV L) from rfl, bigSep_pick _ (scrAt L) (scrAt_mem L), four]
  iintro ⟨⟨⟨%f0, H0⟩, H1, H2, H3⟩, H⟩
  ihave H0' := (show (((d, scrAt L 0) : Loc nD τ sig) ↦{fullShare} f0 : sProp 𝕄) ⊢ iprop(MBp d L 0 f0 ∗ MBp d L 1 f0) from Entails.of_eq (masks_split d L f0)) $$ H0
  icases H0' with ⟨Ha, Hb⟩
  isplitr [H]
  · isplitl [Ha]
    · iexists f0; iexact Ha
    isplitl [Hb]
    · iexists f0; iexact Hb
    isplitl [H1]
    · iexact H1
    isplitl [H2]
    · iexact H2
    iexact H3
  iexact H

theorem bufs_join : iprop(Scr d L ∗ BufRest d L) ⊢ (ownBufs (tile d L) : sProp 𝕄) := by
  unfold SparseCore.Cfg.ownBufs BufRest Scr
  rw [show (tile d L).2 = Proc.scVector (cV L) (jV L) from rfl, bigSep_pick _ (scrAt L) (scrAt_mem L), four]
  iintro ⟨⟨Ha, Hb, H1, H2, H3⟩, H⟩
  isplitr [H]
  · isplitl [Ha Hb]
    · iapply (masks_join d L)
      isplitl [Ha] <;> iassumption
    isplitl [H1]
    · iexact H1
    isplitl [H2]
    · iexact H2
    iexact H3
  iexact H

/-! ## The task, launched -/

/-- What a tile is handed, -/
def GoP (d : Dev nD) (L : grid0.Coords) (M : Masks F) (P : Pars F) (q : PosShare TreeShare) (f : Masks F) (o : S256x16.Idx → F .f32) : sProp 𝕄 :=
  iprop(PR d L q P ∗ (bigSep Finset.univ fun n => In d L M f n) ∗ GO d L o)
/-- and what it hands back: its batches of the transposed result, and their gates. -/
def TdP (d : Dev nD) (L : grid0.Coords) (M : Masks F) (P : Pars F) : sProp 𝕄 :=
  iprop((bigSep Finset.univ fun n => bigSep Finset.univ fun k => PMr d L n k (pmOut M P)) ∗ GO d L (gOut M P))

instance (M : Masks F) (P : Pars F) (q : PosShare TreeShare) (f : Masks F) (o : S256x16.Idx → F .f32) : Storable (upEmb : UEmb _ 𝕄) (GoP d L M P q f o) := by
  unfold GoP In PR; infer_instance
instance (M : Masks F) (P : Pars F) : Storable (upEmb : UEmb _ 𝕄) (TdP d L M P) := by
  unfold TdP; infer_instance

theorem in_out (M f : Masks F) : (bigSep Finset.univ fun n => In d L M f n) ⊢ bigSep Finset.univ fun n => bigSep Finset.univ fun k => PMr d L n k f := by
  unfold In
  rw [bigSep_sep']
  exact sep_elim_right

theorem tile_body (hF : (K (F := F)).Facts) (hO : ∀ g, O g none = 0) (M : Masks F) (P : Pars F) (q : PosShare TreeShare) (f : Masks F) (o : S256x16.Idx → F .f32) :
    iprop(levAts (K (F := F)).L (K (F := F)).lev ∗ emp ∗ GoP d L M P q f o
        ∗ scopedBufs (tile d L) ∗ scopedSems0 (tile d L) ∗ owes (tile d L) O W)
      ⊢ Wp d L (cc0__sc_body (F := F) L mT (Memref.isWhole_whole _) par (Memref.isWhole_whole _) pmT (Memref.isWhole_whole _) gts (Memref.isWhole_whole _)
          mB (Memref.isWhole_whole _) aB (Memref.isWhole_whole _) gB (Memref.isWhole_whole _) pV (Memref.isWhole_whole _)
          cc0_scratch4 cc0_scratch5 cc0_scratch6 cc0_scratch7 cc0_scoped0 cc0_scoped1)
          fun _ => iprop(TdP d L M P ∗ scopedBufs (tile d L) ∗ scopedSems0 (tile d L)
            ∗ ∃ W', ⌜∀ p ∈ W', p ∈ W ∨ p.2 = none⌝ ∗ owes (tile d L) O W') := by
  rw [task_eq, (K (F := F)).scopedBufs_V hF d (cV L) (jV L), SparseCore.Cfg.scopedSems0_V (Val := Elt F) d (cV L) (jV L)]
  unfold GoP
  iintro ⟨#Hlv, -, Hgo, Hbufs, Hsems, HO⟩
  ihave Hb := (bufs_split d L) $$ Hbufs
  icases Hb with ⟨Hscr, Hbr⟩
  ihave Hs := (sems_split d L) $$ Hsems
  icases Hs with ⟨Hs6, Hsr⟩
  iapply (wp_wand_r frame _ Set.univ)
  isplitl [Hgo Hscr Hs6 HO]
  · iapply (wp_task (W := W) hO M P q f o)
    isplitl [Hgo]
    · iexact Hgo
    isplitl [Hscr]
    · iexact Hscr
    isplitl [Hs6]
    · iexact Hs6
    isplitl [HO]
    · unfold Owe
      iexists W; isplitr
      · ipureintro; exact fun p hp => .inl hp
      iexact HO
    iexact Hlv
  unfold TdP Owe
  iintro %_ ⟨⟨-, Hin, Ho⟩, Hscr, Hs6, HO⟩
  isplitl [Hin Ho]
  · isplitl [Hin]
    · iapply (in_out d L M (pmOut M P)); iexact Hin
    iexact Ho
  isplitl [Hscr Hbr]
  · iapply (bufs_join d L)
    isplitl [Hscr] <;> iassumption
  isplitl [Hs6 Hsr]
  · iapply (sems_join d L)
    isplitl [Hs6] <;> iassumption
  iexact HO

end Cert.KernelIdeal.Tile

end
-- ==== Proof.Region.lean ====
/-
  The TensorCore call: the slots times the gates, whole arrays staged in and out — its body run, what its result holds, and
  the call as a segment entered from its three arrays.
-/
module

public import proofs.«01_k».proof.Proof.Model
public import proofs.«01_k».proof.Proof.Gen.KernelIdeal.Launch
public import proofs.«01_k».proof.Proof.Gen.KernelIdeal.Points
public import Idealize.ShloMosaic.Lib.Pipeline.ValueKit
public import Idealize.ShloMosaic.Lib.Tactic

@[expose] public section

noncomputable section

namespace Cert.KernelIdeal.Tile

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MM F

/-- Contents of the slots, and of the gates. -/
abbrev Slots (F : FTy → Type) : Type := S256x12x64.Idx → F .f32
abbrev Gates (F : FTy → Type) : Type := S256x16.Idx → F .f32

/-- The gates of the twelve slots, along the slots' last axis. -/
def spread (G : Gates F) : Slots F :=
  broadcastTo S256x12x64 (shapeCast S256x12x1 (extractStridedSlice S256x12 ![0, 0] (shapeCast S256x16 G shapeCasts_S256x16_S256x16)
    slices_S256x16_o0_0_S256x12) shapeCasts_S256x12_S256x12x1) broadcasts_S256x12x1_S256x12x64

/-- The call's result. -/
def psOut (X : Slots F) (G : Gates F) : Slots F := mulf X (spread G)

/-! ## The body -/

/-- What the body leaves in the third buffer, over what the first two hold, and the run that leaves it. -/
def slotsRun (d : Dev nD) (M0 : Memref sig .tc .vmem S256x12x64 .f32) (h0 : M0.IsWhole) (M1 : Memref sig .tc .vmem S256x16 .f32) (h1 : M1.IsWhole)
    (M2 : Memref sig .tc .vmem S256x12x64 .f32) (h2 : M2.IsWhole)
    (f0 : Buf (Elt F) (M0.view.loc (d : Thread nD τ))) (f1 : Buf (Elt F) (M1.view.loc (d : Thread nD τ))) :
    { R : Buf (Elt F) (M2.view.loc (d : Thread nD τ)) // ∀ (f2 : Buf (Elt F) (M2.view.loc (d : Thread nD τ))) (Q : PUnit → sProp 𝕄),
        iprop((M0.view.loc (d : Thread nD τ) ↦{fullShare} f0) ∗ (M1.view.loc (d : Thread nD τ) ↦{fullShare} f1) ∗ (M2.view.loc (d : Thread nD τ) ↦{fullShare} f2)
            ∗ (iprop((M0.view.loc (d : Thread nD τ) ↦{fullShare} f0) ∗ (M1.view.loc (d : Thread nD τ) ↦{fullShare} f1) ∗ (M2.view.loc (d : Thread nD τ) ↦{fullShare} R)) -∗ Q ⟨⟩))
          ⊢ wp frame (wpE (defs₀ (F := F)) 𝒱₀ (d : Thread nD τ) none) Set.univ (cc1__tc_slots_body M0 h0 M1 h1 M2 h2) Q } := by
  refine ⟨?_, fun f2 Q => ?run⟩
  case run =>
    iintro ⟨H0, H1, H2, Hk⟩
    sl_exec!
    sl_step
    iapply Hk
    isplitl [H0]; · iexact H0
    isplitl [H1]; · iexact H1
    iexact H2

theorem read_all0 (X : Slots F) : (stage1_0 0).view.readAt (Elt F)
    (Rect.unit (s := S256x12x64) ![0, 0, 0] S256x12x64.size inb_S256x12x64_S256x12x64_0_0_0).toLoadRect X = X := by
  funext y
  refine congrArg X (funext fun a => Fin.ext ?_)
  match a with
  | 0 => show 0 + 1 * (y 0).val = (y 0).val; omega
  | 1 => show 0 + 1 * (y 1).val = (y 1).val; omega
  | 2 => show 0 + 1 * (y 2).val = (y 2).val; omega

theorem read_all1 (G : Gates F) : (stage1_1 0).view.readAt (Elt F)
    (Rect.unit (s := S256x16) ![0, 0] S256x16.size inb_S256x16_S256x16_0_0).toLoadRect G = G := by
  funext y
  refine congrArg G (funext fun a => Fin.ext ?_)
  match a with
  | 0 => show 0 + 1 * (y 0).val = (y 0).val; omega
  | 1 => show 0 + 1 * (y 1).val = (y 1).val; omega

theorem update_all (f w : Slots F) (h : S256x12x64.Slices ![0, 0, 0] S256x12x64) : updateSlice f w ![0, 0, 0] h = w := by
  funext x
  have h0 : (x 0).val < 256 := (x 0).isLt
  have h1 : (x 1).val < 12 := (x 1).isLt
  have h2 : (x 2).val < 64 := (x 2).isLt
  unfold updateSlice
  refine (dif_pos (fun a => ?_)).trans ?_
  · match a with
    | 0 => exact ⟨Nat.zero_le _, show (x 0).val < 0 + 256 by omega⟩
    | 1 => exact ⟨Nat.zero_le _, show (x 1).val < 0 + 12 by omega⟩
    | 2 => exact ⟨Nat.zero_le _, show (x 2).val < 0 + 64 by omega⟩
  · refine congrArg w (funext fun a => Fin.ext ?_)
    match a with
    | 0 => exact Nat.sub_zero _
    | 1 => exact Nat.sub_zero _
    | 2 => exact Nat.sub_zero _

theorem slotsRun_eq (d : Dev nD) (X : Slots F) (G : Gates F) :
    (slotsRun d (stage1_0 0) (hstage1_0 0) (stage1_1 0) (hstage1_1 0) (stage1_2 0) (hstage1_2 0) X G).1 = psOut X G := by
  unfold slotsRun
  dsimp only
  unfold slotsRun.sl.H2_1
  rw [View.writes_singleton]
  refine (View.write_whole_slice_unit (Val := Elt F) cc1_stg2_0 _ _ _ _ _).trans ?_
  refine (update_all _ _ _).trans ?_
  show mulf ((stage1_0 0).view.readAt (Elt F) (Rect.unit (s := S256x12x64) ![0, 0, 0] S256x12x64.size inb_S256x12x64_S256x12x64_0_0_0).toLoadRect X)
    (spread ((stage1_1 0).view.readAt (Elt F) (Rect.unit (s := S256x16) ![0, 0] S256x16.size inb_S256x16_S256x16_0_0).toLoadRect G)) = _
  rw [read_all0, read_all1]
  rfl

/-! ## The call's proof data -/

/-- The contents of the three arrays: the operands', and the result's before the call. -/
def arrs (X : Slots F) (G : Gates F) (f : Slots F) (d : Dev nD) : (w : Fin 3) → Buf (Elt F) ((d : Thread nD τ).loc (Pipeline.arrRef spec1 w))
  | ⟨0, _⟩ => X
  | ⟨1, _⟩ => G
  | ⟨2, _⟩ => f

/-- What the call's thread has waited for, by its levels. -/
def within (b : ℕ) (d : Dev nD) : Set (SemLoc sig × HIx 1) := {p | (K (F := F)).lev (T d, p.1) p.2 ≤ b}

variable (X : Slots F) (G : Gates F) (f : Slots F) (b : ℕ)

def dat (d : Dev nD) : Dat τ (Elt F) (HIx 1) ℕ UU ℕ cfg1 d where
  A w := arrs X G f d w
  after w _ := match w with
    | ⟨0, _⟩ => X
    | ⟨1, _⟩ => G
    | ⟨2, _⟩ => psOut X G
  Φ _ := Pipeline.scopedRest (Ix := HIx 1) (Name := ℕ) (U := UU) (Lvl := ℕ) (Val := Elt F) spec1 d
  q _ := fullShare
  owed _ := 0
  recorded _ := within (F := F) b d

abbrev adm (p : Fin 1) : (pcfgs (F := F) p).Adm := (cfgs p).toPCfg_adm

def pdats : (p : Fin 1) → (d : Dev nD) → Dat τ (Elt F) (HIx 1) ℕ UU ℕ (Pipeline.pin (pcfgs (F := F)) adm p) d
  | ⟨0, _⟩ => fun d => dat X G f b d

theorem before0 (d : Dev nD) (u : (cfg1.win 0).block.Idx → Elt F (cfg1.win 0).elt) : (dat X G f b d).before 0 t1_0 u = X := by
  unfold Dat.before; rw [if_pos (by decide)]
  refine Eq.trans (b := ((cfg1.win 0).blk t1_0).view.read (Elt F) X) rfl ?_
  funext y
  refine congrArg X (funext fun a => Fin.ext ?_)
  exact Pipeline.Window.rect_emb_val_of_index_zero (cfg1.win 0) t1_0 _ ((by decide +kernel : ∀ a, (cfg1.win 0).index t1_0 a = 0) a) y
theorem before1 (d : Dev nD) (u : (cfg1.win 1).block.Idx → Elt F (cfg1.win 1).elt) : (dat X G f b d).before 1 t1_0 u = G := by
  unfold Dat.before; rw [if_pos (by decide)]
  refine Eq.trans (b := ((cfg1.win 1).blk t1_0).view.read (Elt F) G) rfl ?_
  funext y
  refine congrArg G (funext fun a => Fin.ext ?_)
  exact Pipeline.Window.rect_emb_val_of_index_zero (cfg1.win 1) t1_0 _ ((by decide +kernel : ∀ a, (cfg1.win 1).index t1_0 a = 0) a) y

theorem body_obligation (d : Dev nD) : BodyObligation (dat X G f b d) (defs₀ (F := F)) 𝒱₀ none Set.univ := fun t => by
  obtain rfl := fin_N1 t
  rw [bigSep_W1, bigSep_W1]
  simp only [owns_whole_eq]
  rw [show (dat X G f b d).Φ t1_0.castSucc = (dat X G f b d).Φ t1_0.succ from rfl, show (dat X G f b d).owesAt none t1_0.succ = (dat X G f b d).owesAt none t1_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0 hf1
  iapply ((slotsRun d (stage1_0 0) (hstage1_0 0) (stage1_1 0) (hstage1_1 0) (stage1_2 0) (hstage1_2 0) f0 f1).2 f2 _)
  isplitl [H0]; · iexact H0
  isplitl [H1]; · iexact H1
  isplitl [H2]; · iexact H2
  rw [slotsRun_eq]
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The result's array after the call. -/
theorem final2 (d : Dev nD) : (dat X G f b d).arrAt 2 cfg1.N = psOut X G :=
  (dat X G f b d).arrAt_eq_of_after_last 2 t1_0 (by decide +kernel) (psOut X G) fun j => rfl

/-- The thread's recorded waits within a level. -/
abbrev TcWaits (d : Dev nD) : sProp 𝕄 := iprop(∃ W, ⌜(K (F := F)).WBelow (T d) W b⌝ ∗ owes (T d) (0 : CellTallies nD τ sig (HIx 1)) W)

/-- The three arrays. -/
abbrev Three (d : Dev nD) (f : Slots F) : sProp 𝕄 :=
  iprop((((d : Thread nD τ).loc main_arg0) ↦{fullShare} X) ∗ (((d : Thread nD τ).loc main_v6_1) ↦{fullShare} G) ∗ (((d : Thread nD τ).loc main_v7) ↦{fullShare} f))

theorem arrays0 (d : Dev nD) : ((pdats X G f b 0 d).arrays ((pdats X G f b 0 d).arrAt · 0) : sProp 𝕄) = Three X G d f := by
  rw [Pipeline.arrays_eq (Pipeline.pin (pcfgs (F := F)) adm) (pdats X G f b) 0 d launch1.arr_whole ((pdats X G f b 0 d).share_full fun _ => rfl)]
  exact bigSep_W1 _

theorem arraysN (d : Dev nD) : ((pdats X G f b 0 d).arrays ((pdats X G f b 0 d).arrAt · cfg1.N) : sProp 𝕄) = Three X G d (psOut X G) := by
  rw [Pipeline.arrays_eq (Pipeline.pin (pcfgs (F := F)) adm) (pdats X G f b) 0 d launch1.arr_whole ((pdats X G f b 0 d).share_full fun _ => rfl)]
  refine (bigSep_W1 _).trans ?_
  rw [show (pdats X G f b 0 d).arrAt 2 cfg1.N = psOut X G from final2 X G f b d]
  rw [show (pdats X G f b 0 d).arrAt 0 cfg1.N = X from (dat X G f b d).arrAt_in 0 rfl _,
    show (pdats X G f b 0 d).arrAt 1 cfg1.N = G from (dat X G f b d).arrAt_in 1 rfl _]

set_option backward.isDefEq.respectTransparency.types false in
/-- The call, from its operands and its result's array to the result. -/
def reg : Pipeline.RegionSeg (pcfgs (F := F)) adm (pdats X G f b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation X G f b d).loose
  hwaits := Pipeline.hwaits_of_owed_zero _ _ _ _ (K (F := F)).L (K (F := F)).lev 0 fun _ _ => rfl
  pre d := iprop(Three X G d f ∗ TcWaits b d)
  post d := iprop(Three X G d (psOut X G) ∗ TcWaits b d)
  X _ := BI.emp
  Y _ := BI.emp
  Z _ := BI.emp
  hentry d := by
    rw [Pipeline.ownSems0_none, arrays0]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iempintro
  hin d := by
    rw [show (pdats X G f b 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats X G f b 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    iintro ⟨Ha, HO, -, -⟩
    imodintro
    ihave Ha' := (Entails.of_eq (arraysN X G f b d)) $$ Ha
    isplitl [Ha']; · iexact Ha'
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.KernelIdeal.Tile

end
-- ==== Proof.Launch.lean ====
/-
  What the launch of the SparseCore call asks: what each tile is handed and hands back, that the task does with it what it says,
  and the resources the two calls' rounds start from.
-/
module

public import proofs.«01_k».proof.Proof.Tile
public import proofs.«01_k».proof.Proof.Region

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.ShloMosaic.Rounds (initOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The memory's arrays -/

/-- The transposed masks, -/
def masksT (X : S256x4096x12.Idx → F .f32) : Masks F := transpose S12x256x4096 [2, 0, 1] X transposes_S256x4096x12_S12x256x4096_2_0_1

/-- the packed parameters, -/
def packed (w1 : S1x16.Idx → F .f32) (b1 : S16.Idx → F .f32) (w2 : S16x1.Idx → F .f32) (b2 : S1.Idx → F .f32) : Pars F :=
  shapeCast S1x64 (concatenate S64 0 [⟨S16, shapeCast S16 w1 shapeCasts_S1x16_S16⟩, ⟨S16, b1⟩, ⟨S16, shapeCast S16 w2 shapeCasts_S16x1_S16⟩, ⟨S1, b2⟩,
    ⟨S15, broadcastInDim S15 ![] bcast_S_S15 (constant (F := F) S_ .f32 0x00000000#32)⟩] concatenates_S16_S16_S16_S1_S15_S64_d0) shapeCasts_S64_S1x64

variable (m : (ℓ : Loc nD τ sig) → Buf (Elt F) ℓ) (ρ : Dev nD → PrngReg)

def Mv (d : Dev nD) : Masks F := masksT (m ((d.tc : Thread nD τ).loc main_arg1))
def Pv (d : Dev nD) : Pars F :=
  packed (m ((d.tc : Thread nD τ).loc main_arg2)) (m ((d.tc : Thread nD τ).loc main_arg3)) (m ((d.tc : Thread nD τ).loc main_arg4)) (m ((d.tc : Thread nD τ).loc main_arg5))
/-- what the two arrays the tiles write hold at the launch. -/
def Rv (d : Dev nD) : Masks F := m ((d.tc : Thread nD τ).loc main_v6_0)
def Ov (d : Dev nD) : S256x16.Idx → F .f32 := m ((d.tc : Thread nD τ).loc main_v6_1)

/-! ## What a tile is handed and hands back -/

def coordsV (c : Fin (grid0.bound 0)) (s : Fin (grid0.bound 1)) : grid0.Coords :=
  fun | 0 => c | 1 => s | ⟨_ + 2, h⟩ => absurd h (Nat.not_lt.2 (Nat.le_add_left _ _))

/-- The share of the parameters tile `L` reads them at. -/
def tok (L : grid0.Coords) : PosShare TreeShare := Transfers.shareTok fullShare 32 ⟨rank L, rank_lt L⟩

@[irreducible] def goR (d : Dev nD) (c : Fin (grid0.bound 0)) (s : Fin (grid0.bound 1)) : sProp 𝕄 :=
  GoP d (coordsV c s) (Mv m d) (Pv m d) (tok (coordsV c s)) (Rv m d) (Ov m d)
@[irreducible] def tdR (d : Dev nD) (c : Fin (grid0.bound 0)) (s : Fin (grid0.bound 1)) : sProp 𝕄 := TdP d (coordsV c s) (Mv m d) (Pv m d)
/-- A SparseCore is handed what its sixteen tiles are, and hands back what they do. -/
@[irreducible] def stR (d : Dev nD) (c : Fin (grid0.bound 0)) : sProp 𝕄 := bigSep Finset.univ fun s => goR m d c s
@[irreducible] def dnR (d : Dev nD) (c : Fin (grid0.bound 0)) : sProp 𝕄 := bigSep Finset.univ fun s => tdR m d c s

instance (d : Dev nD) (c : Fin (grid0.bound 0)) (s : Fin (grid0.bound 1)) : Storable (upEmb : UEmb _ 𝕄) (goR m d c s) := by unfold goR; infer_instance
instance (d : Dev nD) (c : Fin (grid0.bound 0)) (s : Fin (grid0.bound 1)) : Storable (upEmb : UEmb _ 𝕄) (tdR m d c s) := by unfold tdR; infer_instance
instance (d : Dev nD) (c : Fin (grid0.bound 0)) : Storable (upEmb : UEmb _ 𝕄) (stR m d c) := by unfold stR; infer_instance
instance (d : Dev nD) (c : Fin (grid0.bound 0)) : Storable (upEmb : UEmb _ 𝕄) (dnR m d c) := by unfold dnR; infer_instance

theorem nCore_zero : (K (F := F)).nCore 0 = grid0.bound 0 := rfl
theorem nSub_zero : (K (F := F)).nSub 0 = grid0.bound 1 := rfl

def P : (K (F := F)).Pay (nD := nD) (Val := Elt F) (Name := ℕ) (U := UU) where
  st := fun q d c => match q with | 0 => stR m d (Fin.cast nCore_zero c)
  dn := fun q d c => match q with | 0 => dnR m d (Fin.cast nCore_zero c)
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

theorem P_st (d : Dev nD) (c : Fin ((K (F := F)).nCore 0)) : (P m).st 0 d c = stR m d (Fin.cast nCore_zero c) := by delta P; rfl
theorem P_dn (d : Dev nD) (c : Fin ((K (F := F)).nCore 0)) : (P m).dn 0 d c = dnR m d (Fin.cast nCore_zero c) := by delta P; rfl
theorem P_go (d : Dev nD) (c : Fin ((K (F := F)).nCore 0)) (i : Fin ((K (F := F)).nSub 0)) :
    (P m).go 0 d c i = goR m d (Fin.cast nCore_zero c) (Fin.cast nSub_zero i) := by delta P; rfl
theorem P_td (d : Dev nD) (c : Fin ((K (F := F)).nCore 0)) (i : Fin ((K (F := F)).nSub 0)) :
    (P m).td 0 d c i = tdR m d (Fin.cast nCore_zero c) (Fin.cast nSub_zero i) := by delta P; rfl
theorem P_x (q : Fin 1) (thr : Thread nD τ) : (P (F := F) m).x q thr = (iprop(emp) : sProp 𝕄) := rfl

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

theorem defs₀_vector (c : Fin τ.nSC) (s : Fin τ.nSub) :
    defs₀ (F := F) (.scVector c s) 0 ()
      = SparseCore.onTile hcore0 hsub0 (fun c s => cc0__sc_body (coordsV c s)
          mT (Memref.isWhole_whole _) par (Memref.isWhole_whole _) pmT (Memref.isWhole_whole _) gts (Memref.isWhole_whole _)
          mB (Memref.isWhole_whole _) aB (Memref.isWhole_whole _) gB (Memref.isWhole_whole _) pV (Memref.isWhole_whole _)
          cc0_scratch4 cc0_scratch5 cc0_scratch6 cc0_scratch7 cc0_scoped0 cc0_scoped1) ⟨⟩ c s := rfl

/-- Waits of the launch's own index are waits of either. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- The task between what the launch hands it and what it hands back. -/
theorem task_body (d : Dev nD) (c : Fin (grid0.bound 0)) (s : Fin (grid0.bound 1)) {O : CellTallies nD τ sig (HIx 1)} {W : Waits sig (HIx 1)} (hO : ∀ g, O g none = 0) :
    iprop(levAts (K (F := F)).L (K (F := F)).lev ∗ emp ∗ goR m d c s ∗ scopedBufs (tile d (coordsV c s)) ∗ scopedSems0 (tile d (coordsV c s)) ∗ owes (tile d (coordsV c s)) O W)
      ⊢ Wp d (coordsV c s) (cc0__sc_body (F := F) (coordsV c s) mT (Memref.isWhole_whole _) par (Memref.isWhole_whole _) pmT (Memref.isWhole_whole _) gts (Memref.isWhole_whole _)
          mB (Memref.isWhole_whole _) aB (Memref.isWhole_whole _) gB (Memref.isWhole_whole _) pV (Memref.isWhole_whole _)
          cc0_scratch4 cc0_scratch5 cc0_scratch6 cc0_scratch7 cc0_scoped0 cc0_scoped1)
          fun _ => iprop(tdR m d c s ∗ scopedBufs (tile d (coordsV c s)) ∗ scopedSems0 (tile d (coordsV c s))
            ∗ ∃ W', ⌜∀ p ∈ W', p ∈ W ∨ p.2 = none⌝ ∗ owes (tile d (coordsV c s)) O W') := by
  unfold goR tdR
  exact tile_body d (coordsV c s) facts hO _ _ _ _ _

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_body m d ⟨_, hc.1⟩ ⟨_, hc.2⟩ hO).trans (wp_mono frame _ _ fun _ => widen)

theorem vecSplit : (K (F := F)).VecSplit' (P m) 0 := by
  intro d c
  rw [P_st, P_dn, bigSep_congr fun i _ => P_go m d c i, bigSep_congr fun i _ => P_td m d c i]
  unfold stR dnR
  iintro H; imodintro
  isplitl [H]; · iexact H
  iintro H; iexact H

/-! ## The launch's resources -/

abbrev EH : Emb UH 𝕄 := embL
/-- The host call's rounds. -/
def EP : Emb (Idealize.ShloMosaic.UR sig nD τ) 𝕄 := (Emb.inl : Emb _ (Idealize.ShloMosaic.UR sig nD τ × Counters)).trans embR

instance EP_landsIn : (EP (F := F)).LandsIn (upEmb : UEmb _ 𝕄) := by unfold EP; infer_instance

abbrev pins : Fin 1 → Pipeline.Cfg sig Λ₀ := Pipeline.pin (pcfgs (F := F)) adm

theorem pins_inj : Function.Injective (Pipeline.cellOf (nD := nD) (τ := τ) (pins (F := F))) := cellOf_inj

def u₀ : UU :=
  (initOf (K (F := F)).hsCells (K (F := F)).hsToks,
    (initOf (Pipeline.cells (pins (F := F)) pins_inj) (Pipeline.launchToks (pins (F := F)) pins_inj), 1))

/-- What the host call's thread starts with. -/
abbrev G (d : Dev nD) : sProp 𝕄 := iprop(Pipeline.cellsGhost (pins (F := F)) EP 0 d ∗ Pipeline.toksInit (pins (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    rw [bigSep_congr fun thr _ => (bigSep_congr fun q _ => P_x m q thr).trans (bigSep_emp_const _), bigSep_emp_const]; rfl
  have hG : (bigSep Finset.univ fun d : Dev nD => G (F := F) d)
      = (iprop((bigSep Finset.univ fun c : Dev nD => bigSep Finset.univ fun p => Pipeline.cellsGhost (pins (F := F)) EP p c)
          ∗ (bigSep Finset.univ fun c : Dev nD => bigSep Finset.univ fun p => (Pipeline.toksInit (pins (F := F)) EP p c : sProp 𝕄))) : sProp 𝕄) := by
    rw [← bigSep_sep']
    refine bigSep_congr fun d _ => ?_
    rw [bigSep_univ_of_subsingleton (0 : Fin 1), bigSep_univ_of_subsingleton (0 : Fin 1)]
  rw [hx, hG]
  unfold u₀
  iintro Hu
  ihave H := (ownU_pair _ _) $$ Hu
  icases H with ⟨HH, HK⟩
  ihave H := (own_pair_emb embR _ _) $$ HK
  icases H with ⟨HP, -⟩
  ihave HP' := (show BI.own (((Emb.inl : Emb _ (Idealize.ShloMosaic.UR sig nD τ × Counters)).trans embR) (initOf (Pipeline.cells (pins (F := F)) pins_inj) (Pipeline.launchToks (pins (F := F)) pins_inj)))
      ⊢ (BI.own (EP (initOf (Pipeline.cells (pins (F := F)) pins_inj) (Pipeline.launchToks (pins (F := F)) pins_inj))) : sProp 𝕄) from Entails.rfl) $$ HP
  imod (Pipeline.fund_ghost (pins (F := F)) EP pins_inj) $$ HP' with HP
  imodintro
  isplitl [HH]; · iexact HH
  isplitl [HP]; · iexact HP
  iempintro

end Cert.KernelIdeal.Tile

end
-- ==== Proof.Share.lean ====
/-
  The four arrays of the SparseCore call dealt to the thirty-two tiles, and the two they write put together again: each tile has
  eight of the 256 batches, each batch twelve rows.
-/
module

public import proofs.«01_k».proof.Proof.Launch

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The tiles, and their rows -/

/-- A tile, by its SparseCore and its place there; -/
abbrev TileIx : Type := Fin (grid0.bound 0) × Fin (grid0.bound 1)
/-- a row of a tile: of one of its eight batches, one of twelve. -/
abbrev RowIx : Type := TileIx × Fin 8 × Fin 12

abbrev coords (t : TileIx) : grid0.Coords := coordsV t.1 t.2

theorem rank_coords (t : TileIx) : rank (coords t) = 2 * t.2.val + t.1.val := rfl

def rowSet (r : RowIx) : Finset S12x256x4096.Idx := rowH r.2.2 (batch (coords r.1) r.2.1)

theorem rows_disjoint : ∀ r ∈ (Finset.univ : Finset RowIx), ∀ r' ∈ (Finset.univ : Finset RowIx), r ≠ r' → Disjoint (rowSet r) (rowSet r') := by
  rintro ⟨⟨c, s⟩, n, k⟩ _ ⟨⟨c', s'⟩, n', k'⟩ _ h
  refine Finset.disjoint_left.mpr fun x h1 h2 => h ?_
  unfold rowSet at h1 h2
  rw [mem_rowH] at h1 h2
  have e1 : (x 1).val = 8 * (2 * s.val + c.val) + n.val := h1.2
  have e2 : (x 1).val = 8 * (2 * s'.val + c'.val) + n'.val := h2.2
  have hc : c.val < 2 := c.isLt
  have hc' : c'.val < 2 := c'.isLt
  have hk : k = k' := Fin.ext (h1.1.symm.trans h2.1)
  have hn : n = n' := Fin.ext (by omega)
  have hcc : c = c' := Fin.ext (by omega)
  have hss : s = s' := Fin.ext (by omega)
  subst hk hn hcc hss; rfl

theorem rows_cover : (Finset.univ : Finset RowIx).biUnion rowSet = Finset.univ := by
  ext x
  have h0 : (x 0).val < 12 := (x 0).isLt
  have h1 : (x 1).val < 256 := (x 1).isLt
  simp only [Finset.mem_biUnion, Finset.mem_univ, true_and, iff_true]
  refine ⟨((⟨(x 1).val / 8 % 2, show _ < 2 by omega⟩, ⟨(x 1).val / 16, show _ < 16 by omega⟩), ⟨(x 1).val % 8, by omega⟩, ⟨(x 0).val, h0⟩), ?_⟩
  unfold rowSet
  rw [mem_rowH]
  refine ⟨rfl, ?_⟩
  show (x 1).val = 8 * (2 * ((x 1).val / 16) + (x 1).val / 8 % 2) + (x 1).val % 8
  omega

def blkSet (t : TileIx) : Finset S256x16.Idx := blkO (coords t)

theorem blks_disjoint : ∀ t ∈ (Finset.univ : Finset TileIx), ∀ t' ∈ (Finset.univ : Finset TileIx), t ≠ t' → Disjoint (blkSet t) (blkSet t') := by
  rintro ⟨c, s⟩ _ ⟨c', s'⟩ _ h
  refine Finset.disjoint_left.mpr fun x h1 h2 => h ?_
  unfold blkSet at h1 h2
  rw [mem_blkO] at h1 h2
  have e1 : (x 0).val / 8 = 2 * s.val + c.val := h1
  have e2 : (x 0).val / 8 = 2 * s'.val + c'.val := h2
  have hc : c.val < 2 := c.isLt
  have hc' : c'.val < 2 := c'.isLt
  have hcc : c = c' := Fin.ext (by omega)
  have hss : s = s' := Fin.ext (by omega)
  subst hcc hss; rfl

theorem blks_cover : (Finset.univ : Finset TileIx).biUnion blkSet = Finset.univ := by
  ext x
  have h0 : (x 0).val < 256 := (x 0).isLt
  simp only [Finset.mem_biUnion, Finset.mem_univ, true_and, iff_true]
  refine ⟨(⟨(x 0).val / 8 % 2, show _ < 2 by omega⟩, ⟨(x 0).val / 16, show _ < 16 by omega⟩), ?_⟩
  unfold blkSet
  rw [mem_blkO]
  show (x 0).val / 8 = 2 * ((x 0).val / 16) + (x 0).val / 8 % 2
  omega

/-- The tiles by their ranks. -/
def byRank : TileIx ≃ Fin 32 :=
  Equiv.ofBijective (fun t => ⟨rank (coords t), rank_lt _⟩) ((Fintype.bijective_iff_injective_and_card _).mpr
    ⟨fun t t' h => by
      obtain ⟨c, s⟩ := t; obtain ⟨c', s'⟩ := t'
      have e : 2 * s.val + c.val = 2 * s'.val + c'.val := congrArg Fin.val h
      have hc : c.val < 2 := c.isLt
      have hc' : c'.val < 2 := c'.isLt
      have hcc : c = c' := Fin.ext (by omega)
      have hss : s = s' := Fin.ext (by omega)
      subst hcc hss; rfl, by decide⟩)

/-- A family over the tiles' rows, tile by tile, batch by batch. -/
theorem bigSep_rows (Φ : RowIx → sProp 𝕄) :
    bigSep Finset.univ Φ = bigSep Finset.univ fun t : TileIx => bigSep Finset.univ fun n => bigSep Finset.univ fun k => Φ (t, n, k) := by
  rw [bigSep_univ_prod]
  refine bigSep_congr fun t _ => ?_
  rw [bigSep_univ_prod]

/-! ## The arrays, dealt -/

variable (d : Dev nD)

abbrev vPts4 (P : Pars F) : sProp 𝕄 := ((d.tc : Thread nD τ).loc main_v4) ↦{fullShare} P
abbrev vPts5 (M : Masks F) : sProp 𝕄 := ((d.tc : Thread nD τ).loc main_v5) ↦{fullShare} M
abbrev vPts60 (M : Masks F) : sProp 𝕄 := ((d.tc : Thread nD τ).loc main_v6_0) ↦{fullShare} M
abbrev vPts61 (G : Gates F) : sProp 𝕄 := ((d.tc : Thread nD τ).loc main_v6_1) ↦{fullShare} G

theorem rows5 (M : Masks F) :
    vPts5 d M = bigSep Finset.univ fun t : TileIx => bigSep Finset.univ fun n => bigSep Finset.univ fun k => MTr d (coords t) n k M := by
  refine Eq.trans (congrArg (fun I => (((d.tc : Thread nD τ).loc main_v5) ↦[I]{fullShare} M : sProp 𝕄)) rows_cover.symm) ?_
  refine Eq.trans (pointsTo_biUnion _ _ ?_) (bigSep_rows (F := F) fun r => ((d.tc : Thread nD τ).loc main_v5) ↦[rowSet r]{fullShare} M)
  exact rows_disjoint

theorem rows60 (M : Masks F) :
    vPts60 d M = bigSep Finset.univ fun t : TileIx => bigSep Finset.univ fun n => bigSep Finset.univ fun k => PMr d (coords t) n k M := by
  refine Eq.trans (congrArg (fun I => (((d.tc : Thread nD τ).loc main_v6_0) ↦[I]{fullShare} M : sProp 𝕄)) rows_cover.symm) ?_
  refine Eq.trans (pointsTo_biUnion _ _ ?_) (bigSep_rows (F := F) fun r => ((d.tc : Thread nD τ).loc main_v6_0) ↦[rowSet r]{fullShare} M)
  exact rows_disjoint

theorem blks61 (G : Gates F) : vPts61 d G = bigSep Finset.univ fun t : TileIx => GO d (coords t) G := by
  refine Eq.trans (congrArg (fun I => (((d.tc : Thread nD τ).loc main_v6_1) ↦[I]{fullShare} G : sProp 𝕄)) blks_cover.symm) ?_
  refine Eq.trans (pointsTo_biUnion _ _ ?_) rfl
  exact blks_disjoint

/-- The parameters, a share for every tile. -/
theorem toks4 (P : Pars F) : vPts4 d P ⊢ bigSep Finset.univ fun t : TileIx => PR d (coords t) (tok (coords t)) P := by
  refine (Transfers.pointsTo_toks_split fullShare 32).trans (sep_elim_right.trans (Entails.of_eq ?_))
  rw [bigSep_univ_equiv byRank]
  rfl

variable (m : (ℓ : Loc nD τ sig) → Buf (Elt F) ℓ)

/-- What the call takes, from the arrays; -/
theorem deal : iprop(vPts4 d (Pv m d) ∗ vPts5 d (Mv m d) ∗ vPts60 d (Rv m d) ∗ vPts61 d (Ov m d))
    ⊢ bigSep Finset.univ fun c : Fin ((K (F := F)).nCore 0) => (P m).st 0 d c := by
  have h : (bigSep Finset.univ fun c : Fin ((K (F := F)).nCore 0) => (P m).st 0 d c) = bigSep Finset.univ fun t : TileIx => goR m d t.1 t.2 := by
    rw [bigSep_congr fun c _ => P_st m d c, bigSep_univ_prod (fun t : TileIx => goR m d t.1 t.2)]
    unfold stR; rfl
  have h' : (bigSep Finset.univ fun t : TileIx => goR m d t.1 t.2)
      = (iprop((bigSep Finset.univ fun t : TileIx => PR d (coords t) (tok (coords t)) (Pv m d))
          ∗ ((bigSep Finset.univ fun t : TileIx => bigSep Finset.univ fun n => bigSep Finset.univ fun k => MTr d (coords t) n k (Mv m d))
              ∗ (bigSep Finset.univ fun t : TileIx => bigSep Finset.univ fun n => bigSep Finset.univ fun k => PMr d (coords t) n k (Rv m d)))
          ∗ bigSep Finset.univ fun t : TileIx => GO d (coords t) (Ov m d)) : sProp 𝕄) := by
    rw [← bigSep_sep', ← bigSep_sep', ← bigSep_sep']
    refine bigSep_congr fun t _ => ?_
    unfold goR GoP In
    rw [bigSep_sep']
  rw [h, h', ← rows5, ← rows60, ← blks61]
  iintro ⟨H4, H5, H60, H61⟩
  isplitl [H4]
  · iapply (toks4 d (Pv m d)); iexact H4
  isplitr [H61]
  · isplitl [H5] <;> iassumption
  iexact H61

/-- and what it leaves in the two arrays it writes. -/
theorem gather : (bigSep Finset.univ fun c : Fin ((K (F := F)).nCore 0) => (P m).dn 0 d c)
    ⊢ iprop(vPts60 d (pmOut (Mv m d) (Pv m d)) ∗ vPts61 d (gOut (Mv m d) (Pv m d))) := by
  have h : (bigSep Finset.univ fun c : Fin ((K (F := F)).nCore 0) => (P m).dn 0 d c) = bigSep Finset.univ fun t : TileIx => tdR m d t.1 t.2 := by
    rw [bigSep_congr fun c _ => P_dn m d c, bigSep_univ_prod (fun t : TileIx => tdR m d t.1 t.2)]
    unfold dnR; rfl
  rw [h, rows60, blks61, ← bigSep_sep']
  refine Entails.of_eq (bigSep_congr fun t _ => ?_)
  unfold tdR TdP
  rfl

end Cert.KernelIdeal.Tile

end
-- ==== Proof.Main.lean ====
/-
  The whole program's run, over any float type: the host's operations, the SparseCore call, the TensorCore call, the last
  transpose; and what every run of it ends in.
-/
module

public import proofs.«01_k».proof.Proof.Share
public import Idealize.ShloMosaic.Lib.StableHlo.Run

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.ShloMosaic.StableHlo (held wp_hlo_within wp_seq seq after launchContents)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The program's text, in three parts -/

/-- The programs of the TensorCore's thread. -/
abbrev TcProg (F : FTy → Type) [FloatOps F] : Type 1 := Prog (TpuEff nD τ sig (Elt F) (SparseCore.Sig (ΛP (F := F)) 1) .tc) PUnit.{1}

/-- The host's operations before the calls, -/
def opsA : List (HloOp τ sig (Elt F)) :=
  [StableHlo.reshape main_arg2 main_v0 (rfl : (.f32 : EltTy) = .f32) shapeCasts_S1x16_S16,
   StableHlo.reshape main_arg4 main_v1 (rfl : (.f32 : EltTy) = .f32) shapeCasts_S16x1_S16,
   StableHlo.nullary main_cst (constant S_ .f32 0x00000000#32),
   StableHlo.unary main_cst main_v2 (broadcastInDim S15 ![] bcast_S_S15 : (⟨S_, .f32⟩ : BufTy).Contents (Elt F) → (⟨S15, .f32⟩ : BufTy).Contents (Elt F)),
   StableHlo.nary ![main_v0, main_arg3, main_v1, main_arg5, main_v2] main_v3 (fun u => (concatenate S64 0 [⟨S16, (u 0 : (⟨S16, .f32⟩ : BufTy).Contents (Elt F))⟩,
     ⟨S16, (u 1 : (⟨S16, .f32⟩ : BufTy).Contents (Elt F))⟩, ⟨S16, (u 2 : (⟨S16, .f32⟩ : BufTy).Contents (Elt F))⟩, ⟨S1, (u 3 : (⟨S1, .f32⟩ : BufTy).Contents (Elt F))⟩,
     ⟨S15, (u 4 : (⟨S15, .f32⟩ : BufTy).Contents (Elt F))⟩] concatenates_S16_S16_S16_S1_S15_S64_d0 : (⟨S64, .f32⟩ : BufTy).Contents (Elt F))),
   StableHlo.reshape main_v3 main_v4 (rfl : (.f32 : EltTy) = .f32) shapeCasts_S64_S1x64,
   StableHlo.unary main_arg1 main_v5 ((transpose S12x256x4096 [2, 0, 1] · transposes_S256x4096x12_S12x256x4096_2_0_1) : (⟨S256x4096x12, .f32⟩ : BufTy).Contents (Elt F) → (⟨S12x256x4096, .f32⟩ : BufTy).Contents (Elt F))]

/-- the one after them, -/
abbrev opB : HloOp τ sig (Elt F) :=
  StableHlo.unary main_v6_0 main_v8 ((transpose S256x4096x12 [1, 2, 0] · transposes_S12x256x4096_S256x4096x12_1_2_0) : (⟨S12x256x4096, .f32⟩ : BufTy).Contents (Elt F) → (⟨S256x4096x12, .f32⟩ : BufTy).Contents (Elt F))

/-- the TensorCore call, -/
abbrev slotsCall : TcProg F := Prog.lift (.customCall (SparseCore.inner (Pipeline.entry 0)) ())

/-- and the program from the calls on. -/
def calls (d : Dev nD) : TcProg F := do
  sc.run d 0
  slotsCall
  hlo rfl opB (fun _ => .ret ⟨⟩)
  pure ⟨⟩

theorem main_eq (d : Dev nD) : main (F := F) d = (seq opsA >>= fun _ => calls d) := by
  rw [StableHlo.seq_bind_seqK]; rfl

/-! ## The arrays the host's operations run on -/

/-- The TensorCore's arrays, -/
def ucRefs : Finset (DevRef τ sig) := (StableHlo.tcRefs τ sig).filter fun b => ¬ b.isScoped

theorem unscoped_held (d : Dev nD) (W : Valuation τ sig (Elt F)) :
    (unscopedBufs d (fun b => W (Proc.devRef .tc b)) : sProp 𝕄) = held (T d) ucRefs W := by
  unfold unscopedBufs StableHlo.held ucRefs StableHlo.tcRefs
  rw [Finset.filter_map, bigSep_map]
  rfl

/-- one by one. -/
theorem held_list (d : Dev nD) (W : Valuation τ sig (Elt F)) :
    (held (T d) ucRefs W : sProp 𝕄)
      = iprop((((d.tc : Thread nD τ).loc main_arg0) ↦{fullShare} W (Proc.devRef .tc main_arg0))
        ∗ (((d.tc : Thread nD τ).loc main_arg1) ↦{fullShare} W (Proc.devRef .tc main_arg1))
        ∗ (((d.tc : Thread nD τ).loc main_arg2) ↦{fullShare} W (Proc.devRef .tc main_arg2))
        ∗ (((d.tc : Thread nD τ).loc main_arg3) ↦{fullShare} W (Proc.devRef .tc main_arg3))
        ∗ (((d.tc : Thread nD τ).loc main_arg4) ↦{fullShare} W (Proc.devRef .tc main_arg4))
        ∗ (((d.tc : Thread nD τ).loc main_arg5) ↦{fullShare} W (Proc.devRef .tc main_arg5))
        ∗ (((d.tc : Thread nD τ).loc main_v4) ↦{fullShare} W (Proc.devRef .tc main_v4))
        ∗ (((d.tc : Thread nD τ).loc main_v5) ↦{fullShare} W (Proc.devRef .tc main_v5))
        ∗ (((d.tc : Thread nD τ).loc main_v6_0) ↦{fullShare} W (Proc.devRef .tc main_v6_0))
        ∗ (((d.tc : Thread nD τ).loc main_v6_1) ↦{fullShare} W (Proc.devRef .tc main_v6_1))
        ∗ (((d.tc : Thread nD τ).loc main_v7) ↦{fullShare} W (Proc.devRef .tc main_v7))
        ∗ (((d.tc : Thread nD τ).loc main_v8) ↦{fullShare} W (Proc.devRef .tc main_v8))
        ∗ bigSep {main_v0, main_v1, main_cst, main_v2, main_v3} fun b : Ref sig .tc => (((d.tc : Thread nD τ).loc b) ↦{fullShare} W (Proc.devRef .tc b))) := by
  rw [← unscoped_held]
  unfold unscopedBufs
  rw [show (Finset.univ.filter fun b : Ref sig .tc => ¬ b.isScoped)
      = {main_arg0, main_arg1, main_arg2, main_arg3, main_arg4, main_arg5, main_v4, main_v5, main_v6_0, main_v6_1, main_v7, main_v8,
          main_v0, main_v1, main_cst, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide)]

theorem bufs_uc {op : HloOp τ sig (Elt F)} (h : op.bufs ⊆ StableHlo.tcRefs τ sig) : op.bufs ⊆ ucRefs := fun b hb =>
  Finset.mem_filter.mpr ⟨h hb, by rw [op.no_scoped b hb]; decide⟩

theorem opsA_bufs : ∀ op ∈ opsA (F := F), op.bufs ⊆ ucRefs := by
  intro op hop
  refine bufs_uc ?_
  unfold opsA at hop
  simp only [List.mem_cons, List.not_mem_nil, or_false] at hop
  rcases hop with rfl | rfl | rfl | rfl | rfl | rfl | rfl <;> simp

theorem opsA_fresh : ∀ op ∈ opsA (F := F), op.fresh = ∅ := by
  intro op hop
  unfold opsA at hop
  simp only [List.mem_cons, List.not_mem_nil, or_false] at hop
  rcases hop with rfl | rfl | rfl | rfl | rfl | rfl | rfl <;> rfl

variable (m : (ℓ : Loc nD τ sig) → Buf (Elt F) ℓ) (ρ : Dev nD → PrngReg) (d : Dev nD)

/-- The arrays after the host's first operations. -/
def VA : Valuation τ sig (Elt F) := after opsA (launchContents m d)

theorem VA_v4 : VA m d (Proc.devRef .tc main_v4) = Pv m d := by
  unfold VA opsA
  after_results_simp
  rfl

theorem VA_v5 : VA m d (Proc.devRef .tc main_v5) = Mv m d := by
  unfold VA opsA
  after_results_simp
  rfl

theorem VA_keep {b : Ref sig .tc} (h : b ∉ [main_v0, main_v1, main_cst, main_v2, main_v3, main_v4, main_v5]) :
    VA m d (Proc.devRef .tc b) = m ((d.tc : Thread nD τ).loc b) :=
  StableHlo.after_of_writes_sub opsA _ (StableHlo.forall_writes_sub_of_map (by rfl)) h

/-! ## The TensorCore call -/

/-- The call, as the program of the TensorCore's kernels has it. -/
def slotsIn : Prog (TpuEff nD τ sig (Elt F) (ΛP (F := F)) .tc) PUnit.{1} := .op (.customCall (Pipeline.entry 0) ()) .ret

theorem wp_slotsIn [∀ e, Nonempty (Elt F e)] (X : Slots F) (Gt : Gates F) (f : Slots F) (b : ℕ) (Q : PUnit.{1} → sProp 𝕄) :
    iprop((iprop(boundary (d.tc : Thread nD τ) ∗ Three X Gt d (psOut X Gt) ∗ TcWaits b d) -∗ Q ⟨⟩)
        ∗ boundary (d.tc : Thread nD τ) ∗ (Three X Gt d f ∗ TcWaits b d) ∗ levAts (K (F := F)).L (K (F := F)).lev ∗ G d)
      ⊢ wp frame (wpE (D (F := F)) 𝒱 (T d) none) Set.univ slotsIn Q := by
  have h := Pipeline.RegionSeg.wp (pcfgs (F := F)) adm (pdats X Gt f b) none pins_inj EP defs₀ 𝒱₀ (K (F := F)).L (K (F := F)).lev
    (reg X Gt f b) d none (fun u h => nomatch h) .ret Q
  suffices hpre : iprop((iprop(boundary (d.tc : Thread nD τ) ∗ Three X Gt d (psOut X Gt) ∗ TcWaits b d) -∗ Q ⟨⟩)
        ∗ boundary (d.tc : Thread nD τ) ∗ (Three X Gt d f ∗ TcWaits b d) ∗ levAts (K (F := F)).L (K (F := F)).lev ∗ G d)
      ⊢ iprop((iprop(boundary (d.tc : Thread nD τ) ∗ Three X Gt d (psOut X Gt) ∗ TcWaits b d)
            -∗ wp frame (wpE (D (F := F)) 𝒱 (d.tc : Thread nD τ) none) Set.univ (.ret ⟨⟩) Q)
        ∗ boundary (d.tc : Thread nD τ) ∗ (Three X Gt d f ∗ TcWaits b d) ∗ levAts (K (F := F)).L (K (F := F)).lev ∗ G d) from hpre.trans h
  iintro ⟨Hk, Hb, Hpre, Hlv, HG⟩
  isplitl [Hk]
  · iintro H
    rw [wp_ret]; imodintro
    iapply Hk; iexact H
  isplitl [Hb]; · iexact Hb
  isplitl [Hpre]; · iexact Hpre
  isplitl [Hlv]; · iexact Hlv
  iexact HG

theorem slotsCall_eq : (slotsCall : TcProg F) = SparseCore.liftProg slotsIn := rfl

theorem wp_slots [∀ e, Nonempty (Elt F e)] (X : Slots F) (Gt : Gates F) (f : Slots F) (b : ℕ) (Q : PUnit.{1} → sProp 𝕄) :
    iprop((iprop(boundary (d.tc : Thread nD τ) ∗ Three X Gt d (psOut X Gt) ∗ TcWaits b d) -∗ Q ⟨⟩)
        ∗ boundary (d.tc : Thread nD τ) ∗ (Three X Gt d f ∗ TcWaits b d) ∗ levAts (K (F := F)).L (K (F := F)).lev ∗ G d)
      ⊢ wp frame (wpE ((K (F := F)).defs (D (F := F))) 𝒱 (T d) none) Set.univ slotsCall Q := by
  rw [slotsCall_eq]
  exact (wp_slotsIn d X Gt f b Q).trans ((K (F := F)).wp_liftProg (D (F := F)) 𝒱 (T d) Set.univ none slotsIn Q)

/-! ## The program -/

/-- The transposed result as the program returns it. -/
def pmRes : S256x4096x12.Idx → F .f32 := transpose S256x4096x12 [1, 2, 0] (pmOut (Mv m d) (Pv m d)) transposes_S12x256x4096_S256x4096x12_1_2_0
def psRes : Slots F := psOut (m ((d.tc : Thread nD τ).loc main_arg0)) (gOut (Mv m d) (Pv m d))

/-- What a run ends with: the arguments as they were, and the two results. -/
abbrev FIN : sProp 𝕄 :=
  iprop((((d.tc : Thread nD τ).loc main_arg0) ↦{fullShare} m ((d.tc : Thread nD τ).loc main_arg0))
    ∗ (((d.tc : Thread nD τ).loc main_arg1) ↦{fullShare} m ((d.tc : Thread nD τ).loc main_arg1))
    ∗ (((d.tc : Thread nD τ).loc main_arg2) ↦{fullShare} m ((d.tc : Thread nD τ).loc main_arg2))
    ∗ (((d.tc : Thread nD τ).loc main_arg3) ↦{fullShare} m ((d.tc : Thread nD τ).loc main_arg3))
    ∗ (((d.tc : Thread nD τ).loc main_arg4) ↦{fullShare} m ((d.tc : Thread nD τ).loc main_arg4))
    ∗ (((d.tc : Thread nD τ).loc main_arg5) ↦{fullShare} m ((d.tc : Thread nD τ).loc main_arg5))
    ∗ (((d.tc : Thread nD τ).loc main_v7) ↦{fullShare} psRes m d)
    ∗ (((d.tc : Thread nD τ).loc main_v8) ↦{fullShare} pmRes m d))

/-- The two arrays of the last operation, before it. -/
def VB : Valuation τ sig (Elt F) := Function.update (VA m d) (Proc.devRef .tc main_v6_0) (pmOut (Mv m d) (Pv m d))

theorem VB_v60 : VB m d (Proc.devRef .tc main_v6_0) = pmOut (Mv m d) (Pv m d) := Function.update_self _ _ _
theorem VB_v8 : VB m d (Proc.devRef .tc main_v8) = m ((d.tc : Thread nD τ).loc main_v8) :=
  (Function.update_of_ne (show (Proc.devRef .tc main_v8 : DevRef τ sig) ≠ Proc.devRef .tc main_v6_0 by decide) _ _).trans (VA_keep m d (by decide))

theorem held_two (W : Valuation τ sig (Elt F)) :
    (held (T d) {Proc.devRef .tc main_v6_0, Proc.devRef .tc main_v8} W : sProp 𝕄)
      = iprop((((d.tc : Thread nD τ).loc main_v6_0) ↦{fullShare} W (Proc.devRef .tc main_v6_0)) ∗ (((d.tc : Thread nD τ).loc main_v8) ↦{fullShare} W (Proc.devRef .tc main_v8))) := by
  unfold StableHlo.held
  rw [SparseCore.bigSep_insert' (by decide), bigSep_singleton]

theorem opB_bufs : (opB (F := F)).bufs ⊆ {Proc.devRef .tc main_v6_0, Proc.devRef .tc main_v8} := fun _ hb => hb

theorem opB_res : (opB (F := F)).result (VB m d) (Proc.devRef .tc main_v8) = pmRes m d := by
  have h := StableHlo.unary_result' (τ := τ) (Val := Elt F) (x := main_v6_0) (y := main_v8)
    ((transpose S256x4096x12 [1, 2, 0] · transposes_S12x256x4096_S256x4096x12_1_2_0) : (⟨S12x256x4096, .f32⟩ : BufTy).Contents (Elt F) → (⟨S256x4096x12, .f32⟩ : BufTy).Contents (Elt F))
    (by decide) (by exact ⟨by decide, rfl⟩) (VB m d)
  refine h.trans ?_
  rw [VB_v60]; rfl

/-- Before the calls: the arrays that matter, and the rest. -/
theorem held_VA : (held (T d) ucRefs (VA m d) : sProp 𝕄)
    ⊢ iprop((((d.tc : Thread nD τ).loc main_arg0) ↦{fullShare} m ((d.tc : Thread nD τ).loc main_arg0))
      ∗ (((d.tc : Thread nD τ).loc main_arg1) ↦{fullShare} m ((d.tc : Thread nD τ).loc main_arg1))
      ∗ (((d.tc : Thread nD τ).loc main_arg2) ↦{fullShare} m ((d.tc : Thread nD τ).loc main_arg2))
      ∗ (((d.tc : Thread nD τ).loc main_arg3) ↦{fullShare} m ((d.tc : Thread nD τ).loc main_arg3))
      ∗ (((d.tc : Thread nD τ).loc main_arg4) ↦{fullShare} m ((d.tc : Thread nD τ).loc main_arg4))
      ∗ (((d.tc : Thread nD τ).loc main_arg5) ↦{fullShare} m ((d.tc : Thread nD τ).loc main_arg5))
      ∗ vPts4 d (Pv m d) ∗ vPts5 d (Mv m d) ∗ vPts60 d (Rv m d) ∗ vPts61 d (Ov m d)
      ∗ (((d.tc : Thread nD τ).loc main_v7) ↦{fullShare} m ((d.tc : Thread nD τ).loc main_v7))
      ∗ (((d.tc : Thread nD τ).loc main_v8) ↦{fullShare} m ((d.tc : Thread nD τ).loc main_v8))) := by
  rw [held_list, VA_keep m d (b := main_arg0) (by decide), VA_keep m d (b := main_arg1) (by decide), VA_keep m d (b := main_arg2) (by decide),
    VA_keep m d (b := main_arg3) (by decide), VA_keep m d (b := main_arg4) (by decide), VA_keep m d (b := main_arg5) (by decide),
    VA_keep m d (b := main_v6_0) (by decide), VA_keep m d (b := main_v6_1) (by decide), VA_keep m d (b := main_v7) (by decide),
    VA_keep m d (b := main_v8) (by decide), VA_v4, VA_v5]
  iintro ⟨H0, H1, H2, H3, H4, H5, Hp, Hm, Hr, Hg, H7, H8, -⟩
  isplitl [H0]; · iexact H0
  isplitl [H1]; · iexact H1
  isplitl [H2]; · iexact H2
  isplitl [H3]; · iexact H3
  isplitl [H4]; · iexact H4
  isplitl [H5]; · iexact H5
  isplitl [Hp]; · iexact Hp
  isplitl [Hm]; · iexact Hm
  isplitl [Hr]; · iexact Hr
  isplitl [Hg]; · iexact Hg
  isplitl [H7]; · iexact H7
  iexact H8

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hun : (unscopedBufs d (fun b => m ((SparseCore.T d).loc b)) : sProp 𝕄) = held (T d) ucRefs (launchContents m d) := unscoped_held d (launchContents m d)
  unfold SparseCore.Cfg.tcRes SparseCore.Cfg.tcEnd
  rw [hun, main_eq]
  iintro ⟨#Hctx, Hst, ⟨Hb, Hheld, Hts, -⟩, HG⟩
  ihave #Hlev := ((K (F := F)).ctx_levAts κ) $$ Hctx
  iapply (StableHlo.wp_seq 𝒱 none Set.univ d ucRefs (fun _ => calls d) opsA opsA_bufs opsA_fresh (launchContents m d)) $$ [Hb Hheld]
  · isplitl [Hb] <;> iassumption
  iintro ⟨Hb, Hheld⟩
  ihave Hheld := (show (held (d.tc : Thread nD τ) ucRefs (after opsA (launchContents m d)) : sProp 𝕄) ⊢ held (T d) ucRefs (VA m d) from BI.Laws.entails_refl _) $$ Hheld
  ihave H := (held_VA m d) $$ Hheld
  icases H with ⟨H0, H1, H2, H3, H4, H5, Hp, Hm, Hr, Hg, H7, H8⟩
  simp only [calls, wp_bind, wp_pure]
  iapply ((K (F := F)).wp_run (D (F := F)) 𝒱 (EH := EH) (P := P m) κ d 0) $$ [Hst Hp Hm Hr Hg Hb Hts HG H0 H1 H2 H3 H4 H5 H7 H8]
  isplitr; · iexact Hctx
  isplitl [Hst]; · iexact Hst
  isplitl [Hp Hm Hr Hg]
  · iapply (deal d m)
    isplitl [Hp]; · iexact Hp
    isplitl [Hm]; · iexact Hm
    isplitl [Hr]; · iexact Hr
    iexact Hg
  iintro ⟨Hst, Hdn⟩
  ihave Hdn' := (gather d m) $$ Hdn
  icases Hdn' with ⟨Hr, Hg⟩
  unfold SparseCore.Cfg.tcSt
  rw [show ((0 : Fin 1).val + 1) = 1 from rfl, (K (F := F)).Otc_end d (le_refl 1)]
  icases Hst with ⟨HO, Hst⟩
  iapply (wp_slots d (m ((d.tc : Thread nD τ).loc main_arg0)) (gOut (Mv m d) (Pv m d)) (m ((d.tc : Thread nD τ).loc main_v7)) _ _) $$ [Hst HO Hr Hg Hb Hts HG H0 H1 H2 H3 H4 H5 H7 H8]
  isplitr [Hb H0 Hg H7 HO HG]
  · iintro ⟨Hb, ⟨H0, Hg, H7⟩, HO⟩
    iapply (wp_hlo_within 𝒱 (SparseCore.T d) none Set.univ (op := opB) (S := {Proc.devRef .tc main_v6_0, Proc.devRef .tc main_v8}) opB_bufs (V := VB m d)) $$ [Hb Hr H8]
    · isplitl [Hb]; · iexact Hb
      rw [held_two, VB_v60, VB_v8]
      isplitl [Hr] <;> iassumption
    iintro ⟨Hb, Hheld⟩
    ihave Hh := (Entails.of_eq (held_two d ((opB (F := F)).result (VB m d)))) $$ Hheld
    icases Hh with ⟨-, H8⟩
    rw [wp_ret]; imodintro; imodintro
    isplitl [Hst HO]
    · isplitl [HO]; · iexact HO
      iexact Hst
    isplitr [Hb Hts]
    · isplitl [H0]; · iexact H0
      isplitl [H1]; · iexact H1
      isplitl [H2]; · iexact H2
      isplitl [H3]; · iexact H3
      isplitl [H4]; · iexact H4
      isplitl [H5]; · iexact H5
      isplitl [H7]; · iexact H7
      rw [opB_res]; iexact H8
    isplitl [Hb] <;> iassumption
  isplitl [Hb]; · iexact Hb
  isplitl [H0 Hg H7 HO]
  · isplitr [HO]
    · isplitl [H0]; · iexact H0
      isplitl [Hg]; · iexact Hg
      iexact H7
    iexact HO
  isplitr; · iexact Hlev
  iexact HG

/-! ## What the claims read of a final state -/

/-- One array's contents, kept beside the rest. -/
theorem peel {ℓ : Loc nD τ sig} {f : Buf (Elt F) ℓ} {A : sProp 𝕄} {φ : Prop} {s' : Phys nD τ sig (Elt F)} (h : iprop(A ∗ SI s') ⊢ (⌜φ⌝ : sProp 𝕄)) :
    iprop(((ℓ ↦{fullShare} f) ∗ A) ∗ SI s') ⊢ (⌜s'.mem.mem ℓ = f ∧ φ⌝ : sProp 𝕄) := by
  iintro ⟨⟨H, HA⟩, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  ihave H := h $$ [HA HSI]
  · isplitl [HA] <;> iassumption
  icases H with %h2
  ipureintro; exact ⟨funext fun i => h1 i (Finset.mem_univ i), h2⟩

theorem last {ℓ : Loc nD τ sig} {f : Buf (Elt F) ℓ} {s' : Phys nD τ sig (Elt F)} : iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h1
  ipureintro; exact funext fun i => h1 i (Finset.mem_univ i)

/-- Device `d`'s arrays in memory `μ` are as they end. -/
def fin (μ : (ℓ : Loc nD τ sig) → Buf (Elt F) ℓ) : Prop :=
  μ ((d.tc : Thread nD τ).loc main_arg0) = m ((d.tc : Thread nD τ).loc main_arg0)
    ∧ μ ((d.tc : Thread nD τ).loc main_arg1) = m ((d.tc : Thread nD τ).loc main_arg1)
    ∧ μ ((d.tc : Thread nD τ).loc main_arg2) = m ((d.tc : Thread nD τ).loc main_arg2)
    ∧ μ ((d.tc : Thread nD τ).loc main_arg3) = m ((d.tc : Thread nD τ).loc main_arg3)
    ∧ μ ((d.tc : Thread nD τ).loc main_arg4) = m ((d.tc : Thread nD τ).loc main_arg4)
    ∧ μ ((d.tc : Thread nD τ).loc main_arg5) = m ((d.tc : Thread nD τ).loc main_arg5)
    ∧ μ ((d.tc : Thread nD τ).loc main_v7) = psRes m d
    ∧ μ ((d.tc : Thread nD τ).loc main_v8) = pmRes m d

theorem hfin (d : Dev nD) (s' : Phys nD τ sig (Elt F)) : iprop(FIN m d ∗ SI s') ⊢ (⌜fin m d s'.mem.mem⌝ : sProp 𝕄) :=
  peel (peel (peel (peel (peel (peel (peel last))))))

/-- Every run ends, every device's arrays as said and every semaphore's counter at zero. -/
theorem run_main [∀ e, Nonempty (Elt F e)] :
    θ_run (defs (F := F)) (threads (F := F)) ⟨m, fun _ => 0, ρ⟩ fun r => (∀ d : Dev nD, fin m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G d) (fun d => FIN m d) (u₀ (F := F)) (sep_elim_left.trans (hu₀ m)) (hmain m ρ) (fun d s' => fin m d s'.mem.mem) (hfin m) _ (fun _ h hz => ⟨h, hz⟩)

end Cert.KernelIdeal.Tile

end
-- ==== Proof.Frames.lean ====
/-
  The frames: both readings of the kernel end with their arguments as they were and every semaphore at zero (they have the
  same text, so the run over any float type gives both), and so does the reference.
-/
module

public import proofs.«01_k».proof.Defs
public import proofs.«01_k».proof.Proof.Gen.Kernel
public import proofs.«01_k».proof.Proof.Gen.ReferenceIdeal.Run
public import proofs.«01_k».proof.Proof.Gen.Pre_divisor_not_zero
public import proofs.«01_k».proof.Proof.Readings
public import proofs.«01_k».proof.Proof.Main

@[expose] public section

noncomputable section

namespace Cert.Proof

open Idealize.ShloMosaic Idealize.SL.Sem

/-- A run of the kernel over any float type leaves its arguments, and every semaphore at zero. -/
theorem frame_run {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0 :=
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.KernelIdeal.Tile.run_main (F := F) m ρ)

theorem frame_kernelIdeal : Cert.quiescent_KernelIdeal := fun m ρ _ => frame_run (F := Ideal) m ρ

theorem frame_kernel : Cert.quiescent_Kernel := fun m ρ _ => by
  have h := frame_run (F := Bits) m ρ
  rw [← defs_same, ← threads_same] at h
  exact h

theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-! The same under the precondition, which they do not need. -/

theorem frame_kernelIdeal_pre : Cert.quiescent_KernelIdeal_pre_divisor_not_zero := fun m ρ _ => frame_kernelIdeal m ρ trivial

theorem frame_referenceIdeal_pre : Cert.quiescent_ReferenceIdeal_pre_divisor_not_zero := fun m ρ _ => frame_referenceIdeal m ρ trivial

end Cert.Proof

end
-- ==== Proof.RefValue.lean ====
/-
  The reference's two results over the extended reals, read at an index: a mask's mean, a slot's gate, the scaled slot, and
  the scaled mask over its divisor.
-/
module

public import proofs.«01_k».proof.Proof.Gen.ReferenceIdeal.Run
public import proofs.«01_k».proof.Pre_divisor_not_zero
public import Idealize.ShloMosaic.Lib.IdealHost
public import Idealize.ShloMosaic.Lib.ValueIdxCoords
public import Idealize.ShloMosaic.Lib.Pipeline.Value

@[expose] public section

noncomputable section

namespace Cert.ReferenceIdeal.Plain

open Cert.ReferenceIdeal Cert.ReferenceIdeal.Gen
open Idealize.ShloMosaic Idealize.ShloMosaic.ValueIdx
open scoped BigOperators

variable (X : S256x4096x12.Idx → EReal) (w1 : S1x16.Idx → EReal) (b1 : S16.Idx → EReal) (w2 : S16x1.Idx → EReal) (b2 : S1.Idx → EReal)

/-- The mean of mask `k` of batch `b`. -/
def mean (b : Fin 256) (k : Fin 12) : EReal := Ideal.div (∑ n : Fin 4096, X (ix3 b n k)) (Ideal.ofBits .f32 0x45800000#32)

/-- What hidden unit `h` gives the output at input `u`. -/
def hidden (u : EReal) (h : Fin 16) : EReal := max (u * w1 (ix2 0 h) + b1 (ix1 h)) 0 * w2 (ix2 h 0)

/-- The gate of slot `k` of batch `b`. -/
def gate (b : Fin 256) (k : Fin 12) : EReal :=
  Ideal.div 1 (1 + Ideal.exp (-((∑ h : Fin 16, hidden w1 b1 w2 (mean X b k) h) + b2 (ix1 0))))

/-- The divisor at column `n` of batch `b`, and the scaled mask's element. -/
def divisor (b : Fin 256) (n : Fin 4096) : EReal := (∑ k : Fin 12, X (ix3 b n k) * gate X w1 b1 w2 b2 b k) + Ideal.ofBits .f32 0x322BCC77#32
def scaled (b : Fin 256) (n : Fin 4096) (k : Fin 12) : EReal := Ideal.div (X (ix3 b n k) * gate X w1 b1 w2 b2 b k) (divisor X w1 b1 w2 b2 b n)

/-! ## The printed terms -/

/-- The means, along a last axis of one. -/
def meanT : FVec Ideal S256x12x1 .f32 :=
  broadcastInDim S256x12x1 ![0, 1] bcast_S256x12_S256x12x1_0_1 (Host.divf (Host.reduceAdd (F := Ideal) (φ := .f32) X (constant S_ .f32 0x00000000#32) reducesTo_S256x4096x12_S256x12_d1 h_S_)
    (broadcastInDim S256x12 ![] bcast_S_S256x12 (constant S_ .f32 0x45800000#32)))

/-- The network's inner layer. -/
def innerT : FVec Ideal S256x12x16 .f32 :=
  maximumf (addf (Host.dotGeneral (φ₁ := .f32) (φ₂ := .f32) dot_S256x12x1_S1x16_S256x12x16_2_0_01_1_n_n none (meanT X) w1)
      (broadcastInDim S256x12x16 ![0, 1, 2] bcast_S1x1x16_S256x12x16_0_1_2 (broadcastInDim S1x1x16 ![2] bcast_S16_S1x1x16_2 b1)))
    (broadcastInDim S256x12x16 ![] bcast_S_S256x12x16 (constant S_ .f32 0x00000000#32))

/-- The network's output. -/
def outT : FVec Ideal S256x12x1 .f32 :=
  addf (Host.dotGeneral (φ₁ := .f32) (φ₂ := .f32) dot_S256x12x16_S16x1_S256x12x1_2_0_01_1_n_n none (innerT X w1 b1) w2)
    (broadcastInDim S256x12x1 ![0, 1, 2] bcast_S1x1x1_S256x12x1_0_1_2 (broadcastInDim S1x1x1 ![2] bcast_S1_S1x1x1_2 b2))

/-- The gates. -/
def gateT : FVec Ideal S256x12 .f32 :=
  shapeCast S256x12 (Host.divf (broadcastInDim S256x12x1 ![] bcast_S_S256x12x1 (constant S_ .f32 0x3F800000#32))
    (addf (broadcastInDim S256x12x1 ![] bcast_S_S256x12x1 (constant S_ .f32 0x3F800000#32)) (Host.exp (Host.negf (outT X w1 b1 w2 b2)))))
    shapeCasts_S256x12x1_S256x12

/-- The masks scaled by the gates, -/
def prodT : FVec Ideal S256x4096x12 .f32 :=
  mulf X (broadcastInDim S256x4096x12 ![0, 1, 2] bcast_S256x1x12_S256x4096x12_0_1_2 (broadcastInDim S256x1x12 ![0, 2] bcast_S256x12_S256x1x12_0_2 (gateT X w1 b1 w2 b2)))

/-- and their divisors. -/
def divT : FVec Ideal S256x4096x1 .f32 :=
  addf (broadcastInDim S256x4096x1 ![0, 1] bcast_S256x4096_S256x4096x1_0_1 (Host.reduceAdd (prodT X w1 b1 w2 b2) (constant S_ .f32 0x00000000#32) reducesTo_S256x4096x12_S256x4096_d2 h_S_))
    (broadcastInDim S256x4096x1 ![] bcast_S_S256x4096x1 (constant S_ .f32 0x322BCC77#32))

/-! ## The same, read at an index -/

theorem reduces_cols : S256x4096x12.Reduces [1] S256x12 := by decide
theorem reduces_slots : S256x4096x12.Reduces [2] S256x4096 := by decide

theorem meanT_apply (b : Fin 256) (k : Fin 12) : meanT X (ix3 b k 0) = mean X b k := by
  unfold meanT mean
  rw [broadcastInDim_apply _ _ _ _ (ix2 b k) (fun a => by match a with | 0 => rfl | 1 => rfl), hostDivf_apply, broadcastInDim_scalar_apply, constant_apply,
    hostReduceAdd_apply, Ideal.hostReduceAdd_single _ reduces_cols]
  refine congrArg (Ideal.div · _) ?_
  show Ideal.ofBits .f32 0x00000000#32 + _ = _
  rw [Ideal.ofBits_zero_f32, zero_add]
  refine Finset.sum_congr rfl fun n _ => congrArg X (funext fun a => Fin.ext ?_)
  match a with
  | 0 => rfl
  | 1 => rfl
  | 2 => rfl

theorem innerT_apply (b : Fin 256) (k : Fin 12) (h : Fin 16) : innerT X w1 b1 (ix3 b k h) = max (mean X b k * w1 (ix2 0 h) + b1 (ix1 h)) 0 := by
  unfold innerT
  rw [maximumf_apply, addf_apply, broadcastInDim_scalar_apply, constant_apply, Ideal.ofBits_zero_f32]
  rw [broadcastInDim_apply _ _ _ _ (ix3 0 0 h) (fun a => by match a with | 0 => rfl | 1 => rfl | 2 => rfl),
    broadcastInDim_apply _ _ _ _ (ix1 h) (fun a => by match a with | 0 => rfl)]
  refine congrArg (fun z : EReal => max (z + b1 (ix1 h)) 0) ?_
  simp only [Host.dotGeneral]
  rw [Ideal.dotGeneral_apply, ← Equiv.sum_comp (contrEquiv1 dot_S256x12x1_S1x16_S256x12x16_2_0_01_1_n_n 1 rfl rfl).symm, Fin.sum_univ_one, ← meanT_apply]
  refine congrArg₂ (· * ·) (congrArg (meanT X) (funext fun a => Fin.ext ?_)) (congrArg w1 (funext fun a => Fin.ext ?_))
  · match a with
    | 0 => rfl
    | 1 => rfl
    | 2 => rfl
  · match a with
    | 0 => rfl
    | 1 => rfl

theorem outT_apply (b : Fin 256) (k : Fin 12) : outT X w1 b1 w2 b2 (ix3 b k 0) = (∑ h : Fin 16, hidden w1 b1 w2 (mean X b k) h) + b2 (ix1 0) := by
  unfold outT
  rw [addf_apply, broadcastInDim_apply _ _ _ _ (ix3 0 0 0) (fun a => by match a with | 0 => rfl | 1 => rfl | 2 => rfl),
    broadcastInDim_apply _ _ _ _ (ix1 0) (fun a => by match a with | 0 => rfl)]
  refine congrArg (· + _) ?_
  simp only [Host.dotGeneral]
  rw [Ideal.dotGeneral_apply, ← Equiv.sum_comp (contrEquiv1 dot_S256x12x16_S16x1_S256x12x1_2_0_01_1_n_n 16 rfl rfl).symm]
  refine Finset.sum_congr rfl fun h _ => ?_
  unfold hidden
  rw [← innerT_apply]
  refine congrArg₂ (· * ·) (congrArg (innerT X w1 b1) (funext fun a => Fin.ext ?_)) (congrArg w2 (funext fun a => Fin.ext ?_))
  · match a with
    | 0 => rfl
    | 1 => rfl
    | 2 => rfl
  · match a with
    | 0 => rfl
    | 1 => rfl

theorem gateT_apply (b : Fin 256) (k : Fin 12) : gateT X w1 b1 w2 b2 (ix2 b k) = gate X w1 b1 w2 b2 b k := by
  unfold gateT gate
  rw [shapeCast_apply _ _ _ (ix3 b k 0) ((Shape.rowMajor_val_three _).trans ((Shape.rowMajor_val_two _).trans (by show _ = (b.val * 12 + k.val) * 1 + 0; simp)).symm), hostDivf_apply, addf_apply, broadcastInDim_scalar_apply, constant_apply, Ideal.ofBits_one_f32, ← outT_apply]
  rfl

theorem prodT_apply (b : Fin 256) (n : Fin 4096) (k : Fin 12) : prodT X w1 b1 w2 b2 (ix3 b n k) = X (ix3 b n k) * gate X w1 b1 w2 b2 b k := by
  unfold prodT
  rw [mulf_apply, broadcastInDim_apply _ _ _ _ (ix3 b 0 k) (fun a => by match a with | 0 => rfl | 1 => rfl | 2 => rfl),
    broadcastInDim_apply _ _ _ _ (ix2 b k) (fun a => by match a with | 0 => rfl | 1 => rfl), gateT_apply]

theorem divT_apply (b : Fin 256) (n : Fin 4096) : divT X w1 b1 w2 b2 (ix3 b n 0) = divisor X w1 b1 w2 b2 b n := by
  unfold divT divisor
  rw [addf_apply, broadcastInDim_scalar_apply, constant_apply, broadcastInDim_apply _ _ _ _ (ix2 b n) (fun a => by match a with | 0 => rfl | 1 => rfl),
    hostReduceAdd_apply, Ideal.hostReduceAdd_single _ reduces_slots]
  refine congrArg (· + _) ?_
  show Ideal.ofBits .f32 0x00000000#32 + _ = _
  rw [Ideal.ofBits_zero_f32, zero_add]
  refine Finset.sum_congr rfl fun k _ => ?_
  refine Eq.trans ?_ (prodT_apply X w1 b1 w2 b2 b n k)
  refine congrArg (prodT X w1 b1 w2 b2) (funext fun a => Fin.ext ?_)
  match a with
  | 0 => rfl
  | 1 => rfl
  | 2 => rfl

/-! ## The results -/

theorem slots_apply (Z : S256x12x64.Idx → EReal) (b : Fin 256) (k : Fin 12) (j : Fin 64) :
    mulf (F := Ideal) (φ := .f32) Z (broadcastInDim S256x12x64 ![0, 1, 2] bcast_S256x12x1_S256x12x64_0_1_2 (broadcastInDim S256x12x1 ![0, 1] bcast_S256x12_S256x12x1_0_1 (gateT X w1 b1 w2 b2))) (ix3 b k j)
      = Z (ix3 b k j) * gate X w1 b1 w2 b2 b k := by
  rw [mulf_apply, broadcastInDim_apply _ _ _ _ (ix3 b k 0) (fun a => by match a with | 0 => rfl | 1 => rfl | 2 => rfl),
    broadcastInDim_apply _ _ _ _ (ix2 b k) (fun a => by match a with | 0 => rfl | 1 => rfl), gateT_apply]

theorem masks_apply (b : Fin 256) (n : Fin 4096) (k : Fin 12) :
    Host.divf (prodT X w1 b1 w2 b2) (broadcastInDim S256x4096x12 ![0, 1, 2] bcast_S256x4096x1_S256x4096x12_0_1_2 (divT X w1 b1 w2 b2)) (ix3 b n k)
      = scaled X w1 b1 w2 b2 b n k := by
  unfold scaled
  rw [hostDivf_apply, prodT_apply, broadcastInDim_apply _ _ _ _ (ix3 b n 0) (fun a => by match a with | 0 => rfl | 1 => rfl | 2 => rfl), divT_apply]

/-- The precondition, read: no divisor is zero. -/
theorem divisor_ne [Cert.Pre_divisor_not_zero.Facts] (Z : S256x12x64.Idx → EReal)
    (h : Cert.Pre_divisor_not_zero.fn (F := Ideal) Z X w1 b1 w2 b2 = fun _ => 1#1) (b : Fin 256) (n : Fin 4096) : divisor X w1 b1 w2 b2 b n ≠ 0 := by
  have h' : Ideal.cmp .une (divT X w1 b1 w2 b2 (ix3 b n 0)) (broadcastInDim S256x4096x1 ![] bcast_S_S256x4096x1 (constant (F := Ideal) S_ .f32 0x00000000#32) (ix3 b n 0)) = 1#1 :=
    congrFun h (ix3 b n 0)
  rw [divT_apply, broadcastInDim_scalar_apply, constant_apply, Ideal.ofBits_zero_f32] at h'
  intro e
  rw [e] at h'
  simp [Ideal.cmp] at h'

end Cert.ReferenceIdeal.Plain

end
-- ==== Proof.Sums.lean ====
/-
  Facts on the extended reals alone: sums taken in another order, a sum taken strip by strip, and multiplication by one
  part in 4096.
-/
module

public import Idealize.ShloMosaic.Lib.IdealHost

@[expose] public section

noncomputable section

namespace Cert.Sums

open Idealize.ShloMosaic
open scoped BigOperators

/-- Sixteen terms added one after the other onto a first. -/
theorem sixteen (a : EReal) (T : Fin 16 → EReal) :
    a + T 0 + T 1 + T 2 + T 3 + T 4 + T 5 + T 6 + T 7 + T 8 + T 9 + T 10 + T 11 + T 12 + T 13 + T 14 + T 15 = (∑ h, T h) + a := by
  rw [add_comm (∑ h, T h) a]
  simp only [Fin.sum_univ_castSucc, Fin.sum_univ_zero, zero_add, ← add_assoc]
  rfl

/-- Twelve terms added as a tree. -/
theorem twelve (z : Fin 12 → EReal) :
    (((z 0 + z 1) + (z 2 + z 3)) + ((z 4 + z 5) + (z 6 + z 7))) + ((z 8 + z 9) + (z 10 + z 11)) = ∑ k, z k := by
  simp only [Fin.sum_univ_castSucc, Fin.sum_univ_zero, zero_add, ← add_assoc]
  rfl

/-- A row added lane by lane over its 256 strips of sixteen, then over the lanes. -/
theorem strips (y : Fin 4096 → EReal) : ∑ j : Fin 16, ∑ i : Fin 256, y (Fin.ofNat 4096 (16 * i.val + j.val)) = ∑ c, y c := by
  rw [Finset.sum_comm, ← Fintype.sum_prod_type']
  refine Fintype.sum_equiv (finProdFinEquiv : Fin 256 × Fin 16 ≃ Fin 4096) _ _ fun x => congrArg y (Fin.ext ?_)
  have h1 := x.1.isLt
  have h2 := x.2.isLt
  show (16 * x.1.val + x.2.val) % 4096 = x.2.val + 16 * x.1.val
  omega

theorem word_4096 : Ideal.ofBits .f32 0x45800000#32 = ((4096 : ℝ) : EReal) := by
  simp [Ideal.ofBits, Ideal.ieee, -EReal.coe_mul]; norm_num

theorem word_part : Ideal.ofBits .f32 0x39800000#32 = ((1 / 4096 : ℝ) : EReal) := by
  simp [Ideal.ofBits, Ideal.ieee, -EReal.coe_mul]; norm_num

/-- Multiplying by one part in 4096 is dividing by 4096. -/
theorem mul_part (x : EReal) : x * Ideal.ofBits .f32 0x39800000#32 = Ideal.div x (Ideal.ofBits .f32 0x45800000#32) := by
  rw [word_4096, word_part]
  unfold Ideal.div
  rw [if_neg (by rw [← EReal.coe_zero, EReal.coe_eq_coe_iff]; norm_num), ← EReal.coe_inv]
  norm_num

end Cert.Sums

end
-- ==== Proof.Value.lean ====
/-
  The tiles' values over the extended reals: a row's total is its sum, the gates are the network's, a scaled mask's
  element is the element over its divisor; and, the parameters unpacked and the masks transposed back, the two results
  are the reference's.
-/
module

public import proofs.«01_k».proof.Proof.Main
public import proofs.«01_k».proof.Proof.RefValue
public import proofs.«01_k».proof.Proof.Sums

@[expose] public section

noncomputable section

namespace Cert.KernelIdeal.Tile

open Cert.KernelIdeal Cert.KernelIdeal.Gen
open Idealize.ShloMosaic hiding ix1 ix2 ix3 eq_ix1 eq_ix2 eq_ix3
open Idealize.ShloMosaic.ValueIdx
open Cert.ReferenceIdeal (Plain.mean Plain.hidden Plain.gate Plain.divisor Plain.scaled)
open scoped BigOperators

/-! ## Sums -/

theorem zeros_apply (j : S16.Idx) : zeros (F := Ideal) j = (0 : EReal) := Ideal.ofBits_zero_f32

theorem stripSum_apply (y : Fin 4096 → EReal) (m : ℕ) (l : Fin 16) :
    stripSum (F := Ideal) y m (ixL l) = ∑ i : Fin m, y (Fin.ofNat 4096 (16 * i.val + l.val)) := by
  induction m with
  | zero => exact zeros_apply (ixL l)
  | succ m ih =>
    rw [Fin.sum_univ_castSucc]
    exact congrArg (· + y (Fin.ofNat 4096 (16 * m + l.val))) ih

theorem colSum_apply (A : Fin 16 → FVec Ideal S16 .f32) (n : ℕ) (l : Fin 16) :
    colSum A n (ixL l) = (∑ j : Fin n, A l (ixL (Fin.ofNat 16 j.val)) : EReal) := by
  induction n with
  | zero => exact zeros_apply (ixL l)
  | succ n ih =>
    rw [Fin.sum_univ_castSucc]
    exact congrArg (fun z : EReal => z + A l (ixL (Fin.ofNat 16 n))) ih

/-- A mask's number as a lane. -/
abbrev laneOf (k : Fin 12) : Fin 16 := ⟨k.val, by omega⟩

theorem totals_apply (M : Masks Ideal) (b : Fin 256) (k : Fin 12) : totals M b (ixL (laneOf k)) = (∑ c : Fin 4096, M (ixH k b c) : EReal) := by
  unfold totals
  rw [colSum_apply]
  refine Eq.trans (Finset.sum_congr rfl fun j _ => ?_) (Cert.Sums.strips (bRow M b k))
  have e : (accAt (fun k => stripSum (bRow M b k) 256) (laneOf k) : FVec Ideal S16 .f32) = stripSum (bRow M b k) 256 := dif_pos k.isLt
  rw [e, stripSum_apply]
  have hj : (Fin.ofNat 16 j.val).val = j.val := Nat.mod_eq_of_lt j.isLt
  rw [hj]

/-! ## The network -/

/-- What hidden unit `h` gives the output. -/
def unitVal (P : Params Ideal) (u : EReal) (h : Fin 16) : EReal := max (u * P.w1 (ixL h) + P.b1 (ixL h)) 0 * P.w2 (ixL h)

theorem unit1_apply (P : Params Ideal) (u : FVec Ideal S16 .f32) (j : ℕ) (h : S16.Slices ![j] S1) (hj : j < 16) (acc : FVec Ideal S16 .f32) (l : S16.Idx) :
    unit1 P u j h acc l = (acc l + unitVal P (u l) ⟨j, hj⟩ : EReal) := by
  unfold unit1
  rw [lane_eq _ j h hj, lane_eq _ j h hj, lane_eq _ j h hj]
  show (acc l + max (u l * P.w1 (ixL ⟨j, hj⟩) + P.b1 (ixL ⟨j, hj⟩)) (zeros (F := Ideal) l) * P.w2 (ixL ⟨j, hj⟩) : EReal) = _
  rw [zeros_apply]
  rfl

theorem logit_apply (P : Params Ideal) (u : FVec Ideal S16 .f32) (l : S16.Idx) :
    logit P u l = ((∑ h : Fin 16, unitVal P (u l) h) + P.b2 (ixL 0) : EReal) := by
  unfold logit
  rw [unit1_apply P u 15 _ (by decide), unit1_apply P u 14 _ (by decide), unit1_apply P u 13 _ (by decide), unit1_apply P u 12 _ (by decide),
    unit1_apply P u 11 _ (by decide), unit1_apply P u 10 _ (by decide), unit1_apply P u 9 _ (by decide), unit1_apply P u 8 _ (by decide),
    unit1_apply P u 7 _ (by decide), unit1_apply P u 6 _ (by decide), unit1_apply P u 5 _ (by decide), unit1_apply P u 4 _ (by decide),
    unit1_apply P u 3 _ (by decide), unit1_apply P u 2 _ (by decide), unit1_apply P u 1 _ (by decide), unit1_apply P u 0 _ (by decide)]
  have e : addf zeros (broadcast S16 (lane P.b2 0 slices_S16_o0_S1)) l = (P.b2 (ixL 0) : EReal) := by
    rw [lane_eq _ 0 _ (by decide)]
    show (zeros (F := Ideal) l + P.b2 (ixL 0) : EReal) = _
    rw [zeros_apply, zero_add]
  rw [e]
  exact Cert.Sums.sixteen (P.b2 (ixL 0)) (unitVal P (u l))

theorem gate_apply (P : Params Ideal) (uv : FVec Ideal S16 .f32) (l : S16.Idx) :
    gate P uv l = Ideal.div 1 (1 + Ideal.exp (-((∑ h : Fin 16, unitVal P (Ideal.div (uv l) (Ideal.ofBits .f32 0x45800000#32)) h) + P.b2 (ixL 0)))) := by
  unfold gate
  show Ideal.div (Ideal.ofBits .f32 0x3f800000#32) (Ideal.ofBits .f32 0x3f800000#32 + Ideal.exp ((zeros (F := Ideal) l : EReal) - logit P (mulf uv (broadcast S16 (Scalar.ofBits .f32 0x39800000#32))) l)) = _
  rw [logit_apply, zeros_apply, Ideal.ofBits_one_f32, zero_sub]
  refine congrArg (fun z : EReal => Ideal.div 1 (1 + Ideal.exp (-((∑ h : Fin 16, unitVal P z h) + P.b2 (ixL 0))))) ?_
  exact Cert.Sums.mul_part (uv l)

/-! ## A scaled mask's element -/

theorem pmVal_apply (y G : Fin 12 → EReal) (k : Fin 12) :
    pmVal (F := Ideal) y G k = y k * G k * Ideal.div 1 ((∑ i, y i * G i) + Ideal.ofBits .f32 0x322BCC77#32) := by
  rw [← Cert.Sums.twelve fun i => y i * G i, ← Ideal.ofBits_one_f32]
  rfl

/-! ## The operands -/

section
variable (X : S256x4096x12.Idx → EReal) (w1 : S1x16.Idx → EReal) (b1 : S16.Idx → EReal) (w2 : S16x1.Idx → EReal) (b2 : S1.Idx → EReal)

theorem masksT_apply (b : Fin 256) (n : Fin 4096) (k : Fin 12) : masksT (F := Ideal) X (ixH k b n) = X (ix3 b n k) :=
  transpose_apply _ _ _ _ _ fun a => by
    match a with
    | 0 => rfl
    | 1 => rfl
    | 2 => rfl

/-- The packed parameters lie side by side: -/
abbrev parts : List ((s : Shape) × (s.Idx → EReal)) :=
  [⟨S16, shapeCast S16 w1 shapeCasts_S1x16_S16⟩, ⟨S16, b1⟩, ⟨S16, shapeCast S16 w2 shapeCasts_S16x1_S16⟩, ⟨S1, b2⟩,
    ⟨S15, broadcastInDim S15 ![] bcast_S_S15 (constant (F := Ideal) S_ .f32 0x00000000#32)⟩]

theorem packed_apply (j : Fin 64) : packed (F := Ideal) w1 b1 w2 b2 (ixP j)
    = concatenate S64 0 (parts w1 b1 w2 b2) concatenates_S16_S16_S16_S1_S15_S64_d0 (ix1 j) := by
  unfold packed
  exact shapeCast_apply _ _ _ _ ((Shape.rowMajor_val_one _).trans ((Shape.rowMajor_val_two _).trans (by show 0 * 64 + j.val = j.val; omega)).symm)

/-- element `i` of piece `p` lies as far behind the piece's start. -/
theorem part_apply (p : ℕ) (hp : p < 5) (n : ℕ) (x : (⟨1, ![n]⟩ : Shape).Idx → EReal) (hx : (parts w1 b1 w2 b2)[p]'hp = ⟨⟨1, ![n]⟩, x⟩) (pre : ℕ)
    (hpre : ((((parts w1 b1 w2 b2).take p).map (·.1)).map fun s => if h : s.rank = S64.rank then s.size ((0 : Fin S64.rank).cast h.symm) else 0).sum = pre)
    (i : Fin n) (hi : pre + i.val < 64) : packed (F := Ideal) w1 b1 w2 b2 (ixP ⟨pre + i.val, hi⟩) = x (ix1 i) :=
  (packed_apply w1 b1 w2 b2 _).trans
    (concatenate_apply_piece (t := S64) 0 (parts w1 b1 w2 b2) concatenates_S16_S16_S16_S1_S15_S64_d0 (ix1 ⟨pre + i.val, hi⟩) p hp ⟨1, ![n]⟩ x hx rfl pre hpre
      (ix1 i) (fun _ hb => absurd (Subsingleton.elim _ _) hb) rfl)

theorem packed_w1 (h : Fin 16) : (paramsOf (F := Ideal) (packed w1 b1 w2 b2)).w1 (ixL h) = w1 (ix2 0 h) := by
  have e : (⟨h.val, by omega⟩ : Fin 64) = ⟨0 + h.val, by omega⟩ := Fin.ext (Nat.zero_add h.val).symm
  refine Eq.trans (congrArg (fun j => packed (F := Ideal) w1 b1 w2 b2 (ixP j)) e) ?_
  refine (part_apply w1 b1 w2 b2 0 (by decide) 16 (shapeCast S16 w1 shapeCasts_S1x16_S16) rfl 0 rfl h (by omega)).trans ?_
  exact shapeCast_apply _ _ _ _ ((Shape.rowMajor_val_two _).trans ((Shape.rowMajor_val_one _).trans (by show h.val = 0 * 16 + h.val; omega)).symm)

theorem packed_b1 (h : Fin 16) : (paramsOf (F := Ideal) (packed w1 b1 w2 b2)).b1 (ixL h) = b1 (ix1 h) :=
  part_apply w1 b1 w2 b2 1 (by decide) 16 b1 rfl 16 rfl h (by omega)

theorem packed_w2 (h : Fin 16) : (paramsOf (F := Ideal) (packed w1 b1 w2 b2)).w2 (ixL h) = w2 (ix2 h 0) := by
  refine (part_apply w1 b1 w2 b2 2 (by decide) 16 (shapeCast S16 w2 shapeCasts_S16x1_S16) rfl 32 rfl h (by omega)).trans ?_
  exact shapeCast_apply _ _ _ _ ((Shape.rowMajor_val_two _).trans ((Shape.rowMajor_val_one _).trans (by show h.val = h.val * 1 + 0; omega)).symm)

theorem packed_b2 : (paramsOf (F := Ideal) (packed w1 b1 w2 b2)).b2 (ixL 0) = b2 (ix1 0) := by
  have e : (⟨48, by decide⟩ : Fin 64) = ⟨48 + (0 : Fin 1).val, by decide⟩ := rfl
  refine Eq.trans (congrArg (fun j => packed (F := Ideal) w1 b1 w2 b2 (ixP j)) e) ?_
  exact part_apply w1 b1 w2 b2 3 (by decide) 1 b2 rfl 48 rfl 0 (by decide)

/-- The tiles' gates are the network's. -/
theorem gatesV_apply (b : Fin 256) (k : Fin 12) :
    gatesV (F := Ideal) (masksT X) (packed w1 b1 w2 b2) b (ixL (laneOf k)) = Plain.gate X w1 b1 w2 b2 b k := by
  unfold gatesV Plain.gate Plain.mean
  rw [gate_apply, totals_apply, packed_b2]
  simp only [masksT_apply]
  refine congrArg (fun z : EReal => Ideal.div 1 (1 + Ideal.exp (-(z + b2 (ix1 0))))) (Finset.sum_congr rfl fun h _ => ?_)
  unfold unitVal Plain.hidden
  rw [packed_w1, packed_b1, packed_w2]

/-- A scaled mask's element, where its divisor is not zero. -/
theorem pmOut_apply (b : Fin 256) (n : Fin 4096) (k : Fin 12) (hD : Plain.divisor X w1 b1 w2 b2 b n ≠ 0) :
    pmOut (F := Ideal) (masksT X) (packed w1 b1 w2 b2) (ixH k b n) = Plain.scaled X w1 b1 w2 b2 b n k := by
  unfold pmOut
  refine (pmVal_apply (fun i => masksT (F := Ideal) X (ixH i b n)) (lane12 (gatesV (F := Ideal) (masksT X) (packed w1 b1 w2 b2) b)) k).trans ?_
  have hG : ∀ i, lane12 (gatesV (F := Ideal) (masksT X) (packed w1 b1 w2 b2) b) i = Plain.gate X w1 b1 w2 b2 b i := gatesV_apply X w1 b1 w2 b2 b
  simp only [hG, masksT_apply]
  exact Ideal.mul_one_div hD

/-- A gate spread over its slot's lanes. -/
theorem spread_apply (G : S256x16.Idx → EReal) (b : Fin 256) (k : Fin 12) (j : Fin 64) : spread (F := Ideal) G (ix3 b k j) = G (ixO b (laneOf k)) := by
  unfold spread
  rw [shapeCast_self]
  refine (broadcastTo_apply _ _ _ (ix3 b k 0) fun a => by match a with | 0 => rfl | 1 => rfl | 2 => rfl).trans ?_
  refine (shapeCast_apply _ _ _ (ix2 b k) ((Shape.rowMajor_val_two _).trans ((Shape.rowMajor_val_three _).trans (by show (b.val * 12 + k.val) * 1 + 0 = b.val * 12 + k.val; omega)).symm)).trans ?_
  exact extractStridedSlice_apply _ _ _ _ _ fun a => by
    match a with
    | 0 => exact (Nat.zero_add _).symm
    | 1 => exact (Nat.zero_add _).symm

end

/-! ## The results -/

section
variable (m : (ℓ : Loc nD τ sig) → Buf (Elt Ideal) ℓ) (d : Dev nD)

abbrev arg0 : S256x12x64.Idx → EReal := m ((d.tc : Thread nD τ).loc main_arg0)
abbrev arg1 : S256x4096x12.Idx → EReal := m ((d.tc : Thread nD τ).loc main_arg1)
abbrev arg2 : S1x16.Idx → EReal := m ((d.tc : Thread nD τ).loc main_arg2)
abbrev arg3 : S16.Idx → EReal := m ((d.tc : Thread nD τ).loc main_arg3)
abbrev arg4 : S16x1.Idx → EReal := m ((d.tc : Thread nD τ).loc main_arg4)
abbrev arg5 : S1.Idx → EReal := m ((d.tc : Thread nD τ).loc main_arg5)

/-- The slots' result, -/
theorem psRes_apply (b : Fin 256) (k : Fin 12) (j : Fin 64) :
    psRes m d (ix3 b k j) = (arg0 m d (ix3 b k j) * Plain.gate (arg1 m d) (arg2 m d) (arg3 m d) (arg4 m d) (arg5 m d) b k : EReal) := by
  rw [← gatesV_apply]
  exact congrArg (fun z : EReal => arg0 m d (ix3 b k j) * z) (spread_apply (gOut (F := Ideal) (Mv m d) (Pv m d)) b k j)

/-- and the masks'. -/
theorem pmRes_apply (b : Fin 256) (n : Fin 4096) (k : Fin 12) (hD : Plain.divisor (arg1 m d) (arg2 m d) (arg3 m d) (arg4 m d) (arg5 m d) b n ≠ 0) :
    pmRes m d (ix3 b n k) = Plain.scaled (arg1 m d) (arg2 m d) (arg3 m d) (arg4 m d) (arg5 m d) b n k := by
  unfold pmRes
  refine (transpose_apply _ _ _ _ (ixH k b n) fun a => by match a with | 0 => rfl | 1 => rfl | 2 => rfl).trans ?_
  exact pmOut_apply (arg1 m d) (arg2 m d) (arg3 m d) (arg4 m d) (arg5 m d) b n k hD

end

end Cert.KernelIdeal.Tile

end
-- ==== Proof.Same.lean ====
/-
  The two programs' results are equal: from memories that agree on the arguments, and where no divisor is zero, the kernel
  and the reference end with the same scaled slots and the same scaled masks.
-/
module

public import proofs.«01_k».proof.Defs
public import proofs.«01_k».proof.Proof.Gen.Pre_divisor_not_zero
public import proofs.«01_k».proof.Proof.Value

@[expose] public section

noncomputable section

namespace Cert.Proof

open Cert.KernelIdeal Cert.KernelIdeal.Gen Cert.KernelIdeal.Tile
open Idealize.ShloMosaic hiding ix1 ix2 ix3 eq_ix1 eq_ix2 eq_ix3
open Idealize.ShloMosaic.ValueIdx Idealize.SL.Sem
open Cert.ReferenceIdeal (Plain.gateT Plain.prodT Plain.divT Plain.divisor Plain.slots_apply Plain.masks_apply Plain.divisor_ne)

variable (m : (ℓ : Loc nD τ sig) → Buf (Elt Ideal) ℓ) (d : Dev nD)
variable (Z : S256x12x64.Idx → EReal) (X : S256x4096x12.Idx → EReal) (w1 : S1x16.Idx → EReal) (b1 : S16.Idx → EReal) (w2 : S16x1.Idx → EReal) (b2 : S1.Idx → EReal)

/-- The reference's scaled slots are the kernel's. -/
theorem slots_same (e0 : Z = arg0 m d) (e1 : X = arg1 m d) (e2 : w1 = arg2 m d) (e3 : b1 = arg3 m d) (e4 : w2 = arg4 m d) (e5 : b2 = arg5 m d) :
    mulf (F := Ideal) (φ := .f32) Z (broadcastInDim S256x12x64 ![0, 1, 2] Cert.ReferenceIdeal.Gen.bcast_S256x12x1_S256x12x64_0_1_2
      (broadcastInDim S256x12x1 ![0, 1] Cert.ReferenceIdeal.Gen.bcast_S256x12_S256x12x1_0_1 (Plain.gateT X w1 b1 w2 b2))) = psRes m d := by
  subst e0 e1 e2 e3 e4 e5
  funext x
  obtain ⟨b, k, j, rfl⟩ : ∃ (b : Fin 256) (k : Fin 12) (j : Fin 64), x = ix3 b k j := ⟨x 0, x 1, x 2, eq_ix3 x⟩
  exact (Plain.slots_apply _ _ _ _ _ _ b k j).trans (psRes_apply m d b k j).symm

/-- The reference's scaled masks are the kernel's. -/
theorem masks_same (e1 : X = arg1 m d) (e2 : w1 = arg2 m d) (e3 : b1 = arg3 m d) (e4 : w2 = arg4 m d) (e5 : b2 = arg5 m d)
    (hD : ∀ b n, Plain.divisor (arg1 m d) (arg2 m d) (arg3 m d) (arg4 m d) (arg5 m d) b n ≠ 0) :
    Host.divf (Plain.prodT X w1 b1 w2 b2) (broadcastInDim S256x4096x12 ![0, 1, 2] Cert.ReferenceIdeal.Gen.bcast_S256x4096x1_S256x4096x12_0_1_2 (Plain.divT X w1 b1 w2 b2)) = pmRes m d := by
  subst e1 e2 e3 e4 e5
  funext x
  obtain ⟨b, n, k, rfl⟩ : ∃ (b : Fin 256) (n : Fin 4096) (k : Fin 12), x = ix3 b n k := ⟨x 0, x 1, x 2, eq_ix3 x⟩
  exact (Plain.masks_apply _ _ _ _ _ b n k).trans (pmRes_apply m d b n k (hD b n)).symm

theorem same : Cert.algebraic_KernelIdeal_ReferenceIdeal_pre_divisor_not_zero := fun m g m' g' pre agree =>
  ⟨psRes m, pmRes m,
    (θ_run Cert.KernelIdeal.defs _ _).mono
      (fun _ h c => ⟨(h.1 c).2.2.2.2.2.2.1, (h.1 c).2.2.2.2.2.2.2, (h.1 c).1, (h.1 c).2.1, (h.1 c).2.2.1, (h.1 c).2.2.2.1, (h.1 c).2.2.2.2.1, (h.1 c).2.2.2.2.2.1⟩)
      (run_main (F := Ideal) m g),
    (θ_run Cert.ReferenceIdeal.defs _ _).mono
      (fun _ h c =>
        ⟨(h c).1.trans (slots_same m c _ _ _ _ _ _ (agree c).1 (agree c).2.1 (agree c).2.2.1 (agree c).2.2.2.1 (agree c).2.2.2.2.1 (agree c).2.2.2.2.2),
          (h c).2.1.trans (masks_same m c _ _ _ _ _ (agree c).2.1 (agree c).2.2.1 (agree c).2.2.2.1 (agree c).2.2.2.2.1 (agree c).2.2.2.2.2
            (Plain.divisor_ne _ _ _ _ _ _ (pre c))),
          (h c).2.2⟩)
      (Cert.ReferenceIdeal.Value.run m' g')⟩

end Cert.Proof

end
-- ==== Proof.lean ====
/-
  The certificate's claim, from its parts: the frames of the kernel's two readings, the frame of the reference, and the two
  programs' equal results.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_divisor_not_zero
public import proofs.«01_k».proof.Proof.Frames
public import proofs.«01_k».proof.Proof.Same

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_divisor_not_zero.Gen.facts,
    frame_kernel, frame_kernelIdeal, frame_kernelIdeal_pre, frame_referenceIdeal, frame_referenceIdeal_pre, trivial, same⟩

end Cert.Proof

end
